-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_moba [hPre_finite_moba : Cert.Pre_finite_moba.Facts] (m : (ℓ : Loc Cert.MobaIdeal.nD Cert.MobaIdeal.τ Cert.MobaIdeal.sig) → Buf (Elt Ideal) ℓ) : Prop :=
  ∀ c : Dev Cert.MobaIdeal.nD,
    (Cert.Pre_finite_moba.fn (F := Ideal) (m ((c.tc : Thread Cert.MobaIdeal.nD Cert.MobaIdeal.τ).loc Cert.MobaIdeal.main_arg0))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_moba [hPre_finite_moba : Cert.Pre_finite_moba.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_moba.fn (F := Ideal) (m ((c.tc : Thread Cert.MobaRefIdeal.nD Cert.MobaRefIdeal.τ).loc Cert.MobaRefIdeal.main_arg0))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gla [hPre_finite_gla : Cert.Pre_finite_gla.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gla [hPre_finite_gla : Cert.Pre_finite_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaIdeal_pre_finite_moba [hMobaIdeal : Cert.MobaIdeal.Facts] [hPre_finite_moba : Cert.Pre_finite_moba.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_moba m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_MobaRefIdeal_pre_finite_moba [hMobaRefIdeal : Cert.MobaRefIdeal.Facts] [hPre_finite_moba : Cert.Pre_finite_moba.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_moba m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaIdeal_pre_finite_gla [hGlaIdeal : Cert.GlaIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gla m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_GlaRefIdeal_pre_finite_gla [hGlaRefIdeal : Cert.GlaRefIdeal.Facts] [hPre_finite_gla : Cert.Pre_finite_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v46) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_v51) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Moba_MobaIdeal : Prop :=
  IdealRules.named_const.Statement Cert.MobaIdeal.κ "mask" .f32 0xF149F2CA#32 ⊥

def algebraic_MobaIdeal_MobaRefIdeal_pre_finite_moba [hMobaIdeal : Cert.MobaIdeal.Facts] [hMobaRefIdeal : Cert.MobaRefIdeal.Facts] [hPre_finite_moba : Cert.Pre_finite_moba.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_moba m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v78) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0))

def preserves_Gla_GlaIdeal : Prop :=
  True

def algebraic_GlaIdeal_GlaRefIdeal_pre_finite_gla [hGlaIdeal : Cert.GlaIdeal.Facts] [hGlaRefIdeal : Cert.GlaRefIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gla m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v0)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v0) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v58) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def Claim : Prop :=
  ∃ (hSwa : Cert.Swa.Facts) (hSwaIdeal : Cert.SwaIdeal.Facts) (hSwaRefIdeal : Cert.SwaRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMoba : Cert.Moba.Facts) (hMobaIdeal : Cert.MobaIdeal.Facts) (hMobaRefIdeal : Cert.MobaRefIdeal.Facts) (hGla : Cert.Gla.Facts) (hGlaIdeal : Cert.GlaIdeal.Facts) (hGlaRefIdeal : Cert.GlaRefIdeal.Facts) (hPre_finite_swa : Cert.Pre_finite_swa.Facts) (hPre_finite_moba : Cert.Pre_finite_moba.Facts) (hPre_finite_gla : Cert.Pre_finite_gla.Facts),
    quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Moba (hMoba := hMoba)
    ∧ quiescent_MobaIdeal (hMobaIdeal := hMobaIdeal)
    ∧ quiescent_MobaIdeal_pre_finite_moba (hMobaIdeal := hMobaIdeal) (hPre_finite_moba := hPre_finite_moba)
    ∧ quiescent_MobaRefIdeal (hMobaRefIdeal := hMobaRefIdeal)
    ∧ quiescent_MobaRefIdeal_pre_finite_moba (hMobaRefIdeal := hMobaRefIdeal) (hPre_finite_moba := hPre_finite_moba)
    ∧ quiescent_Gla (hGla := hGla)
    ∧ quiescent_GlaIdeal (hGlaIdeal := hGlaIdeal)
    ∧ quiescent_GlaIdeal_pre_finite_gla (hGlaIdeal := hGlaIdeal) (hPre_finite_gla := hPre_finite_gla)
    ∧ quiescent_GlaRefIdeal (hGlaRefIdeal := hGlaRefIdeal)
    ∧ quiescent_GlaRefIdeal_pre_finite_gla (hGlaRefIdeal := hGlaRefIdeal) (hPre_finite_gla := hPre_finite_gla)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Moba_MobaIdeal
    ∧ algebraic_MobaIdeal_MobaRefIdeal_pre_finite_moba (hMobaIdeal := hMobaIdeal) (hMobaRefIdeal := hMobaRefIdeal) (hPre_finite_moba := hPre_finite_moba)
    ∧ preserves_Gla_GlaIdeal
    ∧ algebraic_GlaIdeal_GlaRefIdeal_pre_finite_gla (hGlaIdeal := hGlaIdeal) (hGlaRefIdeal := hGlaRefIdeal) (hPre_finite_gla := hPre_finite_gla)
-- ==== Pre_finite_gla.lean ====
abbrev S8192x15872 : Shape := ⟨2, ![8192, 15872]⟩
abbrev S128x512 : Shape := ⟨2, ![128, 512]⟩
abbrev S1x512 : Shape := ⟨2, ![1, 512]⟩
abbrev S1x256 : Shape := ⟨2, ![1, 256]⟩
abbrev S8192x128 : Shape := ⟨2, ![8192, 128]⟩
abbrev S8192x512 : Shape := ⟨2, ![8192, 512]⟩
abbrev S8192x1x512 : Shape := ⟨3, ![8192, 1, 512]⟩
abbrev S_ : Shape := ⟨0, ![]⟩
abbrev S8192x1024 : Shape := ⟨2, ![8192, 1024]⟩
abbrev S8192x2x512 : Shape := ⟨3, ![8192, 2, 512]⟩

class Facts : Prop where
  bitsLt_bf16_f32 : FTy.bits .bf16 < FTy.bits .f32
  slices_S8192x15872_S8192x128_0_15616 : S8192x15872.Slices ![0, 15616] S8192x128
  bcast_S1x512_S8192x512_0_1 : S1x512.BroadcastsInDim S8192x512 (![0, 1] : Fin 2 → Fin S8192x512.rank)
  slices_S8192x15872_S8192x512_0_14336 : S8192x15872.Slices ![0, 14336] S8192x512
  shapeCasts_S8192x512_S8192x1x512 : S8192x512.ShapeCasts S8192x1x512
  bcast_S_S8192x1x512 : S_.BroadcastsInDim S8192x1x512 (![] : Fin 0 → Fin S8192x1x512.rank)
  slices_S8192x15872_S8192x512_0_14848 : S8192x15872.Slices ![0, 14848] S8192x512
  slices_S8192x15872_S8192x1024_0_6144 : S8192x15872.Slices ![0, 6144] S8192x1024
  shapeCasts_S8192x1024_S8192x2x512 : S8192x1024.ShapeCasts S8192x2x512
  bcast_S_S8192x2x512 : S_.BroadcastsInDim S8192x2x512 (![] : Fin 0 → Fin S8192x2x512.rank)
  bcast_S8192x1x512_S8192x2x512_0_1_2 : S8192x1x512.BroadcastsInDim S8192x2x512 (![0, 1, 2] : Fin 3 → Fin S8192x2x512.rank)
  dot_S8192x128_S128x512_S8192x512_1_0_0_1_n_n_wf : DotDims.WF S8192x128 S128x512 S8192x512 [1] [0] [0] [1] [] []

variable [Facts]

def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def fn_part1 {F : FTy → Type} [FloatOps F] (main_v0 : FVec F S8192x15872 .f32) (main_v16 : IVec S8192x1x512 1) (main_v20 : IVec S8192x1x512 1) : IVec S8192x2x512 1 :=
  let main_v21 : IVec S8192x1x512 1 := andi main_v16 main_v20
  let main_v22 : FVec F S8192x1024 .f32 := (extractStridedSlice S8192x1024 ![0, 6144] · slices_S8192x15872_S8192x1024_0_6144) main_v0
  let main_v23 : FVec F S8192x2x512 .f32 := shapeCast S8192x2x512 main_v22 shapeCasts_S8192x1024_S8192x2x512
  let main_v24 : FVec F S8192x2x512 .f32 := Host.absf main_v23
  let main_cst_2 : FVec F S_ .f32 := constant S_ .f32 0x7F800000#32
  let main_v25 : FVec F S8192x2x512 .f32 := broadcastInDim S8192x2x512 ![] bcast_S_S8192x2x512 main_cst_2
  let main_v26 : IVec S8192x2x512 1 := cmpf .olt main_v24 main_v25
  let main_v27 : IVec S8192x2x512 1 := broadcastInDim S8192x2x512 ![0, 1, 2] bcast_S8192x1x512_S8192x2x512_0_1_2 main_v21
  let main_v28 : IVec S8192x2x512 1 := andi main_v27 main_v26
  main_v28

def fn {F : FTy → Type} [FloatOps F] (main_arg0 : FVec F S8192x15872 .bf16) (main_arg1 : FVec F S128x512 .bf16) (main_arg2 : FVec F S1x512 .f32) (main_arg3 : FVec F S1x256 .f32) : IVec S8192x2x512 1 :=
  let main_v0 : FVec F S8192x15872 .f32 := (extf .f32 · bitsLt_bf16_f32) main_arg0
  let main_v1 : FVec F S8192x128 .f32 := (extractStridedSlice S8192x128 ![0, 15616] · slices_S8192x15872_S8192x128_0_15616) main_v0
  let main_v2 : FVec F S128x512 .f32 := (extf .f32 · bitsLt_bf16_f32) main_arg1
  let main_v3 : FVec F S8192x512 .f32 := (fun l r => Host.dotGeneral dot_S8192x128_S128x512_S8192x512_1_0_0_1_n_n none l r) main_v1 main_v2
  let main_v4 : FVec F S8192x512 .f32 := broadcastInDim S8192x512 ![0, 1] bcast_S1x512_S8192x512_0_1 main_arg2
  let main_v5 : FVec F S8192x512 .f32 := addf main_v3 main_v4
  let main_v6 : FVec F S8192x512 .f32 := (extractStridedSlice S8192x512 ![0, 14336] · slices_S8192x15872_S8192x512_0_14336) main_v0
  let main_v7 : FVec F S8192x1x512 .f32 := shapeCast S8192x1x512 main_v6 shapeCasts_S8192x512_S8192x1x512
  let main_v8 : FVec F S8192x1x512 .f32 := Host.absf main_v7
  let main_cst : FVec F S_ .f32 := constant S_ .f32 0x7F800000#32
  let main_v9 : FVec F S8192x1x512 .f32 := broadcastInDim S8192x1x512 ![] bcast_S_S8192x1x512 main_cst
  let main_v10 : IVec S8192x1x512 1 := cmpf .olt main_v8 main_v9
  let main_v11 : FVec F S8192x512 .f32 := (extractStridedSlice S8192x512 ![0, 14848] · slices_S8192x15872_S8192x512_0_14848) main_v0
  let main_v12 : FVec F S8192x1x512 .f32 := shapeCast S8192x1x512 main_v11 shapeCasts_S8192x512_S8192x1x512
  let main_v13 : FVec F S8192x1x512 .f32 := Host.absf main_v12
  let main_cst_0 : FVec F S_ .f32 := constant S_ .f32 0x7F800000#32
  let main_v14 : FVec F S8192x1x512 .f32 := broadcastInDim S8192x1x512 ![] bcast_S_S8192x1x512 main_cst_0
  let main_v15 : IVec S8192x1x512 1 := cmpf .olt main_v13 main_v14
  let main_v16 : IVec S8192x1x512 1 := andi main_v10 main_v15
  let main_v17 : FVec F S8192x1x512 .f32 := shapeCast S8192x1x512 main_v5 shapeCasts_S8192x512_S8192x1x512
  let main_v18 : FVec F S8192x1x512 .f32 := Host.absf main_v17
  let main_cst_1 : FVec F S_ .f32 := constant S_ .f32 0x7F800000#32
  let main_v19 : FVec F S8192x1x512 .f32 := broadcastInDim S8192x1x512 ![] bcast_S_S8192x1x512 main_cst_1
  let main_v20 : IVec S8192x1x512 1 := cmpf .olt main_v18 main_v19
  fn_part1 (F := F) main_v0 main_v16 main_v20
-- ==== Pre_finite_moba.lean ====
abbrev S8192x15872 : Shape := ⟨2, ![8192, 15872]⟩
abbrev S8192x2048 : Shape := ⟨2, ![8192, 2048]⟩
abbrev S_ : Shape := ⟨0, ![]⟩

class Facts : Prop where
  slices_S8192x15872_S8192x2048_0_10240 : S8192x15872.Slices ![0, 10240] S8192x2048
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x15872 .bf16) : IVec S8192x2048 1 :=
  let main_v0 : FVec F S8192x2048 .bf16 := (extractStridedSlice S8192x2048 ![0, 10240] · slices_S8192x15872_S8192x2048_0_10240) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  main_v4
-- ==== Pre_finite_swa.lean ====
abbrev S8192x15872 : Shape := ⟨2, ![8192, 15872]⟩
abbrev S16 : Shape := ⟨1, ![16]⟩
abbrev S8192x1024 : Shape := ⟨2, ![8192, 1024]⟩
abbrev S8192x2x8x64 : Shape := ⟨4, ![8192, 2, 8, 64]⟩
abbrev S8192x128 : Shape := ⟨2, ![8192, 128]⟩
abbrev S8192x2x1x64 : Shape := ⟨4, ![8192, 2, 1, 64]⟩
abbrev S1x2x8x1 : Shape := ⟨4, ![1, 2, 8, 1]⟩
abbrev S_ : Shape := ⟨0, ![]⟩

class Facts : Prop where
  slices_S8192x15872_S8192x1024_0_8192 : S8192x15872.Slices ![0, 8192] S8192x1024
  bitsLt_bf16_f32 : FTy.bits .bf16 < FTy.bits .f32
  shapeCasts_S8192x1024_S8192x2x8x64 : S8192x1024.ShapeCasts S8192x2x8x64
  slices_S8192x15872_S8192x128_0_15360 : S8192x15872.Slices ![0, 15360] S8192x128
  shapeCasts_S8192x128_S8192x2x1x64 : S8192x128.ShapeCasts S8192x2x1x64
  shapeCasts_S16_S1x2x8x1 : S16.ShapeCasts S1x2x8x1
  bcast_S_S8192x2x8x64 : S_.BroadcastsInDim S8192x2x8x64 (![] : Fin 0 → Fin S8192x2x8x64.rank)
  bcast_S_S8192x2x1x64 : S_.BroadcastsInDim S8192x2x1x64 (![] : Fin 0 → Fin S8192x2x1x64.rank)
  bcast_S8192x2x1x64_S8192x2x8x64_0_1_2_3 : S8192x2x1x64.BroadcastsInDim S8192x2x8x64 (![0, 1, 2, 3] : Fin 4 → Fin S8192x2x8x64.rank)
  bcast_S_S1x2x8x1 : S_.BroadcastsInDim S1x2x8x1 (![] : Fin 0 → Fin S1x2x8x1.rank)
  bcast_S1x2x8x1_S8192x2x8x64_0_1_2_3 : S1x2x8x1.BroadcastsInDim S8192x2x8x64 (![0, 1, 2, 3] : Fin 4 → Fin S8192x2x8x64.rank)

variable [Facts]

def fn {F : FTy → Type} [FloatOps F] (main_arg0 : FVec F S8192x15872 .bf16) (main_arg1 : FVec F S16 .f32) : IVec S8192x2x8x64 1 :=
  let main_v0 : FVec F S8192x1024 .bf16 := (extractStridedSlice S8192x1024 ![0, 8192] · slices_S8192x15872_S8192x1024_0_8192) main_arg0
  let main_v1 : FVec F S8192x1024 .f32 := (extf .f32 · bitsLt_bf16_f32) main_v0
  let main_v2 : FVec F S8192x2x8x64 .f32 := shapeCast S8192x2x8x64 main_v1 shapeCasts_S8192x1024_S8192x2x8x64
  let main_v3 : FVec F S8192x128 .bf16 := (extractStridedSlice S8192x128 ![0, 15360] · slices_S8192x15872_S8192x128_0_15360) main_arg0
  let main_v4 : FVec F S8192x128 .f32 := (extf .f32 · bitsLt_bf16_f32) main_v3
  let main_v5 : FVec F S8192x2x1x64 .f32 := shapeCast S8192x2x1x64 main_v4 shapeCasts_S8192x128_S8192x2x1x64
  let main_v6 : FVec F S1x2x8x1 .f32 := shapeCast S1x2x8x1 main_arg1 shapeCasts_S16_S1x2x8x1
  let main_v7 : FVec F S8192x2x8x64 .f32 := Host.absf main_v2
  let main_cst : FVec F S_ .f32 := constant S_ .f32 0x7F800000#32
  let main_v8 : FVec F S8192x2x8x64 .f32 := broadcastInDim S8192x2x8x64 ![] bcast_S_S8192x2x8x64 main_cst
  let main_v9 : IVec S8192x2x8x64 1 := cmpf .olt main_v7 main_v8
  let main_v10 : FVec F S8192x2x1x64 .f32 := Host.absf main_v5
  let main_cst_0 : FVec F S_ .f32 := constant S_ .f32 0x7F800000#32
  let main_v11 : FVec F S8192x2x1x64 .f32 := broadcastInDim S8192x2x1x64 ![] bcast_S_S8192x2x1x64 main_cst_0
  let main_v12 : IVec S8192x2x1x64 1 := cmpf .olt main_v10 main_v11
  let main_v13 : IVec S8192x2x8x64 1 := broadcastInDim S8192x2x8x64 ![0, 1, 2, 3] bcast_S8192x2x1x64_S8192x2x8x64_0_1_2_3 main_v12
  let main_v14 : IVec S8192x2x8x64 1 := andi main_v9 main_v13
  let main_v15 : FVec F S1x2x8x1 .f32 := Host.absf main_v6
  let main_cst_1 : FVec F S_ .f32 := constant S_ .f32 0x7F800000#32
  let main_v16 : FVec F S1x2x8x1 .f32 := broadcastInDim S1x2x8x1 ![] bcast_S_S1x2x8x1 main_cst_1
  let main_v17 : IVec S1x2x8x1 1 := cmpf .olt main_v15 main_v16
  let main_v18 : IVec S8192x2x8x64 1 := broadcastInDim S8192x2x8x64 ![0, 1, 2, 3] bcast_S1x2x8x1_S8192x2x8x64_0_1_2_3 main_v17
  let main_v19 : IVec S8192x2x8x64 1 := andi main_v14 main_v18
  main_v19
-- ==== Swa.lean ====
abbrev S8192x15872 : Shape := ⟨2, ![8192, 15872]⟩
abbrev S16 : Shape := ⟨1, ![16]⟩
abbrev S8192x1024 : Shape := ⟨2, ![8192, 1024]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 3
  | .vmem => 14
  | .smem => 1
  | _ => 0

abbrev bufTy : (tb : Table) → Fin (tcTables nBuf tb) → BufTy
  | .hbm, ⟨0, _⟩ => ⟨S8192x15872, .bf16⟩
  | .hbm, ⟨1, _⟩ => ⟨S16, .f32⟩
  | .hbm, ⟨2, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .smem, ⟨0, _⟩ => ⟨S16, .f32⟩
  | _, _ => ⟨S8192x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c120_i32 : BitVec 32 := 120#32
  let c0_i32_0 : BitVec 32 := 0#32
  ![v3.toNat, c120_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c120_i32 : BitVec 32 := 120#32
  let c0_i32 : BitVec 32 := 0#32
  ![v1.toNat, c120_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c121_i32 : BitVec 32 := 121#32
  let c0_i32_0 : BitVec 32 := 0#32
  ![v3.toNat, c121_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c121_i32 : BitVec 32 := 121#32
  let c0_i32 : BitVec 32 := 0#32
  ![v1.toNat, c121_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S8192x15872 : Shape := ⟨2, ![8192, 15872]⟩
abbrev S16 : Shape := ⟨1, ![16]⟩
abbrev S8192x1024 : Shape := ⟨2, ![8192, 1024]⟩
abbrev S2x4096x2x8x64 : Shape := ⟨5, ![2, 4096, 2, 8, 64]⟩
abbrev S8192x128 : Shape := ⟨2, ![8192, 128]⟩
abbrev S2x4096x2x64 : Shape := ⟨4, ![2, 4096, 2, 64]⟩
abbrev S2x2x4096x4096x8 : Shape := ⟨5, ![2, 2, 4096, 4096, 8]⟩
abbrev S2x2x8x4096x4096 : Shape := ⟨5, ![2, 2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x1x4096x4096 : Shape := ⟨5, ![1, 1, 1, 4096, 4096]⟩
abbrev S1x2x8x1x1 : Shape := ⟨5, ![1, 2, 8, 1, 1]⟩
abbrev S2x2x8x4096x1 : Shape := ⟨5, ![2, 2, 8, 4096, 1]⟩
abbrev S2x2x8x4096x4097 : Shape := ⟨5, ![2, 2, 8, 4096, 4097]⟩
abbrev S2x2x8x4096 : Shape := ⟨4, ![2, 2, 8, 4096]⟩
abbrev S2x2x64x8x4096 : Shape := ⟨5, ![2, 2, 64, 8, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8192x15872, .bf16⟩
  | .hbm, ⟨1, _⟩ => ⟨S16, .f32⟩
  | .hbm, ⟨2, _⟩ => ⟨S8192x15872, .f32⟩
  | .hbm, ⟨3, _⟩ => ⟨S8192x1024, .f32⟩
  | .hbm, ⟨4, _⟩ => ⟨S2x4096x2x8x64, .f32⟩
  | .hbm, ⟨5, _⟩ => ⟨S8192x128, .f32⟩
  | .hbm, ⟨6, _⟩ => ⟨S2x4096x2x64, .f32⟩
  | .hbm, ⟨7, _⟩ => ⟨S8192x128, .f32⟩
  | .hbm, ⟨8, _⟩ => ⟨S2x4096x2x64, .f32⟩
  | .hbm, ⟨9, _⟩ => ⟨S8192x1024, .f32⟩
  | .hbm, ⟨10, _⟩ => ⟨S2x2x4096x4096x8, .f32⟩
  | .hbm, ⟨11, _⟩ => ⟨S2x2x8x4096x4096, .f32⟩
  | .hbm, ⟨12, _⟩ => ⟨S_, .f32⟩
  | .hbm, ⟨13, _⟩ => ⟨S2x2x8x4096x4096, .f32⟩
  | .hbm, ⟨14, _⟩ => ⟨S2x2x8x4096x4096, .f32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .i32⟩
  | .hbm, ⟨26, _⟩ => ⟨S4096x4096, .i32⟩
  | .hbm, ⟨27, _⟩ => ⟨S4096x4096, .i1⟩
  | .hbm, ⟨28, _⟩ => ⟨S4096x4096, .i1⟩
  | .hbm, ⟨29, _⟩ => ⟨S1x1x1x4096x4096, .i1⟩
  | .hbm, ⟨30, _⟩ => ⟨S_, .f32⟩
  | .hbm, ⟨31, _⟩ => ⟨S_, .f32⟩
  | .hbm, ⟨32, _⟩ => ⟨S2x2x8x4096x4096, .i1⟩
  | .hbm, ⟨33, _⟩ => ⟨S2x2x8x4096x4096, .f32⟩
  | .hbm, ⟨34, _⟩ => ⟨S2x2x8x4096x4096, .f32⟩
  | .hbm, ⟨35, _⟩ => ⟨S1x2x8x1x1, .f32⟩
  | .hbm, ⟨36, _⟩ => ⟨S2x2x8x4096x1, .f32⟩
  | .hbm, ⟨37, _⟩ => ⟨S2x2x8x4096x4097, .f32⟩
  | .hbm, ⟨38, _⟩ => ⟨S_, .f32⟩
  | .hbm, ⟨39, _⟩ => ⟨S2x2x8x4096, .f32⟩
  | .hbm, ⟨40, _⟩ => ⟨S_, .f32⟩
  | .hbm, ⟨41, _⟩ => ⟨S2x2x8x4096, .f32⟩
  | .hbm, ⟨42, _⟩ => ⟨S2x2x8x4096, .f32⟩
  | .hbm, ⟨43, _⟩ => ⟨S2x2x8x4096x1, .f32⟩
  | .hbm, ⟨44, _⟩ => ⟨S2x2x8x4096x4097, .f32⟩
  | .hbm, ⟨45, _⟩ => ⟨S2x2x8x4096x4097, .f32⟩
  | .hbm, ⟨46, _⟩ => ⟨S2x2x8x4096x4097, .f32⟩
  | .hbm, ⟨47, _⟩ => ⟨S_, .f32⟩
  | .hbm, ⟨48, _⟩ => ⟨S2x2x8x4096, .f32⟩
  | .hbm, ⟨49, _⟩ => ⟨S2x2x8x4096x1, .f32⟩
  | .hbm, ⟨50, _⟩ => ⟨S2x2x8x4096x4097, .f32⟩
  | .hbm, ⟨51, _⟩ => ⟨S2x2x8x4096x4097, .f32⟩
  | .hbm, ⟨52, _⟩ => ⟨S2x2x8x4096x4096, .f32⟩
  | .hbm, ⟨53, _⟩ => ⟨S2x2x64x8x4096, .f32⟩
  | .hbm, ⟨54, _⟩ => ⟨S2x4096x2x8x64, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | _, _ => ⟨S8192x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proj.lean ====
abbrev S8192x2048 : Shape := ⟨2, ![8192, 2048]⟩
abbrev S2048x15872 : Shape := ⟨2, ![2048, 15872]⟩
abbrev S8192x15872 : Shape := ⟨2, ![8192, 15872]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .bf16⟩
  | .hbm, ⟨2, _⟩ => ⟨S8192x15872, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x2048 : Shape := ⟨2, ![8192, 2048]⟩
abbrev S2048x15872 : Shape := ⟨2, ![2048, 15872]⟩
abbrev S8192x15872 : Shape := ⟨2, ![8192, 15872]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .bf16⟩
  | .hbm, ⟨2, _⟩ => ⟨S8192x2048, .f32⟩
  | .hbm, ⟨3, _⟩ => ⟨S2048x15872, .f32⟩
  | .hbm, ⟨4, _⟩ => ⟨S8192x15872, .f32⟩
  | .hbm, ⟨5, _⟩ => ⟨S8192x15872, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8192x1024 : Shape := ⟨2, ![8192, 1024]⟩
abbrev S8192x15872 : Shape := ⟨2, ![8192, 15872]⟩
abbrev S8192x2048 : Shape := ⟨2, ![8192, 2048]⟩
abbrev S3x1024x2048 : Shape := ⟨3, ![3, 1024, 2048]⟩
abbrev S3x2048 : Shape := ⟨2, ![3, 2048]⟩
abbrev S2048x2048 : Shape := ⟨2, ![2048, 2048]⟩
abbrev S1x2048 : Shape := ⟨2, ![1, 2048]⟩
abbrev S256x1024 : Shape := ⟨2, ![256, 1024]⟩
abbrev S256x6144 : Shape := ⟨2, ![256, 6144]⟩
abbrev S256x2048 : Shape := ⟨2, ![256, 2048]⟩
abbrev S1x1024x2048 : Shape := ⟨3, ![1, 1024, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x15872, .bf16⟩
  | .hbm, ⟨4, _⟩ => ⟨S8192x2048, .f32⟩
  | .hbm, ⟨5, _⟩ => ⟨S3x1024x2048, .bf16⟩
  | .hbm, ⟨6, _⟩ => ⟨S3x2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x6144, .bf16⟩
  | .local _ .vmem, ⟨7, _⟩ => ⟨S256x6144, .bf16⟩
  | .local _ .vmem, ⟨8, _⟩ => ⟨S256x2048, .f32⟩
  | .local _ .vmem, ⟨9, _⟩ => ⟨S256x2048, .f32⟩
  | .local _ .vmem, ⟨10, _⟩ => ⟨S3x1024x2048, .bf16⟩
  | .local _ .vmem, ⟨11, _⟩ => ⟨S3x2048, .f32⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8192x1024 : Shape := ⟨2, ![8192, 1024]⟩
abbrev S8192x15872 : Shape := ⟨2, ![8192, 15872]⟩
abbrev S8192x2048 : Shape := ⟨2, ![8192, 2048]⟩
abbrev S3x1024x2048 : Shape := ⟨3, ![3, 1024, 2048]⟩
abbrev S3x2048 : Shape := ⟨2, ![3, 2048]⟩
abbrev S2048x2048 : Shape := ⟨2, ![2048, 2048]⟩
abbrev S1x2048 : Shape := ⟨2, ![1, 2048]⟩
abbrev S8192x1x1024 : Shape := ⟨3, ![8192, 1, 1024]⟩
abbrev S8192x3x1024 : Shape := ⟨3, ![8192, 3, 1024]⟩
abbrev S3x2048x8192 : Shape := ⟨3, ![3, 2048, 8192]⟩
abbrev S8192x3x2048 : Shape := ⟨3, ![8192, 3, 2048]⟩
abbrev S8192x6144 : Shape := ⟨2, ![8192, 6144]⟩
abbrev S1x3x2048 : Shape := ⟨3, ![1, 3, 2048]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x15872, .bf16⟩
  | .hbm, ⟨4, _⟩ => ⟨S8192x2048, .f32⟩
  | .hbm, ⟨5, _⟩ => ⟨S3x1024x2048, .bf16⟩
  | .hbm, ⟨6, _⟩ => ⟨S3x2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1x1024, .f32⟩
  | .hbm, ⟨14, _⟩ => ⟨S8192x1x1024, .f32⟩
  | .hbm, ⟨15, _⟩ => ⟨S8192x1x1024, .f32⟩
  | .hbm, ⟨16, _⟩ => ⟨S8192x3x1024, .f32⟩
  | .hbm, ⟨17, _⟩ => ⟨S3x1024x2048, .f32⟩
  | .hbm, ⟨18, _⟩ => ⟨S3x2048x8192, .f32⟩
  | .hbm, ⟨19, _⟩ => ⟨S8192x3x2048, .f32⟩
  | .hbm, ⟨20, _⟩ => ⟨S8192x15872, .f32⟩
  | .hbm, ⟨21, _⟩ => ⟨S8192x6144, .f32⟩
  | .hbm, ⟨22, _⟩ => ⟨S8192x3x2048, .f32⟩
  | .hbm, ⟨23, _⟩ => ⟨S1x3x2048, .f32⟩
  | .hbm, ⟨24, _⟩ => ⟨S8192x3x2048, .f32⟩
  | .hbm, ⟨25, _⟩ => ⟨S8192x3x2048, .f32⟩
  | .hbm, ⟨26, _⟩ => ⟨S8192x3x2048, .f32⟩
  | .hbm, ⟨27, _⟩ => ⟨S8192x3x2048, .f32⟩
  | .hbm, ⟨28, _⟩ => ⟨S_, .f32⟩
  | .hbm, ⟨29, _⟩ => ⟨S8192x3x2048, .f32⟩
  | .hbm, ⟨30, _⟩ => ⟨S8192x3x2048, .f32⟩
  | .hbm, ⟨31, _⟩ => ⟨S_, .f32⟩
  | .hbm, ⟨32, _⟩ => ⟨S8192x3x2048, .f32⟩
  | .hbm, ⟨33, _⟩ => ⟨S8192x3x2048, .f32⟩
  | .hbm, ⟨34, _⟩ => ⟨S8192x3x2048, .f32⟩
  | .hbm, ⟨35, _⟩ => ⟨S_, .f32⟩
  | .hbm, ⟨36, _⟩ => ⟨S8192x2048, .f32⟩
  | .hbm, ⟨37, _⟩ => ⟨S2048x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Moba.lean ====
abbrev S8192x15872 : Shape := ⟨2, ![8192, 15872]⟩
abbrev S8192x1024 : Shape := ⟨2, ![8192, 1024]⟩
abbrev S256x128 : Shape := ⟨2, ![256, 128]⟩
abbrev S4096x128 : Shape := ⟨2, ![4096, 128]⟩
abbrev S128x128 : Shape := ⟨2, ![128, 128]⟩
abbrev S16x256x128 : Shape := ⟨3, ![16, 256, 128]⟩
abbrev S16x128 : Shape := ⟨2, ![16, 128]⟩
abbrev S256 : Shape := ⟨1, ![256]⟩
abbrev S256x1 : Shape := ⟨2, ![256, 1]⟩
abbrev S256x256 : Shape := ⟨2, ![256, 256]⟩

abbrev nBuf : Space → Nat
  | .hbm => 2
  | .vmem => 11
  | .smem => 0
  | _ => 0

abbrev bufTy : (tb : Table) → Fin (tcTables nBuf tb) → BufTy
  | .hbm, ⟨0, _⟩ => ⟨S8192x15872, .bf16⟩
  | .hbm, ⟨1, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S128x128, .f32⟩
  | _, _ => ⟨S8192x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c256_i32 : BitVec 32 := 256#32
  let v65 : BitVec 32 := Scalar.muli arg2 c256_i32
  v65
def k0_off1 (i : grid0.Coords) : Fin 2 → Nat :=
  let arg2 : BitVec 32 := BitVec.ofNat 32 (i 2).val
  let c256_i32 : BitVec 32 := 256#32
  let v65 : BitVec 32 := Scalar.muli arg2 c256_i32
  let v66 : BitVec 32 := v65
  let v69 : Index := Scalar.indexCast v66
  let c0_20 : Index := 0#32
  ![v69.toNat, 0]
@[reducible] def k0_t1_loop (i : grid0.Coords) : Scf.Loop 32 :=
  let c0_i32_28 : BitVec 32 := 0#32
  let arg2 : BitVec 32 := BitVec.ofNat 32 (i 2).val
  let v88 : BitVec 32 := Scalar.subi arg2 c0_i32_28
  let c1_i32 : BitVec 32 := 1#32
  let v90 : BitVec 32 := Scalar.divsi v88 c1_i32
  let v91 : BitVec 32 := Scalar.muli v90 c1_i32
  let v92 : BitVec 32 := Scalar.addi c0_i32_28 v91
  let c1_i32_29 : BitVec 32 := 1#32
  ⟨c0_i32_28, v92, c1_i32_29⟩
def k0_mult2 (i : grid0.Coords) (k0_t1 : Fin (k0_t1_loop i).trips) : BitVec 32 :=
  let c0_i32_28 : BitVec 32 := 0#32
  let c1_i32_29 : BitVec 32 := 1#32
  let arg9 : BitVec 32 := Scf.iv c0_i32_28 c1_i32_29 k0_t1
  let c256_i32_39 : BitVec 32 := 256#32
  let v112 : BitVec 32 := Scalar.muli arg9 c256_i32_39
  v112
def k0_off2 (i : grid0.Coords) (k0_t1 : Fin (k0_t1_loop i).trips) : Fin 2 → Nat :=
  let c0_i32_28 : BitVec 32 := 0#32
  let c1_i32_29 : BitVec 32 := 1#32
  let arg9 : BitVec 32 := Scf.iv c0_i32_28 c1_i32_29 k0_t1
  let c256_i32_39 : BitVec 32 := 256#32
  let v112 : BitVec 32 := Scalar.muli arg9 c256_i32_39
  let v113 : BitVec 32 := v112
  let v120 : Index := Scalar.indexCast v113
  let c0_42 : Index := 0#32
  ![v120.toNat, 0]
@[reducible] def k0_t2_loop (i : grid0.Coords) : Scf.Loop 32 :=
  let c0_i32_28 : BitVec 32 := 0#32
  let arg2 : BitVec 32 := BitVec.ofNat 32 (i 2).val
  let v88 : BitVec 32 := Scalar.subi arg2 c0_i32_28
  let c1_i32 : BitVec 32 := 1#32
  let v90 : BitVec 32 := Scalar.divsi v88 c1_i32
  let v91 : BitVec 32 := Scalar.muli v90 c1_i32
  let v92 : BitVec 32 := Scalar.addi c0_i32_28 v91
  let v89 : BitVec 32 := Scalar.addi c0_i32_28 v88
  let c1_i32_30 : BitVec 32 := 1#32
  ⟨v92, v89, c1_i32_30⟩
def k0_mult3 (i : grid0.Coords) (k0_t2 : Fin (k0_t2_loop i).trips) : BitVec 32 :=
  let c0_i32_28 : BitVec 32 := 0#32
  let arg2 : BitVec 32 := BitVec.ofNat 32 (i 2).val
  let v88 : BitVec 32 := Scalar.subi arg2 c0_i32_28
  let c1_i32 : BitVec 32 := 1#32
  let v90 : BitVec 32 := Scalar.divsi v88 c1_i32
  let v91 : BitVec 32 := Scalar.muli v90 c1_i32
  let v92 : BitVec 32 := Scalar.addi c0_i32_28 v91
  let c1_i32_30 : BitVec 32 := 1#32
  let arg9 : BitVec 32 := Scf.iv v92 c1_i32_30 k0_t2
  let c256_i32_39 : BitVec 32 := 256#32
  let v112 : BitVec 32 := Scalar.muli arg9 c256_i32_39
  v112
def k0_off3 (i : grid0.Coords) (k0_t2 : Fin (k0_t2_loop i).trips) : Fin 2 → Nat :=
  let c0_i32_28 : BitVec 32 := 0#32
  let arg2 : BitVec 32 := BitVec.ofNat 32 (i 2).val
  let v88 : BitVec 32 := Scalar.subi arg2 c0_i32_28
  let c1_i32 : BitVec 32 := 1#32
  let v90 : BitVec 32 := Scalar.divsi v88 c1_i32
  let v91 : BitVec 32 := Scalar.muli v90 c1_i32
  let v92 : BitVec 32 := Scalar.addi c0_i32_28 v91
  let c1_i32_30 : BitVec 32 := 1#32
  let arg9 : BitVec 32 := Scf.iv v92 c1_i32_30 k0_t2
  let c256_i32_39 : BitVec 32 := 256#32
  let v112 : BitVec 32 := Scalar.muli arg9 c256_i32_39
  let v113 : BitVec 32 := v112
  let v120 : Index := Scalar.indexCast v113
  let c0_42 : Index := 0#32
  ![v120.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c80_i32 : BitVec 32 := 80#32
  let v2 : BitVec 32 := Scalar.addi c80_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c88_i32 : BitVec 32 := 88#32
  let v0 : BitVec 32 := Scalar.addi c88_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.addi c96_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c104_i32 : BitVec 32 := 104#32
  let v2 : BitVec 32 := Scalar.addi c104_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaIdeal.lean ====
variable {F : FTy → Type} [FloatOps F] [Named F]
def κ : String → Option EReal := fun
  | "mask" => some ⊥
  | _ => none
-- ==== MobaRefIdeal.lean ====
abbrev S8192x15872 : Shape := ⟨2, ![8192, 15872]⟩
abbrev S8192x1024 : Shape := ⟨2, ![8192, 1024]⟩
abbrev S2x4096x8x128 : Shape := ⟨4, ![2, 4096, 8, 128]⟩
abbrev S2x8x4096x128 : Shape := ⟨4, ![2, 8, 4096, 128]⟩
abbrev S2x8x16x256x128 : Shape := ⟨5, ![2, 8, 16, 256, 128]⟩
abbrev S_ : Shape := ⟨0, ![]⟩
abbrev S2x8x16x128 : Shape := ⟨4, ![2, 8, 16, 128]⟩
abbrev S2x8x4096x16 : Shape := ⟨4, ![2, 8, 4096, 16]⟩
abbrev S4096 : Shape := ⟨1, ![4096]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S2x8x4096x3 : Shape := ⟨4, ![2, 8, 4096, 3]⟩
abbrev S1x1x4096x1 : Shape := ⟨4, ![1, 1, 4096, 1]⟩
abbrev S2x8x4096x3x1 : Shape := ⟨5, ![2, 8, 4096, 3, 1]⟩
abbrev S1x1x1x1x16 : Shape := ⟨5, ![1, 1, 1, 1, 16]⟩
abbrev S2x8x4096x3x16 : Shape := ⟨5, ![2, 8, 4096, 3, 16]⟩
abbrev S2x8x4096x16x1 : Shape := ⟨5, ![2, 8, 4096, 16, 1]⟩
abbrev S2x8x4096x16x256 : Shape := ⟨5, ![2, 8, 4096, 16, 256]⟩
abbrev S2x8x4096x4096 : Shape := ⟨4, ![2, 8, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩

abbrev nBuf : Space → Nat
  | .hbm => 121
  | .vmem => 0
  | .smem => 0
  | _ => 0

abbrev bufTy : (tb : Table) → Fin (tcTables nBuf tb) → BufTy
  | .hbm, ⟨0, _⟩ => ⟨S8192x15872, .bf16⟩
  | .hbm, ⟨1, _⟩ => ⟨S8192x15872, .f32⟩
  | .hbm, ⟨2, _⟩ => ⟨S8192x1024, .f32⟩
  | .hbm, ⟨3, _⟩ => ⟨S2x4096x8x128, .f32⟩
  | .hbm, ⟨4, _⟩ => ⟨S2x8x4096x128, .f32⟩
  | .hbm, ⟨5, _⟩ => ⟨S8192x1024, .f32⟩
  | .hbm, ⟨6, _⟩ => ⟨S2x4096x8x128, .f32⟩
  | .hbm, ⟨7, _⟩ => ⟨S2x8x4096x128, .f32⟩
  | .hbm, ⟨8, _⟩ => ⟨S8192x1024, .f32⟩
  | .hbm, ⟨9, _⟩ => ⟨S2x4096x8x128, .f32⟩
  | .hbm, ⟨10, _⟩ => ⟨S2x8x4096x128, .f32⟩
  | .hbm, ⟨11, _⟩ => ⟨S8192x1024, .f32⟩
  | .hbm, ⟨12, _⟩ => ⟨S2x8x16x256x128, .f32⟩
  | .hbm, ⟨13, _⟩ => ⟨S_, .f32⟩
  | .hbm, ⟨14, _⟩ => ⟨S2x8x16x128, .f32⟩
  | .hbm, ⟨15, _⟩ => ⟨S_, .f32⟩
  | .hbm, ⟨16, _⟩ => ⟨S2x8x16x128, .f32⟩
  | .hbm, ⟨17, _⟩ => ⟨S2x8x16x128, .f32⟩
  | .hbm, ⟨18, _⟩ => ⟨S2x8x4096x16, .f32⟩
  | .hbm, ⟨19, _⟩ => ⟨S4096, .i32⟩
  | .hbm, ⟨20, _⟩ => ⟨S_, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S16, .i32⟩
  | .hbm, ⟨39, _⟩ => ⟨S1x16, .i32⟩
  | .hbm, ⟨40, _⟩ => ⟨S4096x1, .i32⟩
  | .hbm, ⟨41, _⟩ => ⟨S4096x16, .i32⟩
  | .hbm, ⟨42, _⟩ => ⟨S4096x16, .i32⟩
  | .hbm, ⟨43, _⟩ => ⟨S4096x16, .i1⟩
  | .hbm, ⟨44, _⟩ => ⟨S_, .f32⟩
  | .hbm, ⟨45, _⟩ => ⟨S_, .f32⟩
  | .hbm, ⟨46, _⟩ => ⟨S2x8x4096x16, .i1⟩
  | .hbm, ⟨47, _⟩ => ⟨S2x8x4096x16, .f32⟩
  | .hbm, ⟨48, _⟩ => ⟨S2x8x4096x16, .f32⟩
  | .hbm, ⟨49, _⟩ => ⟨S2x8x4096x3, .f32⟩
  | .hbm, ⟨50, _⟩ => ⟨S2x8x4096x3, .i32⟩
  | .hbm, ⟨51, _⟩ => ⟨S4096x1, .i32⟩
  | .hbm, ⟨52, _⟩ => ⟨S1x1x4096x1, .i32⟩
  | .hbm, ⟨53, _⟩ => ⟨S2x8x4096x3, .i32⟩
  | .hbm, ⟨54, _⟩ => ⟨S2x8x4096x3, .i1⟩
  | .hbm, ⟨55, _⟩ => ⟨S2x8x4096x3x1, .i32⟩
  | .hbm, ⟨56, _⟩ => ⟨S16, .i32⟩
  | .hbm, ⟨57, _⟩ => ⟨S1x1x1x1x16, .i32⟩
  | .hbm, ⟨58, _⟩ => ⟨S2x8x4096x3x16, .i32⟩
  | .hbm, ⟨59, _⟩ => ⟨S2x8x4096x3x16, .i32⟩
  | .hbm, ⟨60, _⟩ => ⟨S2x8x4096x3x16, .i1⟩
  | .hbm, ⟨61, _⟩ => ⟨S2x8x4096x3x1, .i1⟩
  | .hbm, ⟨62, _⟩ => ⟨S2x8x4096x3x16, .i1⟩
  | .hbm, ⟨63, _⟩ => ⟨S2x8x4096x3x16, .i1⟩
  | .hbm, ⟨64, _⟩ => ⟨S_, .i1⟩
  | .hbm, ⟨65, _⟩ => ⟨S2x8x4096x16, .i1⟩
  | .hbm, ⟨66, _⟩ => ⟨S2x8x4096x16x1, .i1⟩
  | .hbm, ⟨67, _⟩ => ⟨S2x8x4096x16x256, .i1⟩
  | .hbm, ⟨68, _⟩ => ⟨S2x8x4096x4096, .i1⟩
  | .hbm, ⟨69, _⟩ => ⟨S4096x1, .i32⟩
  | .hbm, ⟨70, _⟩ => ⟨S1x4096, .i32⟩
  | .hbm, ⟨71, _⟩ => ⟨S4096x4096, .i32⟩
  | .hbm, ⟨72, _⟩ => ⟨S4096x4096, .i32⟩
  | .hbm, ⟨73, _⟩ => ⟨S4096x4096, .i1⟩
  | .hbm, ⟨74, _⟩ => ⟨S4096, .i32⟩
  | .hbm, ⟨75, _⟩ => ⟨S1x4096, .i32⟩
  | .hbm, ⟨76, _⟩ => ⟨S4096, .i32⟩
  | .hbm, ⟨77, _⟩ => ⟨S4096x1, .i32⟩
  | .hbm, ⟨78, _⟩ => ⟨S4096x4096, .i32⟩
  | .hbm, ⟨79, _⟩ => ⟨S4096x4096, .i32⟩
  | .hbm, ⟨80, _⟩ => ⟨S4096x4096, .i1⟩
  | .hbm, ⟨81, _⟩ => ⟨S4096x4096, .i1⟩
  | .hbm, ⟨82, _⟩ => ⟨S2x8x4096x4096, .f32⟩
  | .hbm, ⟨83, _⟩ => ⟨S_, .f32⟩
  | .hbm, ⟨84, _⟩ => ⟨S2x8x4096x4096, .f32⟩
  | .hbm, ⟨85, _⟩ => ⟨S2x8x4096x4096, .f32⟩
  | .hbm, ⟨86, _⟩ => ⟨S1x1x4096x4096, .i1⟩
  | .hbm, ⟨87, _⟩ => ⟨S2x8x4096x4096, .i1⟩
  | .hbm, ⟨88, _⟩ => ⟨S2x8x4096x4096, .i1⟩
  | .hbm, ⟨89, _⟩ => ⟨S_, .f32⟩
  | .hbm, ⟨90, _⟩ => ⟨S_, .f32⟩
  | .hbm, ⟨91, _⟩ => ⟨S2x8x4096x4096, .f32⟩
  | .hbm, ⟨92, _⟩ => ⟨S2x8x4096x4096, .f32⟩
  | .hbm, ⟨93, _⟩ => ⟨S_, .f32⟩
  | .hbm, ⟨94, _⟩ => ⟨S2x8x4096, .f32⟩
  | .hbm, ⟨95, _⟩ => ⟨S_, .f32⟩
  | .hbm, ⟨96, _⟩ => ⟨S2x8x4096, .f32⟩
  | .hbm, ⟨97, _⟩ => ⟨S2x8x4096, .f32⟩
  | .hbm, ⟨98, _⟩ => ⟨S2x8x4096x1, .f32⟩
  | .hbm, ⟨99, _⟩ => ⟨S2x8x4096x4096, .f32⟩
  | .hbm, ⟨100, _⟩ => ⟨S2x8x4096x4096, .f32⟩
  | .hbm, ⟨101, _⟩ => ⟨S2x8x4096x4096, .f32⟩
  | .hbm, ⟨102, _⟩ => ⟨S_, .f32⟩
  | .hbm, ⟨103, _⟩ => ⟨S2x8x4096, .f32⟩
  | .hbm, ⟨104, _⟩ => ⟨S2x8x4096x1, .f32⟩
  | .hbm, ⟨105, _⟩ => ⟨S2x8x4096x4096, .f32⟩
  | .hbm, ⟨106, _⟩ => ⟨S2x8x4096x4096, .f32⟩
  | .hbm, ⟨107, _⟩ => ⟨S2x8x4096x128, .f32⟩
  | .hbm, ⟨108, _⟩ => ⟨S2x4096x8x128, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S_, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .bf16⟩
  | _, _ => ⟨S8192x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_values : Ref sig .tc := ⟨.hbm, 49, rfl⟩
abbrev main_indices : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_3 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_4 : Ref sig .tc := ⟨.hbm, 89, rfl⟩
abbrev main_call2_v0 : Ref sig .tc := ⟨.hbm, 90, rfl⟩
abbrev main_call2_v1 : Ref sig .tc := ⟨.hbm, 91, rfl⟩
abbrev main_v61 : Ref sig .tc := ⟨.hbm, 92, rfl⟩
abbrev main_cst_5 : Ref sig .tc := ⟨.hbm, 93, rfl⟩
abbrev main_v62 : Ref sig .tc := ⟨.hbm, 94, rfl⟩
abbrev main_cst_6 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_7 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]
-- ==== Gla.lean ====
abbrev S8192x15872 : Shape := ⟨2, ![8192, 15872]⟩
abbrev S128x512 : Shape := ⟨2, ![128, 512]⟩
abbrev S1x512 : Shape := ⟨2, ![1, 512]⟩
abbrev S1x256 : Shape := ⟨2, ![1, 256]⟩
abbrev S8192x1024 : Shape := ⟨2, ![8192, 1024]⟩
abbrev S128x128 : Shape := ⟨2, ![128, 128]⟩
abbrev S128x256 : Shape := ⟨2, ![128, 256]⟩
abbrev S1x128 : Shape := ⟨2, ![1, 128]⟩
abbrev S16x128 : Shape := ⟨2, ![16, 128]⟩
abbrev S16x256 : Shape := ⟨2, ![16, 256]⟩
abbrev S16 : Shape := ⟨1, ![16]⟩
abbrev S16x1 : Shape := ⟨2, ![16, 1]⟩
abbrev S128 : Shape := ⟨1, ![128]⟩
abbrev S128x1 : Shape := ⟨2, ![128, 1]⟩

abbrev nBuf : Space → Nat
  | .hbm => 5
  | .vmem => 23
  | .smem => 0
  | _ => 0

abbrev bufTy : (tb : Table) → Fin (tcTables nBuf tb) → BufTy
  | .hbm, ⟨0, _⟩ => ⟨S8192x15872, .bf16⟩
  | .hbm, ⟨1, _⟩ => ⟨S128x512, .bf16⟩
  | .hbm, ⟨2, _⟩ => ⟨S1x512, .f32⟩
  | .hbm, ⟨3, _⟩ => ⟨S1x256, .f32⟩
  | .hbm, ⟨4, _⟩ => ⟨S8192x1024, .bf16⟩
  | .local _ .vmem, ⟨0, _⟩ => ⟨S128x128, .bf16⟩
  | .local _ .vmem, ⟨1, _⟩ => ⟨S128x128, .bf16⟩
  | .local _ .vmem, ⟨2, _⟩ => ⟨S128x128, .bf16⟩
  | .local _ .vmem, ⟨3, _⟩ => ⟨S128x128, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S128x256, .bf16⟩
  | .local _ .vmem, ⟨16, _⟩ => ⟨S128x256, .bf16⟩
  | .local _ .vmem, ⟨17, _⟩ => ⟨S128x256, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x256, .f32⟩
  | .local _ .vmem, ⟨22, _⟩ => ⟨S128x256, .f32⟩
  | _, _ => ⟨S8192x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 4, 32], ![false, false, false]⟩

@[reducible] def k0_t1_loop : Scf.Loop 32 :=
  let c0_i32_36 : BitVec 32 := 0#32
  let c8_i32 : BitVec 32 := 8#32
  let v73 : BitVec 32 := Scalar.addi c0_i32_36 c8_i32
  let c1_i32 : BitVec 32 := 1#32
  ⟨c0_i32_36, v73, c1_i32⟩
def k0_mult1 (k0_t1 : Fin k0_t1_loop.trips) : BitVec 32 :=
  let c0_i32_36 : BitVec 32 := 0#32
  let c1_i32 : BitVec 32 := 1#32
  let arg18 : BitVec 32 := Scf.iv c0_i32_36 c1_i32 k0_t1
  let c16_i32 : BitVec 32 := 16#32
  let v119 : BitVec 32 := Scalar.muli arg18 c16_i32
  v119
def k0_off1 (k0_t1 : Fin k0_t1_loop.trips) : Fin 2 → Nat :=
  let c0_i32_36 : BitVec 32 := 0#32
  let c1_i32 : BitVec 32 := 1#32
  let arg18 : BitVec 32 := Scf.iv c0_i32_36 c1_i32 k0_t1
  let c16_i32 : BitVec 32 := 16#32
  let v119 : BitVec 32 := Scalar.muli arg18 c16_i32
  let v120 : BitVec 32 := v119
  let c1_i32_55 : BitVec 32 := 1#32
  let v121 : BitVec 32 := Scalar.subi v120 c1_i32_55
  let c0_i32_56 : BitVec 32 := 0#32
  let v122 : BitVec 32 := Scalar.maxsi v121 c0_i32_56
  let v123 : Index := Scalar.indexCast v122
  let c0_57 : Index := 0#32
  ![v123.toNat, 0]
def k0_off2 (k0_t1 : Fin k0_t1_loop.trips) : Fin 2 → Nat :=
  let c0_i32_36 : BitVec 32 := 0#32
  let c1_i32 : BitVec 32 := 1#32
  let arg18 : BitVec 32 := Scf.iv c0_i32_36 c1_i32 k0_t1
  let c16_i32 : BitVec 32 := 16#32
  let v119 : BitVec 32 := Scalar.muli arg18 c16_i32
  let v120 : BitVec 32 := v119
  let v125 : Index := Scalar.indexCast v120
  let c0_58 : Index := 0#32
  ![v125.toNat, 0]
def k0_off3 (k0_t1 : Fin k0_t1_loop.trips) (c0_i32_65 : BitVec 32) : Fin 2 → Nat :=
  let c0_i32_36 : BitVec 32 := 0#32
  let c1_i32 : BitVec 32 := 1#32
  let arg18 : BitVec 32 := Scf.iv c0_i32_36 c1_i32 k0_t1
  let c16_i32 : BitVec 32 := 16#32
  let v119 : BitVec 32 := Scalar.muli arg18 c16_i32
  let v120 : BitVec 32 := v119
  let v150 : BitVec 32 := Scalar.addi v120 c0_i32_65
  let v151 : Index := Scalar.indexCast v150
  let c0_66 : Index := 0#32
  ![v151.toNat, 0]
def k0_off4 (k0_t1 : Fin k0_t1_loop.trips) (c0_i32_69 : BitVec 32) : Fin 2 → Nat :=
  let c0_i32_36 : BitVec 32 := 0#32
  let c1_i32 : BitVec 32 := 1#32
  let arg18 : BitVec 32 := Scf.iv c0_i32_36 c1_i32 k0_t1
  let c16_i32 : BitVec 32 := 16#32
  let v119 : BitVec 32 := Scalar.muli arg18 c16_i32
  let v120 : BitVec 32 := v119
  let v156 : BitVec 32 := Scalar.addi v120 c0_i32_69
  let v157 : Index := Scalar.indexCast v156
  let c0_70 : Index := 0#32
  ![v157.toNat, 0]
def k0_off5 (k0_t1 : Fin k0_t1_loop.trips) : Fin 2 → Nat :=
  let c0_i32_36 : BitVec 32 := 0#32
  let c1_i32 : BitVec 32 := 1#32
  let arg18 : BitVec 32 := Scf.iv c0_i32_36 c1_i32 k0_t1
  let c16_i32 : BitVec 32 := 16#32
  let v119 : BitVec 32 := Scalar.muli arg18 c16_i32
  let v120 : BitVec 32 := v119
  let v582 : Index := Scalar.indexCast v120
  let c0_212 : Index := 0#32
  ![v582.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c112_i32 : BitVec 32 := 112#32
  let v2 : BitVec 32 := Scalar.addi c112_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c116_i32 : BitVec 32 := 116#32
  let v2 : BitVec 32 := Scalar.addi c116_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c122_i32 : BitVec 32 := 122#32
  let c0_i32 : BitVec 32 := 0#32
  ![v1.toNat, c122_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== GlaRefIdeal.lean ====
abbrev S8192x15872 : Shape := ⟨2, ![8192, 15872]⟩
abbrev S128x512 : Shape := ⟨2, ![128, 512]⟩
abbrev S1x512 : Shape := ⟨2, ![1, 512]⟩
abbrev S1x256 : Shape := ⟨2, ![1, 256]⟩
abbrev S8192x512 : Shape := ⟨2, ![8192, 512]⟩
abbrev S_ : Shape := ⟨0, ![]⟩
abbrev S2x4096x4x128 : Shape := ⟨4, ![2, 4096, 4, 128]⟩
abbrev S8192x1024 : Shape := ⟨2, ![8192, 1024]⟩
abbrev S2x4096x4x256 : Shape := ⟨4, ![2, 4096, 4, 256]⟩
abbrev S8192x128 : Shape := ⟨2, ![8192, 128]⟩
abbrev S4096x4096 : Shape := ⟨2, ![4096, 4096]⟩
abbrev S2x4x128x4096 : Shape := ⟨4, ![2, 4, 128, 4096]⟩
abbrev S2x4096x1x4x128 : Shape := ⟨5, ![2, 4096, 1, 4, 128]⟩
abbrev S2x1x4096x4x128 : Shape := ⟨5, ![2, 1, 4096, 4, 128]⟩
abbrev S2x4096x4096x4x128 : Shape := ⟨5, ![2, 4096, 4096, 4, 128]⟩
abbrev S1x4096x4096x1x1 : Shape := ⟨5, ![1, 4096, 4096, 1, 1]⟩
abbrev S2x4096x4096x4 : Shape := ⟨4, ![2, 4096, 4096, 4]⟩
abbrev S2x4x256x4096 : Shape := ⟨4, ![2, 4, 256, 4096]⟩
abbrev S2x4096x4 : Shape := ⟨3, ![2, 4096, 4]⟩
abbrev S2x4096x4x1 : Shape := ⟨4, ![2, 4096, 4, 1]⟩
abbrev S256 : Shape := ⟨1, ![256]⟩
abbrev S1x1x1x256 : Shape := ⟨4, ![1, 1, 1, 256]⟩

abbrev nBuf : Space → Nat
  | .hbm => 105
  | .vmem => 0
  | .smem => 0
  | _ => 0

abbrev bufTy : (tb : Table) → Fin (tcTables nBuf tb) → BufTy
  | .hbm, ⟨0, _⟩ => ⟨S8192x15872, .bf16⟩
  | .hbm, ⟨1, _⟩ => ⟨S128x512, .bf16⟩
  | .hbm, ⟨2, _⟩ => ⟨S1x512, .f32⟩
  | .hbm, ⟨3, _⟩ => ⟨S1x256, .f32⟩
  | .hbm, ⟨4, _⟩ => ⟨S8192x15872, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S2x4096x4x128, .f32⟩
  | .hbm, ⟨10, _⟩ => ⟨S8192x512, .f32⟩
  | .hbm, ⟨11, _⟩ => ⟨S2x4096x4x128, .f32⟩
  | .hbm, ⟨12, _⟩ => ⟨S8192x1024, .f32⟩
  | .hbm, ⟨13, _⟩ => ⟨S2x4096x4x256, .f32⟩
  | .hbm, ⟨14, _⟩ => ⟨S8192x1024, .f32⟩
  | .hbm, ⟨15, _⟩ => ⟨S8192x128, .f32⟩
  | .hbm, ⟨16, _⟩ => ⟨S128x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .i1⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S2x4096x4x128, .f32⟩
  | .hbm, ⟨40, _⟩ => ⟨S_, .i1⟩
  | .hbm, ⟨41, _⟩ => ⟨S4096x4096, .i1⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S_, .i1⟩
  | .hbm, ⟨49, _⟩ => ⟨S4096x4096, .i1⟩
  | .hbm, ⟨50, _⟩ => ⟨S4096x4096, .i1⟩
  | .hbm, ⟨51, _⟩ => ⟨S4096x4096, .f32⟩
  | .hbm, ⟨52, _⟩ => ⟨S2x4x128x4096, .f32⟩
  | .hbm, ⟨53, _⟩ => ⟨S2x4096x4x128, .f32⟩
  | .hbm, ⟨54, _⟩ => ⟨S2x4096x1x4x128, .f32⟩
  | .hbm, ⟨55, _⟩ => ⟨S2x1x4096x4x128, .f32⟩
  | .hbm, ⟨56, _⟩ => ⟨S2x4096x4096x4x128, .f32⟩
  | .hbm, ⟨57, _⟩ => ⟨S2x4096x4096x4x128, .f32⟩
  | .hbm, ⟨58, _⟩ => ⟨S2x4096x4096x4x128, .f32⟩
  | .hbm, ⟨59, _⟩ => ⟨S1x4096x4096x1x1, .i1⟩
  | .hbm, ⟨60, _⟩ => ⟨S2x4096x4096x4x128, .f32⟩
  | .hbm, ⟨61, _⟩ => ⟨S_, .f32⟩
  | .hbm, ⟨62, _⟩ => ⟨S_, .f32⟩
  | .hbm, ⟨63, _⟩ => ⟨S2x4096x4096x4x128, .i1⟩
  | .hbm, ⟨64, _⟩ => ⟨S2x4096x4096x4x128, .f32⟩
  | .hbm, ⟨65, _⟩ => ⟨S2x4096x4096x4x128, .f32⟩
  | .hbm, ⟨66, _⟩ => ⟨S2x4096x1x4x128, .f32⟩
  | .hbm, ⟨67, _⟩ => ⟨S2x1x4096x4x128, .f32⟩
  | .hbm, ⟨68, _⟩ => ⟨S2x4096x4096x4x128, .f32⟩
  | .hbm, ⟨69, _⟩ => ⟨S2x4096x4096x4x128, .f32⟩
  | .hbm, ⟨70, _⟩ => ⟨S2x4096x4096x4x128, .f32⟩
  | .hbm, ⟨71, _⟩ => ⟨S2x4096x4096x4x128, .f32⟩
  | .hbm, ⟨72, _⟩ => ⟨S_, .f32⟩
  | .hbm, ⟨73, _⟩ => ⟨S2x4096x4096x4, .f32⟩
  | .hbm, ⟨74, _⟩ => ⟨S2x4x256x4096, .f32⟩
  | .hbm, ⟨75, _⟩ => ⟨S2x4096x4x256, .f32⟩
  | .hbm, ⟨76, _⟩ => ⟨S2x4096x4x256, .f32⟩
  | .hbm, ⟨77, _⟩ => ⟨S_, .f32⟩
  | .hbm, ⟨78, _⟩ => ⟨S2x4096x4, .f32⟩
  | .hbm, ⟨79, _⟩ => ⟨S2x4096x4x1, .f32⟩
  | .hbm, ⟨80, _⟩ => ⟨S_, .f32⟩
  | .hbm, ⟨81, _⟩ => ⟨S2x4096x4x1, .f32⟩
  | .hbm, ⟨82, _⟩ => ⟨S2x4096x4x1, .f32⟩
  | .hbm, ⟨83, _⟩ => ⟨S_, .f32⟩
  | .hbm, ⟨84, _⟩ => ⟨S2x4096x4x1, .f32⟩
  | .hbm, ⟨85, _⟩ => ⟨S2x4096x4x1, .f32⟩
  | .hbm, ⟨86, _⟩ => ⟨S2x4096x4x1, .f32⟩
  | .hbm, ⟨87, _⟩ => ⟨S2x4096x4x256, .f32⟩
  | .hbm, ⟨88, _⟩ => ⟨S2x4096x4x256, .f32⟩
  | .hbm, ⟨89, _⟩ => ⟨S256, .f32⟩
  | .hbm, ⟨90, _⟩ => ⟨S1x1x1x256, .f32⟩
  | .hbm, ⟨91, _⟩ => ⟨S2x4096x4x256, .f32⟩
  | .hbm, ⟨92, _⟩ => ⟨S2x4096x4x256, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | _, _ => ⟨S8192x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_2 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_3 : Ref sig .tc := ⟨.hbm, 77, rfl⟩
abbrev main_v42 : Ref sig .tc := ⟨.hbm, 78, rfl⟩
abbrev main_v43 : Ref sig .tc := ⟨.hbm, 79, rfl⟩
abbrev main_cst_4 : Ref sig .tc := ⟨.hbm, 80, rfl⟩
abbrev main_v44 : Ref sig .tc := ⟨.hbm, 81, rfl⟩
abbrev main_v45 : Ref sig .tc := ⟨.hbm, 82, rfl⟩
abbrev main_cst_5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩

abbrev nD : Nat := 1
abbrev τ : Topo := Topo.v7x

variable {F : FTy → Type} [FloatOps F]
-- ==== Proof.Attention.lean ====
/- Softmax over the extended reals: sums and maxima carried from one set of keys to another, and the weighted average. -/
module

public import Idealize.ShloMosaic.Lib.IdealHost
public import Idealize.ShloMosaic.Lib.Pipeline.ValueKit
public import Idealize.ShloMosaic.Lib.Pointwise

@[expose] public section

noncomputable section

open Idealize.ShloMosaic

namespace Cert.Attention

/-! ## Numbers among the extended reals -/

/-- `x` is a number: neither infinity. -/
def IsNum (x : EReal) : Prop := x ≠ ⊥ ∧ x ≠ ⊤

theorem IsNum.eq_coe {x : EReal} (h : IsNum x) : ∃ r : ℝ, x = (r : EReal) :=
  ⟨x.toReal, (EReal.coe_toReal h.2 h.1).symm⟩

theorem isNum_coe (r : ℝ) : IsNum (r : EReal) := ⟨EReal.coe_ne_bot r, EReal.coe_ne_top r⟩

theorem IsNum.mul {x y : EReal} (hx : IsNum x) (hy : IsNum y) : IsNum (x * y) := by
  obtain ⟨a, rfl⟩ := hx.eq_coe
  obtain ⟨b, rfl⟩ := hy.eq_coe
  rw [← EReal.coe_mul]
  exact isNum_coe _

theorem IsNum.add {x y : EReal} (hx : IsNum x) (hy : IsNum y) : IsNum (x + y) := by
  obtain ⟨a, rfl⟩ := hx.eq_coe
  obtain ⟨b, rfl⟩ := hy.eq_coe
  rw [← EReal.coe_add]
  exact isNum_coe _

theorem IsNum.max {x y : EReal} (hx : IsNum x) (hy : IsNum y) : IsNum (max x y) := by
  rcases max_choice x y with h | h <;> rw [h] <;> assumption

theorem isNum_sum {ι : Type} (s : Finset ι) (f : ι → EReal) (h : ∀ i, IsNum (f i)) : IsNum (∑ i ∈ s, f i) := by
  classical
  induction s using Finset.induction_on with
  | empty => rw [Finset.sum_empty]; exact isNum_coe 0
  | insert a s ha ih => rw [Finset.sum_insert ha]; exact (h a).add ih

/-! ## The exponential -/

theorem exp_nonneg (x : EReal) : 0 ≤ Ideal.exp x := by
  induction x with
  | bot => exact le_refl _
  | top => exact le_top
  | coe r => rw [Ideal.exp_coe]; exact EReal.coe_nonneg.2 (Real.exp_pos r).le

theorem exp_ne_zero {x : EReal} (h : x ≠ ⊥) : Ideal.exp x ≠ 0 := by
  induction x with
  | bot => exact absurd rfl h
  | top => rw [Ideal.exp_top]; exact EReal.top_ne_zero
  | coe r => rw [Ideal.exp_coe]; exact EReal.coe_ne_zero.2 (Real.exp_pos r).ne'

theorem exp_ne_top {x : EReal} (h : x ≠ ⊤) : Ideal.exp x ≠ ⊤ := by
  induction x with
  | bot => rw [Ideal.exp_bot]; exact EReal.zero_ne_top
  | top => exact absurd rfl h
  | coe r => rw [Ideal.exp_coe]; exact EReal.coe_ne_top _

theorem exp_bot_sub (x : EReal) : Ideal.exp (⊥ - x) = 0 := by rw [EReal.bot_sub, Ideal.exp_bot]

/-! ## Carrying sums and maxima from one set of keys to another -/

section Transfer

variable {ι κ : Type} [Fintype ι] [Fintype κ] [DecidableEq ι]

/-- Two sums agree when the entries that count correspond one to one and the others are zero. -/
theorem sum_transfer (e : κ → ι) (al : κ → Prop) (f : ι → EReal) (f' : κ → EReal)
    (inj : ∀ c c', al c → al c' → e c = e c' → c = c') (h1 : ∀ c, al c → f (e c) = f' c)
    (h0' : ∀ c, ¬ al c → f' c = 0) (h0 : ∀ i, (∀ c, al c → e c ≠ i) → f i = 0) : ∑ i, f i = ∑ c, f' c := by
  classical
  have hk : ∑ c, f' c = ∑ c ∈ Finset.univ.filter al, f' c :=
    (Finset.sum_subset (Finset.filter_subset _ _) fun c _ hc => h0' c fun h => hc (Finset.mem_filter.2 ⟨Finset.mem_univ _, h⟩)).symm
  have hi : ∑ i, f i = ∑ i ∈ (Finset.univ.filter al).image e, f i :=
    (Finset.sum_subset (Finset.subset_univ _) fun i _ hn => h0 i fun c hc he =>
      hn (Finset.mem_image.2 ⟨c, Finset.mem_filter.2 ⟨Finset.mem_univ _, hc⟩, he⟩)).symm
  rw [hk, hi, Finset.sum_image fun c hc c' hc' h => inj c c' (Finset.mem_filter.1 hc).2 (Finset.mem_filter.1 hc').2 h]
  exact Finset.sum_congr rfl fun c hc => h1 c (Finset.mem_filter.1 hc).2

/-- Two maxima agree when the entries that count correspond and the others are −∞. -/
theorem sup_transfer (e : κ → ι) (al : κ → Prop) (f : ι → EReal) (f' : κ → EReal)
    (h1 : ∀ c, al c → f (e c) = f' c) (h0' : ∀ c, ¬ al c → f' c = ⊥) (h0 : ∀ i, (∀ c, al c → e c ≠ i) → f i = ⊥) :
    Finset.univ.sup f = Finset.univ.sup f' := by
  refine le_antisymm (Finset.sup_le fun i _ => ?_) (Finset.sup_le fun c _ => ?_)
  · by_cases h : ∃ c, al c ∧ e c = i
    · obtain ⟨c, hc, rfl⟩ := h
      rw [h1 c hc]
      exact Finset.le_sup (f := f') (Finset.mem_univ c)
    · rw [h0 i fun c hc he => h ⟨c, hc, he⟩]
      exact bot_le
  · by_cases h : al c
    · rw [← h1 c h]
      exact Finset.le_sup (f := f) (Finset.mem_univ (e c))
    · rw [h0' c h]
      exact bot_le

end Transfer

/-! ## A softmax with one extra score -/

section Sink

variable {ι κ : Type} [Fintype ι] [Fintype κ] [DecidableEq ι]

/-- The greatest of the scores `s` and the extra score `z`. -/
def top (s : ι → EReal) (z : EReal) : EReal := max (Finset.univ.sup s) z

/-- The sum of all the weights, the extra score's with them. -/
def total (s : ι → EReal) (z : EReal) : EReal := (∑ i, Ideal.exp (s i - top s z)) + Ideal.exp (z - top s z)

/-- The values' average by the weights. -/
def average (s : ι → EReal) (z : EReal) (v : ι → EReal) : EReal :=
  ∑ i, Ideal.exp (s i - top s z) * Ideal.div 1 (total s z) * v i

theorem top_ne_top (s : ι → EReal) (z : EReal) (hs : ∀ i, s i ≠ ⊤) (hz : z ≠ ⊤) : top s z ≠ ⊤ := by
  refine (max_lt ?_ (lt_top_iff_ne_top.2 hz)).ne
  exact (Finset.sup_lt_iff (bot_lt_top)).2 fun i _ => lt_top_iff_ne_top.2 (hs i)

/-- With a number for the extra score and no score +∞ the weights' sum is not zero. -/
theorem total_ne_zero (s : ι → EReal) (z : EReal) (hs : ∀ i, s i ≠ ⊤) (hz : IsNum z) : total s z ≠ 0 := by
  have hn : z - top s z ≠ ⊥ := by
    have h1 := top_ne_top s z hs hz.2
    have h2 : top s z ≠ ⊥ := fun h => hz.1 (le_bot_iff.1 (h ▸ le_max_right _ _))
    obtain ⟨a, ha⟩ := IsNum.eq_coe ⟨h2, h1⟩
    obtain ⟨b, hb⟩ := hz.eq_coe
    rw [ha, hb, ← EReal.coe_sub]
    exact EReal.coe_ne_bot _
  have hp : 0 < Ideal.exp (z - top s z) := lt_of_le_of_ne (exp_nonneg _) (exp_ne_zero hn).symm
  exact (lt_of_lt_of_le hp (le_add_of_nonneg_left (Finset.sum_nonneg fun i _ => exp_nonneg _))).ne'

/-- Dividing every weight by the sum is multiplying it by the sum's inverse. -/
theorem average_eq (s : ι → EReal) (z : EReal) (v : ι → EReal) (hs : ∀ i, s i ≠ ⊤) (hz : IsNum z) :
    ∑ i, v i * Ideal.div (Ideal.exp (s i - top s z)) (total s z) = average s z v :=
  Finset.sum_congr rfl fun i _ => by rw [Ideal.mul_one_div (total_ne_zero s z hs hz), mul_comm]

/-- The average over one set of keys is the average over the other, when the keys that count correspond. -/
theorem average_transfer (e : κ → ι) (al : κ → Prop) (s v : ι → EReal) (s' v' : κ → EReal) (z : EReal)
    (inj : ∀ c c', al c → al c' → e c = e c' → c = c') (h1 : ∀ c, al c → s (e c) = s' c) (hv : ∀ c, al c → v (e c) = v' c)
    (h0' : ∀ c, ¬ al c → s' c = ⊥) (h0 : ∀ i, (∀ c, al c → e c ≠ i) → s i = ⊥) : average s z v = average s' z v' := by
  have ht : top s z = top s' z := by unfold top; rw [sup_transfer e al s s' h1 h0' h0]
  have hl : total s z = total s' z := by
    unfold total
    rw [ht, sum_transfer e al (fun i => Ideal.exp (s i - top s' z)) (fun c => Ideal.exp (s' c - top s' z)) inj
      (fun c hc => by rw [h1 c hc]) (fun c hc => by rw [h0' c hc, exp_bot_sub]) (fun i hi => by rw [h0 i hi, exp_bot_sub])]
  unfold average
  rw [ht, hl]
  refine sum_transfer e al _ _ inj (fun c hc => ?_) (fun c hc => ?_) (fun i hi => ?_)
  · rw [h1 c hc, hv c hc]
  · rw [h0' c hc, exp_bot_sub, zero_mul, zero_mul]
  · rw [h0 i hi, exp_bot_sub, zero_mul, zero_mul]

end Sink

end Cert.Attention
-- ==== Proof.SwaTile.lean ====
/- The sliding-window attention's kernel: the arithmetic of a pair of heads over one tile, read at an index. -/
module

public import proofs.«01_k».proof.Proof.Gen.SwaIdeal.Value
public import Idealize.ShloMosaic.Lib.Pipeline.ValueKit
public import Idealize.ShloMosaic.Lib.Pointwise
public import Idealize.ShloMosaic.Lib.WordCmp
public import proofs.«01_k».proof.Proof.Attention

@[expose] public section

set_option maxRecDepth 16384

noncomputable section

open Idealize.ShloMosaic Idealize.ShloMosaic.TcCoe Idealize.ShloMosaic.WordCmp

namespace Cert.SwaIdeal.Window

open Cert.SwaIdeal Cert.SwaIdeal.Gen

/-! ## The tile's arithmetic in parts -/

/-- The lanes from `lo` to `hi`, the others zero. -/
def lanes (lo hi : BitVec 32) (X : FVec Ideal S256x128 .bf16) : FVec Ideal S256x128 .bf16 :=
  select (andi (cmpi .sge (iota .tc S256x128 32 [1] iota_S256x128_d1_w32) (broadcast S256x128 lo))
      (cmpi .slt (iota .tc S256x128 32 [1] iota_S256x128_d1_w32) (broadcast S256x128 hi)))
    X (broadcast S256x128 (Scalar.ofBits .bf16 0x0000#16))

/-- The two halves of the lanes exchanged. -/
def swap (X : FVec Ideal S256x128 .bf16) : FVec Ideal S256x128 .bf16 :=
  concatenate S256x128 1 [⟨S256x64, extractStridedSlice S256x64 ![0, 64] X slices_S256x128_o0_64_S256x64⟩,
    ⟨S256x64, extractStridedSlice S256x64 ![0, 0] X slices_S256x128_o0_0_S256x64⟩] concatenates_S256x64_S256x64_S256x128_d1

/-- The masked, scaled scores of one head. -/
def scores (al : IVec S128x256 1) (k : FVec Ideal S256x128 .bf16) (q : FVec Ideal S128x128 .bf16) : FVec Ideal S128x256 .f32 :=
  select al (mulf (matmul dot_S128x128_S256x128_S128x256_1_1_0_0_n_n none q k (constant S128x256 .f32 0x00000000#32))
    (broadcast S128x256 (Scalar.ofBits .f32 0x3E000000#32))) (broadcast S128x256 (Named.named κ "mask" 0xF149F2CA#32))

/-- Every row's maximum, the sink with it. -/
def top (s : FVec Ideal S128x256 .f32) (z : Elt Ideal .f32) : FVec Ideal S128x1 .f32 :=
  maximumf (shapeCast S128x1 (multiReduction .maximumf [1] S128 s 0xFF800000#32 reduces_S128x256_S128 (.inl rfl) rfl) shapeCasts_S128_S128x1)
    (broadcast S128x1 z)

/-- The unnormalised weights. -/
def weights (s : FVec Ideal S128x256 .f32) (M : FVec Ideal S128x1 .f32) : FVec Ideal S128x256 .f32 :=
  exp (subf s (broadcastTo S128x256 M broadcasts_S128x1_S128x256))

/-- The inverse of every row's sum of weights, the sink's with them. -/
def inverse (w : FVec Ideal S128x256 .f32) (M : FVec Ideal S128x1 .f32) (z : Elt Ideal .f32) : FVec Ideal S128x1 .f32 :=
  divf (broadcast S128x1 (Scalar.ofBits .f32 0x3F800000#32))
    (addf (shapeCast S128x1 (multiReduction .add [1] S128 w 0x00000000#32 reduces_S128x256_S128 (.inl rfl) rfl) shapeCasts_S128_S128x1)
      (exp (subf (broadcast S128x1 z) M)))

/-- One head's output over the lanes of `v`. -/
def head (al : IVec S128x256 1) (k v : FVec Ideal S256x128 .bf16) (q : FVec Ideal S128x128 .bf16) (z : Elt Ideal .f32) : FVec Ideal S128x128 .f32 :=
  matmul dot_S128x256_S256x128_S128x128_1_0_0_1_n_n none
    (truncf .bf16 (mulf (weights (scores al k q) (top (scores al k q) z))
      (broadcastTo S128x256 (inverse (weights (scores al k q) (top (scores al k q) z)) (top (scores al k q) z) z) broadcasts_S128x1_S128x256)) bitsLt_bf16_f32)
    v (constant S128x128 .f32 0x00000000#32)

/-- The gate. -/
def gate (g : FVec Ideal S128x128 .bf16) : FVec Ideal S128x128 .f32 :=
  mulf (extf .f32 g bitsLt_bf16_f32) (divf (broadcast S128x128 (Scalar.ofBits .f32 0x3F800000#32))
    (addf (broadcast S128x128 (Scalar.ofBits .f32 0x3F800000#32))
      (exp (subf (broadcast S128x128 (Scalar.ofBits .f32 0x00000000#32)) (extf .f32 g bitsLt_bf16_f32)))))

/-- A pair of heads, gated and rounded. -/
def pair (al : IVec S128x256 1) (kA vA kB vB : FVec Ideal S256x128 .bf16) (q g : FVec Ideal S128x128 .bf16) (zA zB : Elt Ideal .f32) :
    FVec Ideal S128x128 .bf16 :=
  truncf .bf16 (mulf (addf (addf (broadcast S128x128 (Scalar.ofBits .f32 0x00000000#32)) (head al kA vA q zA)) (head al kB vB q zB)) (gate g))
    bitsLt_bf16_f32

/-! ## The parts read at an index -/

/-- Which keys of a tile's window a row may see. -/
theorem allowed_at (i : grid0.Coords) (r : Fin 128) (c : Fin 256) (hn : (i 1).val < 32) :
    k0_pay4 i (ix2 r c) = 1#1 ↔ r.val < c.val ∧ c.val ≤ r.val + 128 ∧ (128 ≤ c.val ∨ 0 < (i 1).val) := by
  have hr := r.isLt
  have hc := c.isLt
  have e : IntOp.addi (BitVec.ofNat 32 r.val) 128#32 = BitVec.ofNat 32 (r.val + 128) := by
    show BitVec.ofNat 32 r.val + BitVec.ofNat 32 128 = _
    rw [← BitVec.ofNat_add]
  pointwise [k0_pay4]
  rw [e, cmpi_sgt_ofNat (by omega) (by omega), cmpi_sle_ofNat (by omega) (by omega), cmpi_sge_ofNat (by omega) (by omega),
    show Scalar.cmpi CmpIPredicate.sgt (BitVec.ofNat 32 (i 1).val) 0#32 = IntOp.cmpi .sgt (BitVec.ofNat 32 (i 1).val) (BitVec.ofNat 32 0) from rfl,
    cmpi_sgt_ofNat (by omega) (by omega), andi_ofBool, ori_ofBool, andi_ofBool, ofBool_eq_one_iff]
  simp only [Bool.and_eq_true, Bool.or_eq_true, decide_eq_true_iff]
  omega

theorem lanes_at (lo hi : ℕ) (hlo : lo < 1024) (hhi : hi < 1024) (X : FVec Ideal S256x128 .bf16) (c : Fin 256) (l : Fin 128) :
    lanes (BitVec.ofNat 32 lo) (BitVec.ofNat 32 hi) X (ix2 c l) = if lo ≤ l.val ∧ l.val < hi then X (ix2 c l) else 0 := by
  have hl := l.isLt
  pointwise [lanes]
  rw [cmpi_sge_ofNat (by omega) (by omega), cmpi_slt_ofNat (by omega) (by omega), andi_ofBool]
  unfold Scalar.select
  refine if_congr ?_ rfl rfl
  rw [ofBool_eq_one_iff']
  simp only [Bool.and_eq_true, decide_eq_true_iff]

theorem swap_at (X : FVec Ideal S256x128 .bf16) (c : Fin 256) (l : Fin 128) :
    swap X (ix2 c l) = if h : l.val < 64 then X (ix2 c ⟨64 + l.val, by omega⟩) else X (ix2 c ⟨l.val - 64, by omega⟩) := by
  pointwise [swap]

/-- `X` holds `f` in its lower lanes and zero in the upper ones. -/
def Low (X : FVec Ideal S256x128 .bf16) (f : Fin 256 → Fin 64 → EReal) : Prop :=
  ∀ (c : Fin 256) (l : Fin 128), X (ix2 c l) = if h : l.val < 64 then f c ⟨l.val, h⟩ else 0

/-- `X` holds `f` in its upper lanes and zero in the lower ones. -/
def High (X : FVec Ideal S256x128 .bf16) (f : Fin 256 → Fin 64 → EReal) : Prop :=
  ∀ (c : Fin 256) (l : Fin 128), X (ix2 c l) = if h : l.val < 64 then 0 else f c ⟨l.val - 64, by omega⟩

theorem low_lower (X : FVec Ideal S256x128 .bf16) : Low (lanes 0#32 64#32 X) fun c e => X (ix2 c ⟨e.val, by omega⟩) := fun c l => by
  rw [lanes_at 0 64 (by omega) (by omega)]
  by_cases h : l.val < 64
  · rw [if_pos ⟨Nat.zero_le _, h⟩, dif_pos h]
  · rw [if_neg fun hh => h hh.2, dif_neg h]

theorem high_lower (X : FVec Ideal S256x128 .bf16) : High (swap (lanes 0#32 64#32 X)) fun c e => X (ix2 c ⟨e.val, by omega⟩) := fun c l => by
  have hl := l.isLt
  rw [swap_at]
  by_cases h : l.val < 64
  · rw [dif_pos h, dif_pos h, lanes_at 0 64 (by omega) (by omega), if_neg]
    rintro ⟨-, hh⟩
    have : 64 + l.val < 64 := hh
    omega
  · rw [dif_neg h, dif_neg h, lanes_at 0 64 (by omega) (by omega), if_pos]
    exact ⟨Nat.zero_le _, by show l.val - 64 < 64; omega⟩

theorem low_upper (X : FVec Ideal S256x128 .bf16) : Low (swap (lanes 64#32 128#32 X)) fun c e => X (ix2 c ⟨64 + e.val, by omega⟩) := fun c l => by
  have hl := l.isLt
  rw [swap_at]
  by_cases h : l.val < 64
  · rw [dif_pos h, dif_pos h, lanes_at 64 128 (by omega) (by omega), if_pos]
    exact ⟨by show 64 ≤ 64 + l.val; omega, by show 64 + l.val < 128; omega⟩
  · rw [dif_neg h, dif_neg h, lanes_at 64 128 (by omega) (by omega), if_neg]
    rintro ⟨hh, -⟩
    have : 64 ≤ l.val - 64 := hh
    omega

theorem high_upper (X : FVec Ideal S256x128 .bf16) : High (lanes 64#32 128#32 X) fun c e => X (ix2 c ⟨64 + e.val, by omega⟩) := fun c l => by
  have hl := l.isLt
  rw [lanes_at 64 128 (by omega) (by omega)]
  by_cases h : l.val < 64
  · rw [if_neg fun hh => by omega, dif_pos h]
  · rw [if_pos ⟨by omega, hl⟩, dif_neg h]
    exact congrArg X (congrArg (ix2 c) (Fin.ext (by show l.val = 64 + (l.val - 64); omega)))

/-- A masked, scaled product: the score of a query with a key. -/
def score (al : Prop) [Decidable al] (q k : Fin 64 → EReal) : EReal :=
  if al then (∑ e, q e * k e) * Ideal.ofBits .f32 0x3E000000#32 else ⊥

theorem scores_at (al : IVec S128x256 1) (k : FVec Ideal S256x128 .bf16) (q : FVec Ideal S128x128 .bf16) (r : Fin 128) (c : Fin 256) :
    scores al k q (ix2 r c) = if al (ix2 r c) = 1#1 then (∑ x : Fin 128, q (ix2 r x) * k (ix2 c x)) * Ideal.ofBits .f32 0x3E000000#32 else ⊥ := by
  pointwise [scores]
  rfl

theorem scores_low (al : IVec S128x256 1) (k : FVec Ideal S256x128 .bf16) (f : Fin 256 → Fin 64 → EReal) (hk : Low k f)
    (q : FVec Ideal S128x128 .bf16) (r : Fin 128) (c : Fin 256) :
    scores al k q (ix2 r c) = score (al (ix2 r c) = 1#1) (fun e => q (ix2 r ⟨e.val, by omega⟩)) (f c) := by
  rw [scores_at]
  unfold score
  refine if_congr Iff.rfl (congrArg (· * _) ?_) rfl
  refine (Fin.sum_univ_add (a := 64) (b := 64) fun x : Fin (64 + 64) => q (ix2 r x) * k (ix2 c x)).trans ?_
  have h2 : ∑ i : Fin 64, q (ix2 r (Fin.natAdd 64 i)) * k (ix2 c (Fin.natAdd 64 i)) = 0 :=
    Finset.sum_eq_zero fun i _ => by
      rw [hk c (Fin.natAdd 64 i), dif_neg (by show ¬ 64 + i.val < 64; omega), mul_zero]
  rw [h2, add_zero]
  refine Finset.sum_congr rfl fun i _ => ?_
  rw [hk c (Fin.castAdd 64 i), dif_pos (show (Fin.castAdd 64 i).val < 64 from i.isLt)]
  rfl

theorem scores_high (al : IVec S128x256 1) (k : FVec Ideal S256x128 .bf16) (f : Fin 256 → Fin 64 → EReal) (hk : High k f)
    (q : FVec Ideal S128x128 .bf16) (r : Fin 128) (c : Fin 256) :
    scores al k q (ix2 r c) = score (al (ix2 r c) = 1#1) (fun e => q (ix2 r ⟨64 + e.val, by omega⟩)) (f c) := by
  rw [scores_at]
  unfold score
  refine if_congr Iff.rfl (congrArg (· * _) ?_) rfl
  refine (Fin.sum_univ_add (a := 64) (b := 64) fun x : Fin (64 + 64) => q (ix2 r x) * k (ix2 c x)).trans ?_
  have h2 : ∑ i : Fin 64, q (ix2 r (Fin.castAdd 64 i)) * k (ix2 c (Fin.castAdd 64 i)) = 0 :=
    Finset.sum_eq_zero fun i _ => by
      rw [hk c (Fin.castAdd 64 i), dif_pos (show (Fin.castAdd 64 i).val < 64 from i.isLt), mul_zero]
  rw [h2, zero_add]
  refine Finset.sum_congr rfl fun i _ => ?_
  rw [hk c (Fin.natAdd 64 i), dif_neg (by show ¬ 64 + i.val < 64; omega)]
  exact congrArg (_ * f c ·) (Fin.ext (by show 64 + i.val - 64 = i.val; omega))

theorem top_at (s : FVec Ideal S128x256 .f32) (z : Elt Ideal .f32) (r : Fin 128) :
    top s z (ix2 r 0) = Attention.top (fun c : Fin 256 => s (ix2 r c)) z := by
  have hb : Ideal.ofBits .f32 0xFF800000#32 = (⊥ : EReal) := by simp [Ideal.ofBits, Ideal.ieee]
  pointwise [top]
  rw [hb]
  rfl

theorem weights_at (s : FVec Ideal S128x256 .f32) (M : FVec Ideal S128x1 .f32) (r : Fin 128) (c : Fin 256) :
    weights s M (ix2 r c) = Ideal.exp (s (ix2 r c) - M (ix2 r 0)) := by
  pointwise [weights]

theorem inverse_at (w : FVec Ideal S128x256 .f32) (M : FVec Ideal S128x1 .f32) (z : Elt Ideal .f32) (r : Fin 128) :
    inverse w M z (ix2 r 0) = Ideal.div 1 ((∑ x : Fin 256, w (ix2 r x)) + Ideal.exp (z - M (ix2 r 0))) := by
  pointwise [inverse]

/-- One head's output is the average of the values by the weights. -/
theorem head_at (al : IVec S128x256 1) (k v : FVec Ideal S256x128 .bf16) (q : FVec Ideal S128x128 .bf16) (z : Elt Ideal .f32) (r l : Fin 128) :
    head al k v q z (ix2 r l) = Attention.average (fun c : Fin 256 => scores al k q (ix2 r c)) z (fun c => v (ix2 c l)) := by
  have h : head al k v q z (ix2 r l) = ∑ x : Fin 256, weights (scores al k q) (top (scores al k q) z) (ix2 r x) *
      inverse (weights (scores al k q) (top (scores al k q) z)) (top (scores al k q) z) z (ix2 r 0) * v (ix2 x l) := by
    pointwise [head]
  rw [h, inverse_at, top_at]
  simp only [weights_at, top_at]
  rfl

theorem average_zero {ι : Type} [Fintype ι] (s v : ι → EReal) (z : EReal) (hv : ∀ i, v i = 0) : Attention.average s z v = 0 :=
  Finset.sum_eq_zero fun i _ => by rw [hv i, mul_zero]

/-- The gate of one entry. -/
def silu (x : EReal) : EReal := x * Ideal.div 1 (1 + Ideal.exp (-x))

theorem pair_at (al : IVec S128x256 1) (kA vA kB vB : FVec Ideal S256x128 .bf16) (q g : FVec Ideal S128x128 .bf16) (zA zB : Elt Ideal .f32)
    (r l : Fin 128) :
    pair al kA vA kB vB q g zA zB (ix2 r l) = (head al kA vA q zA (ix2 r l) + head al kB vB q zB (ix2 r l)) * silu (g (ix2 r l)) := by
  pointwise [pair, gate]
  rw [zero_sub]
  rfl

/-- A pair of heads: the lower lanes hold the first head's output, the upper lanes the second's. -/
theorem pair_heads (al : IVec S128x256 1) (kA vA kB vB : FVec Ideal S256x128 .bf16) (q g : FVec Ideal S128x128 .bf16) (zA zB : Elt Ideal .f32)
    (f h : Fin 256 → Fin 64 → EReal) (hkA : Low kA f) (hvA : Low vA h) (hkB : High kB f) (hvB : High vB h) (r l : Fin 128) :
    pair al kA vA kB vB q g zA zB (ix2 r l)
      = Attention.average (fun c : Fin 256 => score (al (ix2 r c) = 1#1) (fun e => q (ix2 r ⟨l.val / 64 * 64 + e.val, by omega⟩)) (f c))
          (if l.val < 64 then zA else zB) (fun c => h c ⟨l.val % 64, by omega⟩) * silu (g (ix2 r l)) := by
  have hl := l.isLt
  rw [pair_at, head_at, head_at]
  refine congrArg (· * _) ?_
  by_cases hlt : l.val < 64
  · rw [average_zero _ (fun c => vB (ix2 c l)) _ (fun c => by rw [hvB c l, dif_pos hlt]), add_zero, if_pos hlt]
    refine congrArg₂ (fun s v => Attention.average s zA v) (funext fun c => ?_) (funext fun c => ?_)
    · rw [scores_low al kA f hkA]
      refine congrArg (fun a => score _ a _) (funext fun e => congrArg (fun x => q (ix2 r x)) (Fin.ext ?_))
      show e.val = l.val / 64 * 64 + e.val
      omega
    · rw [hvA c l, dif_pos hlt]
      exact congrArg (h c) (Fin.ext (by show l.val = l.val % 64; omega))
  · rw [average_zero _ (fun c => vA (ix2 c l)) _ (fun c => by rw [hvA c l, dif_neg hlt]), zero_add, if_neg hlt]
    refine congrArg₂ (fun s v => Attention.average s zB v) (funext fun c => ?_) (funext fun c => ?_)
    · rw [scores_high al kB f hkB]
      refine congrArg (fun a => score _ a _) (funext fun e => congrArg (fun x => q (ix2 r x)) (Fin.ext ?_))
      show 64 + e.val = l.val / 64 * 64 + e.val
      omega
    · rw [hvB c l, dif_neg hlt]
      exact congrArg (h c) (Fin.ext (by show l.val - 64 = l.val % 64; omega))

end Cert.SwaIdeal.Window
-- ==== Proof.SwaRef.lean ====
/- The sliding-window attention's reference read in parts: masked scores, the row maximum with the sink, the weights, their sum, the output. -/
module

public import proofs.«01_k».proof.Proof.Gen.SwaRefIdeal.Run
public import Idealize.ShloMosaic.Lib.Pipeline.ValueKit
public import Idealize.ShloMosaic.Lib.Pointwise
public import Idealize.ShloMosaic.Lib.WordCmp
public import proofs.«01_k».proof.Proof.Attention

@[expose] public section

set_option maxRecDepth 16384

noncomputable section

open Idealize.ShloMosaic Idealize.ShloMosaic.TcCoe Idealize.ShloMosaic.WordCmp

namespace Cert.SwaRefIdeal.Window

open Cert.SwaRefIdeal Cert.SwaRefIdeal.Gen

/-- The band of allowed (query, key) pairs. -/
def band : IVec S4096x4096 1 :=
  andi (cmpi .sge (subi (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))
      (broadcastInDim S4096x4096 ![] bcast_S_S4096x4096 (constantI S_ 32 0#32)))
    (cmpi .slt (subi (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))
      (broadcastInDim S4096x4096 ![] bcast_S_S4096x4096 (constantI S_ 32 128#32)))

/-- The masked, scaled scores. -/
def scores (P : FVec Ideal S8192x15872 .bf16) : FVec Ideal S2x2x8x4096x4096 .f32 :=
  select (broadcastInDim S2x2x8x4096x4096 ![0, 1, 2, 3, 4] bcast_S1x1x1x4096x4096_S2x2x8x4096x4096_0_1_2_3_4 (broadcastInDim S1x1x1x4096x4096 ![3, 4] bcast_S4096x4096_S1x1x1x4096x4096_3_4 band))
    (mulf (transpose S2x2x8x4096x4096 [0, 1, 4, 3, 2] (Host.dotGeneral dot_S2x4096x2x64_S2x4096x2x8x64_S2x2x4096x4096x8_3_4_1_13_02_02 none
        (shapeCast _ (extractStridedSlice S8192x128 ![0, 15360] (extf .f32 P bitsLt_bf16_f32) slices_S8192x15872_S8192x128_0_15360) shapeCasts_S8192x128_S2x4096x2x64)
        (shapeCast _ (extractStridedSlice S8192x1024 ![0, 8192] (extf .f32 P bitsLt_bf16_f32) slices_S8192x15872_S8192x1024_0_8192) shapeCasts_S8192x1024_S2x4096x2x8x64))
        transposes_S2x2x4096x4096x8_S2x2x8x4096x4096_0_1_4_3_2)
      (broadcastInDim S2x2x8x4096x4096 ![] bcast_S_S2x2x8x4096x4096 (constant S_ .f32 0x3E000000#32)))
    (broadcastInDim S2x2x8x4096x4096 ![] bcast_S_S2x2x8x4096x4096 (id (constant S_ .f32 0xFF800000#32)))

/-- The scores with the sink as one more key. -/
def withSink (s : FVec Ideal S2x2x8x4096x4096 .f32) (z : FVec Ideal S16 .f32) : FVec Ideal S2x2x8x4096x4097 .f32 :=
  concatenate S2x2x8x4096x4097 4 [⟨S2x2x8x4096x4096, s⟩, ⟨S2x2x8x4096x1, (broadcastInDim S2x2x8x4096x1 ![0, 1, 2, 3, 4] bcast_S1x2x8x1x1_S2x2x8x4096x1_0_1_2_3_4 (shapeCast _ z shapeCasts_S16_S1x2x8x1x1))⟩] concatenates_S2x2x8x4096x4096_S2x2x8x4096x1_S2x2x8x4096x4097_d4

/-- Every row's maximum. -/
def top (s : FVec Ideal S2x2x8x4096x4097 .f32) : FVec Ideal S2x2x8x4096 .f32 :=
  maximumf (broadcastInDim S2x2x8x4096 ![] bcast_S_S2x2x8x4096 (constant S_ .f32 0xFF800000#32))
    (Host.reduce FloatOps.maximumf s (constant S_ .f32 0xFF800000#32) reducesTo_S2x2x8x4096x4097_S2x2x8x4096_d4 h_S_)

/-- The unnormalised weights. -/
def weights (s : FVec Ideal S2x2x8x4096x4097 .f32) (M : FVec Ideal S2x2x8x4096 .f32) : FVec Ideal S2x2x8x4096x4097 .f32 :=
  Host.exp (subf s (broadcastInDim S2x2x8x4096x4097 ![0, 1, 2, 3, 4] bcast_S2x2x8x4096x1_S2x2x8x4096x4097_0_1_2_3_4 (broadcastInDim S2x2x8x4096x1 ![0, 1, 2, 3] bcast_S2x2x8x4096_S2x2x8x4096x1_0_1_2_3 M)))

/-- Every row's sum of weights. -/
def total (w : FVec Ideal S2x2x8x4096x4097 .f32) : FVec Ideal S2x2x8x4096 .f32 :=
  Host.reduceAdd w (constant S_ .f32 0x00000000#32) reducesTo_S2x2x8x4096x4097_S2x2x8x4096_d4 h_S_

/-- The weights' average of the values. -/
def attend (P : FVec Ideal S8192x15872 .bf16) (w : FVec Ideal S2x2x8x4096x4097 .f32) (l : FVec Ideal S2x2x8x4096 .f32) : FVec Ideal S8192x1024 .f32 :=
  shapeCast _ (transpose S2x4096x2x8x64 [0, 4, 1, 3, 2] (Host.dotGeneral dot_S2x4096x2x64_S2x2x8x4096x4096_S2x2x64x8x4096_1_4_3_23_02_01 none
      (shapeCast _ (extractStridedSlice S8192x128 ![0, 15488] (extf .f32 P bitsLt_bf16_f32) slices_S8192x15872_S8192x128_0_15488) shapeCasts_S8192x128_S2x4096x2x64)
      (extractStridedSlice S2x2x8x4096x4096 ![0, 0, 0, 0, 0] (Host.divf w
        (broadcastInDim S2x2x8x4096x4097 ![0, 1, 2, 3, 4] bcast_S2x2x8x4096x1_S2x2x8x4096x4097_0_1_2_3_4 (broadcastInDim S2x2x8x4096x1 ![0, 1, 2, 3] bcast_S2x2x8x4096_S2x2x8x4096x1_0_1_2_3 l)))
        slices_S2x2x8x4096x4097_S2x2x8x4096x4096_0_0_0_0_0)) transposes_S2x2x64x8x4096_S2x4096x2x8x64_0_4_1_3_2) shapeCasts_S2x4096x2x8x64_S8192x1024

/-- The gate. -/
def gate (P : FVec Ideal S8192x15872 .bf16) : FVec Ideal S8192x1024 .f32 :=
  mulf (extractStridedSlice S8192x1024 ![0, 9216] (extf .f32 P bitsLt_bf16_f32) slices_S8192x15872_S8192x1024_0_9216)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 9216] (extf .f32 P bitsLt_bf16_f32) slices_S8192x15872_S8192x1024_0_9216)))))

/-- The gated output, rounded. -/
def out (P : FVec Ideal S8192x15872 .bf16) (z : FVec Ideal S16 .f32) : FVec Ideal S8192x1024 .bf16 :=
  truncf .bf16 (mulf (attend P (weights (withSink (scores P) z) (top (withSink (scores P) z)))
    (total (weights (withSink (scores P) z) (top (withSink (scores P) z))))) (gate P)) bitsLt_bf16_f32

/-- The reference's result is `out`. -/
theorem result (m : (ℓ : Loc nD τ sig) → Buf (Elt Ideal) ℓ) (c : Dev nD) :
    Value.res_out0 m c = out (m ((c : Thread nD τ).loc main_arg0)) (m ((c : Thread nD τ).loc main_arg1)) := rfl

/-! ## The parts read at an index -/

/-- The index with the last coordinate put back. -/
theorem lift_at {n : ℕ} (h : (⟨5, ![2, 2, 8, 4096, n]⟩ : Shape).Reduces [4] (⟨4, ![2, 2, 8, 4096]⟩ : Shape)) (b k : Fin 2) (g : Fin 8)
    (s : Fin 4096) (x : Fin ((⟨5, ![2, 2, 8, 4096, n]⟩ : Shape).size 4)) :
    h.lift (ix4 b k g s) x = ix5 b k g s (⟨x.val, x.isLt⟩ : Fin n) := by
  funext a; apply Fin.ext
  fin_cases a <;> rfl

/-- The host's maximum over the last axis, from −∞. -/
theorem rowMax_at {n : ℕ} (X : FVec Ideal (⟨5, ![2, 2, 8, 4096, n]⟩ : Shape) .f32)
    (h' : (⟨5, ![2, 2, 8, 4096, n]⟩ : Shape).ReducesTo [4] (⟨4, ![2, 2, 8, 4096]⟩ : Shape))
    (h : (⟨5, ![2, 2, 8, 4096, n]⟩ : Shape).Reduces [4] (⟨4, ![2, 2, 8, 4096]⟩ : Shape))
    (hu : 0 < (⟨0, ![]⟩ : Shape).numel) (b k : Fin 2) (g : Fin 8) (s : Fin 4096) :
    Host.reduce FloatOps.maximumf X (constant (⟨0, ![]⟩ : Shape) .f32 0xFF800000#32) h' hu (ix4 b k g s)
      = Finset.univ.sup fun x : Fin n => X (ix5 b k g s x) := by
  rw [Host.reduce_eq_fold_single FloatOps.maximumf X _ h' h hu]
  have hf : (X ∘ h.lift (ix4 b k g s)) = fun x : Fin n => X (ix5 b k g s x) := funext fun x => congrArg X (lift_at h b k g s x)
  have hb : Ideal.ofBits .f32 0xFF800000#32 = (⊥ : EReal) := by simp [Ideal.ofBits, Ideal.ieee]
  refine (congrArg (fun f => Finset.fold max (Ideal.ofBits .f32 0xFF800000#32) f (Finset.univ : Finset (Fin n))) hf).trans ?_
  rw [hb]
  rfl

/-- A maximum with −∞ is the other side. -/
theorem max_bot_at (A B : FVec Ideal S2x2x8x4096 .f32) (i : S2x2x8x4096.Idx) (hA : A i = (⊥ : EReal)) : maximumf A B i = B i := by
  show max (A i : EReal) (B i) = B i
  rw [hA]
  exact max_eq_right bot_le

theorem top_at (X : FVec Ideal S2x2x8x4096x4097 .f32) (b k : Fin 2) (g : Fin 8) (s : Fin 4096) :
    top X (ix4 b k g s) = Finset.univ.sup fun x : Fin 4097 => X (ix5 b k g s x) :=
  (max_bot_at _ _ _ (by show Ideal.ofBits .f32 0xFF800000#32 = (⊥ : EReal); simp [Ideal.ofBits, Ideal.ieee])).trans
    (rowMax_at X reducesTo_S2x2x8x4096x4097_S2x2x8x4096_d4 (by decide) h_S_ b k g s)

/-- The band as a condition on the two positions. -/
theorem band_at (s j : Fin 4096) : band (ix2 s j) = 1#1 ↔ j.val ≤ s.val ∧ s.val < j.val + 128 := by
  have h : band (ix2 s j) = IntOp.andi (IntOp.cmpi CmpIPredicate.sge (IntOp.subi (BitVec.ofNat 32 s.val) (BitVec.ofNat 32 j.val)) 0#32)
      (IntOp.cmpi CmpIPredicate.slt (IntOp.subi (BitVec.ofNat 32 s.val) (BitVec.ofNat 32 j.val)) 128#32) := by
    pointwise [band]
  have e : (IntOp.subi (BitVec.ofNat 32 s.val) (BitVec.ofNat 32 j.val)).toInt = (s.val : Int) - j.val := by
    have h1 := s.isLt
    have h2 := j.isLt
    show (BitVec.ofNat 32 s.val - BitVec.ofNat 32 j.val).toInt = _
    rw [BitVec.toInt_sub, toInt_ofNat_of_lt (by omega), toInt_ofNat_of_lt (by omega)]
    exact Int.bmod_eq_of_le (by norm_num; omega) (by norm_num; omega)
  have h0 : (0#32).toInt = 0 := by decide
  have h128 : (128#32).toInt = 128 := by decide
  rw [h, cmpi_sge_eq, cmpi_slt_eq, e, h0, h128, andi_ofBool, ofBool_eq_one_iff, Bool.and_eq_true, decide_eq_true_iff, decide_eq_true_iff]
  omega

theorem scores_at (P : FVec Ideal S8192x15872 .bf16) (b h : Fin 2) (g : Fin 8) (s j : Fin 4096) :
    scores P (ix5 b h g s j) = if j.val ≤ s.val ∧ s.val < j.val + 128 then
      (∑ x : Fin 64, P (ix2 ⟨b.val * 4096 + s.val, by omega⟩ ⟨8192 + (h.val * 512 + g.val * 64 + x.val), by omega⟩) *
          P (ix2 ⟨b.val * 4096 + j.val, by omega⟩ ⟨15360 + (h.val * 64 + x.val), by omega⟩)) *
        Ideal.ofBits .f32 0x3E000000#32
      else ⊥ := by
  have hc : ((j.val ≤ s.val ∧ s.val < j.val + 128) ↔ band (ix2 s j) = 1) := (band_at s j).symm
  have hb : Ideal.ofBits .f32 0xFF800000#32 = (⊥ : EReal) := by simp [Ideal.ofBits, Ideal.ieee]
  rw [if_congr hc rfl rfl]
  pointwise [scores]
  rw [show (id (constant (F := Ideal) S_ FTy.f32 4286578688#32) ix0) = (⊥ : EReal) from hb]
  unfold Scalar.select
  exact if_congr Iff.rfl (congrArg (· * _) (Finset.sum_congr rfl fun x _ => mul_comm _ _)) rfl

theorem withSink_at (S : FVec Ideal S2x2x8x4096x4096 .f32) (z : FVec Ideal S16 .f32) (b h : Fin 2) (g : Fin 8) (s : Fin 4096) (j : Fin 4097) :
    withSink S z (ix5 b h g s j) = if hj : j.val < 4096 then S (ix5 b h g s ⟨j.val, hj⟩) else z (ix1 ⟨h.val * 8 + g.val, by omega⟩) := by
  pointwise [withSink]

theorem weights_at (X : FVec Ideal S2x2x8x4096x4097 .f32) (M : FVec Ideal S2x2x8x4096 .f32) (b h : Fin 2) (g : Fin 8) (s : Fin 4096) (j : Fin 4097) :
    weights X M (ix5 b h g s j) = Ideal.exp (X (ix5 b h g s j) - M (ix4 b h g s)) := by
  pointwise [weights]

theorem total_at (w : FVec Ideal S2x2x8x4096x4097 .f32) (b h : Fin 2) (g : Fin 8) (s : Fin 4096) :
    total w (ix4 b h g s) = ∑ x : Fin 4097, w (ix5 b h g s x) := by
  pointwise [total]

theorem attend_at (P : FVec Ideal S8192x15872 .bf16) (w : FVec Ideal S2x2x8x4096x4097 .f32) (l : FVec Ideal S2x2x8x4096 .f32) (i : Fin 8192) (d : Fin 1024) :
    attend P w l (ix2 i d) = ∑ x : Fin 4096,
      P (ix2 ⟨i.val / 4096 * 4096 + x.val, by omega⟩ ⟨15488 + (d.val / 512 * 64 + d.val % 64), by omega⟩) *
        Ideal.div (w (ix5 ⟨i.val / 4096, by omega⟩ ⟨d.val / 512, by omega⟩ ⟨d.val / 64 % 8, by omega⟩ ⟨i.val % 4096, by omega⟩ ⟨x.val, by omega⟩))
          (l (ix4 ⟨i.val / 4096, by omega⟩ ⟨d.val / 512, by omega⟩ ⟨d.val / 64 % 8, by omega⟩ ⟨i.val % 4096, by omega⟩)) := by
  pointwise [attend]

theorem gate_at (P : FVec Ideal S8192x15872 .bf16) (i : Fin 8192) (d : Fin 1024) :
    gate P (ix2 i d) = P (ix2 i ⟨9216 + d.val, by omega⟩) * Ideal.div 1 (1 + Ideal.exp (-P (ix2 i ⟨9216 + d.val, by omega⟩))) := by
  pointwise [gate]

/-! ## The result as an average -/

theorem sup_castSucc {n : ℕ} (f : Fin (n + 1) → EReal) :
    Finset.univ.sup f = max (Finset.univ.sup fun i : Fin n => f i.castSucc) (f (Fin.last n)) := by
  refine le_antisymm (Finset.sup_le fun i _ => ?_) (max_le (Finset.sup_le fun i _ => Finset.le_sup (f := f) (Finset.mem_univ _)) (Finset.le_sup (f := f) (Finset.mem_univ _)))
  refine Fin.lastCases (le_max_right _ _) (fun i => ?_) i
  exact le_max_of_le_left (Finset.le_sup (f := fun i : Fin n => f i.castSucc) (Finset.mem_univ i))

/-- The scores of one query with all the keys. -/
def row (P : FVec Ideal S8192x15872 .bf16) (b k : Fin 2) (g : Fin 8) (s : Fin 4096) : Fin 4096 → EReal :=
  fun j => scores P (ix5 b k g s j)

theorem withSink_castSucc (P : FVec Ideal S8192x15872 .bf16) (z : FVec Ideal S16 .f32) (b k : Fin 2) (g : Fin 8) (s j : Fin 4096) :
    withSink (scores P) z (ix5 b k g s (Fin.castSucc (n := 4096) j)) = row P b k g s j := by
  rw [withSink_at, dif_pos (show (Fin.castSucc (n := 4096) j).val < 4096 from j.isLt)]
  rfl

theorem withSink_last (S : FVec Ideal S2x2x8x4096x4096 .f32) (z : FVec Ideal S16 .f32) (b k : Fin 2) (g : Fin 8) (s : Fin 4096) :
    withSink S z (ix5 b k g s (Fin.last 4096)) = z (ix1 ⟨k.val * 8 + g.val, by omega⟩) := by
  rw [withSink_at, dif_neg (show ¬ (Fin.last 4096).val < 4096 from lt_irrefl _)]

theorem top_row (P : FVec Ideal S8192x15872 .bf16) (z : FVec Ideal S16 .f32) (b k : Fin 2) (g : Fin 8) (s : Fin 4096) :
    top (withSink (scores P) z) (ix4 b k g s) = Attention.top (row P b k g s) (z (ix1 ⟨k.val * 8 + g.val, by omega⟩)) := by
  rw [top_at]
  refine (sup_castSucc (n := 4096) _).trans ?_
  rw [withSink_last]
  exact congrArg (fun f : Fin 4096 → EReal => max (Finset.univ.sup f) _) (funext fun j => withSink_castSucc P z b k g s j)

theorem weight_row (P : FVec Ideal S8192x15872 .bf16) (z : FVec Ideal S16 .f32) (b k : Fin 2) (g : Fin 8) (s j : Fin 4096) :
    weights (withSink (scores P) z) (top (withSink (scores P) z)) (ix5 b k g s (Fin.castSucc (n := 4096) j))
      = Ideal.exp (row P b k g s j - Attention.top (row P b k g s) (z (ix1 ⟨k.val * 8 + g.val, by omega⟩))) := by
  rw [weights_at, top_row, withSink_castSucc]

theorem total_row (P : FVec Ideal S8192x15872 .bf16) (z : FVec Ideal S16 .f32) (b k : Fin 2) (g : Fin 8) (s : Fin 4096) :
    total (weights (withSink (scores P) z) (top (withSink (scores P) z))) (ix4 b k g s)
      = Attention.total (row P b k g s) (z (ix1 ⟨k.val * 8 + g.val, by omega⟩)) := by
  rw [total_at]
  refine (Fin.sum_univ_castSucc (n := 4096) _).trans ?_
  unfold Attention.total
  refine congrArg₂ (· + ·) (Finset.sum_congr rfl fun j _ => weight_row P z b k g s j) ?_
  rw [weights_at, top_row, withSink_last]

/-- One entry of the result: the average of the values over all the keys, times the gate. -/
theorem out_at (P : FVec Ideal S8192x15872 .bf16) (z : FVec Ideal S16 .f32) (i : Fin 8192) (d : Fin 1024)
    (hs : ∀ (b k : Fin 2) (g : Fin 8) (s j : Fin 4096), row P b k g s j ≠ ⊤) (hz : ∀ h, Attention.IsNum (z h)) :
    out P z (ix2 i d) = Attention.average (row P ⟨i.val / 4096, by omega⟩ ⟨d.val / 512, by omega⟩ ⟨d.val / 64 % 8, by omega⟩ ⟨i.val % 4096, by omega⟩)
        (z (ix1 ⟨d.val / 64, by omega⟩))
        (fun x => P (ix2 ⟨i.val / 4096 * 4096 + x.val, by omega⟩ ⟨15488 + (d.val / 512 * 64 + d.val % 64), by omega⟩))
      * gate P (ix2 i d) := by
  show attend P _ _ (ix2 i d) * gate P (ix2 i d) = _
  rw [attend_at, ← Attention.average_eq _ _ _ (hs _ _ _ _) (hz _)]
  refine congrArg (· * _) (Finset.sum_congr rfl fun x _ => congrArg (P _ * ·) ?_)
  have e : (⟨d.val / 64, by omega⟩ : Fin 16) = ⟨(⟨d.val / 512, by omega⟩ : Fin 2).val * 8 + (⟨d.val / 64 % 8, by omega⟩ : Fin 8).val, by omega⟩ :=
    Fin.ext (by show d.val / 64 = d.val / 512 * 8 + d.val / 64 % 8; omega)
  rw [total_row, e]
  exact congrArg (fun w => Ideal.div w _) (weight_row P z _ _ _ _ x)

end Cert.SwaRefIdeal.Window
-- ==== Proof.SwaValue.lean ====
/- The sliding-window attention's kernel: every tile of rows holds the reference's rows. -/
module

public import proofs.«01_k».proof.Proof.SwaTile
public import proofs.«01_k».proof.Proof.SwaRef

@[expose] public section

set_option maxRecDepth 16384

noncomputable section

open Idealize.ShloMosaic Idealize.ShloMosaic.TcCoe Idealize.SL.Sem
open Idealize.ShloMosaic.Pipeline (Dat)

namespace Cert.SwaIdeal.Window

open Cert.SwaIdeal Cert.SwaIdeal.Gen

/-! ## One entry of a tile -/

/-- One entry of a tile: its head's average over the tile's window of keys, times the gate. -/
def entry (al : IVec S128x256 1) (kk vv : FVec Ideal S256x128 .bf16) (q g : FVec Ideal S128x1024 .bf16) (z : Fin 16 → EReal)
    (r : Fin 128) (d : Fin 1024) : EReal :=
  Attention.average (fun c : Fin 256 => score (al (ix2 r c) = 1#1) (fun e => q (ix2 r ⟨d.val / 64 * 64 + e.val, by omega⟩))
      (fun e => kk (ix2 c ⟨d.val / 512 * 64 + e.val, by omega⟩))) (z ⟨d.val / 64, by omega⟩)
    (fun c => vv (ix2 c ⟨d.val / 512 * 64 + d.val % 64, by omega⟩)) * silu (g (ix2 r d))

section Entry
variable (al : IVec S128x256 1) (kk vv : FVec Ideal S256x128 .bf16) (q g : FVec Ideal S128x1024 .bf16) (z : Fin 16 → EReal)

/-- A pair of heads over a slice of the queries is the tile's entries there. -/
theorem pair_entry (n hk : ℕ) (hn : n < 8) (hh : hk = n / 4) (kA vA kB vB : FVec Ideal S256x128 .bf16)
    (hkA : Low kA fun c e => kk (ix2 c ⟨hk * 64 + e.val, by omega⟩)) (hvA : Low vA fun c e => vv (ix2 c ⟨hk * 64 + e.val, by omega⟩))
    (hkB : High kB fun c e => kk (ix2 c ⟨hk * 64 + e.val, by omega⟩)) (hvB : High vB fun c e => vv (ix2 c ⟨hk * 64 + e.val, by omega⟩))
    (qs gs : FVec Ideal S128x128 .bf16) (zA zB : Elt Ideal .f32) (r l : Fin 128) (d : Fin 1024) (hd : d.val = 128 * n + l.val)
    (hq : ∀ x : Fin 128, qs (ix2 r x) = q (ix2 r ⟨128 * n + x.val, by omega⟩))
    (hg : ∀ x : Fin 128, gs (ix2 r x) = g (ix2 r ⟨128 * n + x.val, by omega⟩))
    (hzA : zA = z ⟨2 * n, by omega⟩) (hzB : zB = z ⟨2 * n + 1, by omega⟩) :
    pair al kA vA kB vB qs gs zA zB (ix2 r l) = entry al kk vv q g z r d := by
  have hl := l.isLt
  rw [pair_heads al kA vA kB vB qs gs zA zB _ _ hkA hvA hkB hvB]
  unfold entry
  have e1 : (if l.val < 64 then zA else zB) = z ⟨d.val / 64, by omega⟩ := by
    by_cases h : l.val < 64
    · rw [if_pos h, hzA]; exact congrArg z (Fin.ext (by show 2 * n = d.val / 64; omega))
    · rw [if_neg h, hzB]; exact congrArg z (Fin.ext (by show 2 * n + 1 = d.val / 64; omega))
  have e2 : gs (ix2 r l) = g (ix2 r d) := (hg l).trans (congrArg g (congrArg (ix2 r) (Fin.ext hd.symm)))
  rw [e1, e2]
  refine congrArg (· * _) (congrArg₂ (fun s v => Attention.average s _ v) (funext fun c => ?_) (funext fun c => ?_))
  · refine congrArg₂ (score _) (funext fun e => (hq _).trans (congrArg q (congrArg (ix2 r) (Fin.ext ?_))))
      (funext fun e => congrArg kk (congrArg (ix2 c) (Fin.ext ?_)))
    · show 128 * n + (l.val / 64 * 64 + e.val) = d.val / 64 * 64 + e.val
      omega
    · show hk * 64 + e.val = d.val / 512 * 64 + e.val
      omega
  · refine congrArg vv (congrArg (ix2 c) (Fin.ext ?_))
    show hk * 64 + l.val % 64 = d.val / 512 * 64 + d.val % 64
    omega

end Entry

/-! ## The windows' blocks -/

variable (m : (ℓ : Loc nD τ sig) → Buf (Elt Ideal) ℓ)

/-- Where each window is at. -/
theorem idx : ∀ t : Fin cfg0.N,
    win0_0.index t = ![0] ∧ win0_1.index t = ![t.val, 8] ∧ win0_2.index t = ![t.val / 32 * 32 + (t.val % 32 - 1), 120] ∧ win0_3.index t = ![t.val, 120]
      ∧ win0_4.index t = ![t.val / 32 * 32 + (t.val % 32 - 1), 121] ∧ win0_5.index t = ![t.val, 121] ∧ win0_6.index t = ![t.val, 9]
      ∧ win0_7.index t = ![t.val, 0] ∧ (grid0.coords t 1).val = t.val % 32 ∧ t.val < 64 :=
  (by decide +kernel : ∀ t : Fin grid0.N, _)

/-- The projections and the sinks the launch starts from. -/
abbrev P (c : Dev nD) : FVec Ideal S8192x15872 .bf16 := m ((c : Thread nD τ).loc main_arg0)
abbrev Z (c : Dev nD) : FVec Ideal S16 .f32 := m ((c : Thread nD τ).loc main_arg1)

theorem query_block (c : Dev nD) (t : Fin cfg0.N) (r : Fin 128) (e : Fin 1024) (h : t.val * 128 + r.val < 8192) :
    X0_1 m c t (ix2 r e) = P m c (ix2 (⟨t.val * 128 + r.val, h⟩ : Fin 8192) (⟨8192 + e.val, by omega⟩ : Fin 15872)) := by
  unfold X0_1 Pipeline.Window.fill
  rw [dif_pos (moved0_1 t _)]
  blk_ext [iblk, V, idx t]

theorem gate_block (c : Dev nD) (t : Fin cfg0.N) (r : Fin 128) (e : Fin 1024) (h : t.val * 128 + r.val < 8192) :
    X0_6 m c t (ix2 r e) = P m c (ix2 (⟨t.val * 128 + r.val, h⟩ : Fin 8192) (⟨9216 + e.val, by omega⟩ : Fin 15872)) := by
  unfold X0_6 Pipeline.Window.fill
  rw [dif_pos (moved0_6 t _)]
  blk_ext [iblk, V, idx t]

/-- The window of keys ends with the tile's own rows and begins with those before. -/
theorem key_window (c : Dev nD) (t : Fin cfg0.N) (x : Fin 256) (e : Fin 128) (hx : 128 ≤ x.val ∨ 0 < t.val % 32)
    (h : t.val * 128 + x.val - 128 < 8192) :
    k0_pay2 (iblk m c 2 t) (iblk m c 3 t) (ix2 x e) = P m c (ix2 (⟨t.val * 128 + x.val - 128, h⟩ : Fin 8192) (⟨15360 + e.val, by omega⟩ : Fin 15872)) := by
  have hb := (idx t).2.2.2.2.2.2.2.2.2
  pointwise [k0_pay2]
  split
  · blk_ext [iblk, V, idx t]
  · blk_ext [iblk, V, idx t]

theorem value_window (c : Dev nD) (t : Fin cfg0.N) (x : Fin 256) (e : Fin 128) (hx : 128 ≤ x.val ∨ 0 < t.val % 32)
    (h : t.val * 128 + x.val - 128 < 8192) :
    k0_pay3 (iblk m c 4 t) (iblk m c 5 t) (ix2 x e) = P m c (ix2 (⟨t.val * 128 + x.val - 128, h⟩ : Fin 8192) (⟨15488 + e.val, by omega⟩ : Fin 15872)) := by
  have hb := (idx t).2.2.2.2.2.2.2.2.2
  pointwise [k0_pay3]
  split
  · blk_ext [iblk, V, idx t]
  · blk_ext [iblk, V, idx t]

theorem sink_word (c : Dev nD) (t : Fin cfg0.N) (h : Fin 16) (inb : ∀ a, (![h.val] : Fin 1 → ℕ) a + (![1] : Fin 1 → ℕ) a ≤ S16.size a)
    (x : (Rect.unit (s := S16) ![h.val] ![1] inb).shape.Idx) :
    View.ld (iblk m c 0 t) (Rect.unit ![h.val] ![1] inb) x = Z m c (ix1 h) := by
  have hx : (x 0).val < 1 := (x 0).isLt
  refine (View.ld_unit_apply_of _ _ _ _ _ (ix1 h) (fun a => ?_)).trans ?_
  · fin_cases a
    show h.val = h.val + (x 0).val
    omega
  · blk_ext [iblk, V, idx t]

theorem slice_at (X : Vec Ideal S128x1024 .bf16) (o : ℕ) (inb : ∀ a, (![0, o] : Fin 2 → ℕ) a + (![128, 128] : Fin 2 → ℕ) a ≤ S128x1024.size a)
    (ho : o + 128 ≤ 1024) (r x : Fin 128) :
    View.ld X (Rect.unit ![0, o] ![128, 128] inb) (ix2 r x) = X (ix2 r ⟨o + x.val, by omega⟩) :=
  View.ld_unit_apply_of _ _ _ _ _ _ (fun a => by fin_cases a <;> simp)

/-! ## The window of keys against all the keys -/

/-- A tile's entry is the reference's, at the tile's rows. -/
theorem entry_ref (c : Dev nD) (t : Fin cfg0.N) (r : Fin 128) (d : Fin 1024) (i : Fin 8192) (hi : i.val = t.val * 128 + r.val)
    (hs : ∀ (b k : Fin 2) (g : Fin 8) (s j : Fin 4096), Cert.SwaRefIdeal.Window.row (P m c) b k g s j ≠ ⊤) (hz : ∀ h, Attention.IsNum (Z m c h)) :
    entry (k0_pay4 (grid0.coords t)) (k0_pay2 (iblk m c 2 t) (iblk m c 3 t)) (k0_pay3 (iblk m c 4 t) (iblk m c 5 t)) (X0_1 m c t) (X0_6 m c t)
      (fun h => Z m c (ix1 h)) r d = Cert.SwaRefIdeal.Window.out (P m c) (Z m c) (ix2 i d) := by
  obtain ⟨hn, ht⟩ := (idx t).2.2.2.2.2.2.2.2
  have hal := fun x : Fin 256 => allowed_at (grid0.coords t) r x (by rw [hn]; omega)
  rw [hn] at hal
  rw [Cert.SwaRefIdeal.Window.out_at _ _ _ _ hs hz]
  unfold entry
  have hr := r.isLt
  refine congrArg₂ (· * ·) (Eq.symm ?_) ?_
  · refine Attention.average_transfer (fun x : Fin 256 => (⟨t.val % 32 * 128 + x.val - 128, by omega⟩ : Fin 4096))
      (fun x => k0_pay4 (grid0.coords t) (ix2 r x) = 1#1) _ _ _ _ _ ?_ ?_ ?_ ?_ ?_
    · intro x y hx hy he
      have h1 := (hal x).1 hx
      have h2 := (hal y).1 hy
      have h3 : t.val % 32 * 128 + x.val - 128 = t.val % 32 * 128 + y.val - 128 := congrArg Fin.val he
      exact Fin.ext (by omega)
    · intro x hx
      have h1 := (hal x).1 hx
      unfold Cert.SwaRefIdeal.Window.row score
      rw [Cert.SwaRefIdeal.Window.scores_at, if_pos hx, if_pos (by
        show t.val % 32 * 128 + x.val - 128 ≤ i.val % 4096 ∧ i.val % 4096 < t.val % 32 * 128 + x.val - 128 + 128
        omega)]
      refine congrArg (· * _) (Finset.sum_congr rfl fun e _ => congrArg₂ (· * ·) ?_ ?_)
      · beta_reduce
        rw [query_block m c t r _ (by omega)]
        refine congrArg (P m c) (congrArg₂ ix2 (Fin.ext ?_) (Fin.ext ?_))
        · show i.val / 4096 * 4096 + i.val % 4096 = t.val * 128 + r.val
          omega
        · show 8192 + (d.val / 512 * 512 + d.val / 64 % 8 * 64 + e.val) = 8192 + (d.val / 64 * 64 + e.val)
          omega
      · beta_reduce
        rw [key_window m c t x _ h1.2.2 (by omega)]
        refine congrArg (P m c) (congrArg₂ ix2 (Fin.ext ?_) (Fin.ext ?_))
        · show i.val / 4096 * 4096 + (t.val % 32 * 128 + x.val - 128) = t.val * 128 + x.val - 128
          omega
        · show 15360 + (d.val / 512 * 64 + e.val) = 15360 + (d.val / 512 * 64 + e.val)
          rfl
    · intro x hx
      have h1 := (hal x).1 hx
      rw [value_window m c t x _ h1.2.2 (by omega)]
      refine congrArg (P m c) (congrArg₂ ix2 (Fin.ext ?_) rfl)
      show i.val / 4096 * 4096 + (t.val % 32 * 128 + x.val - 128) = t.val * 128 + x.val - 128
      omega
    · intro x hx
      exact if_neg hx
    · intro j hj
      unfold Cert.SwaRefIdeal.Window.row
      rw [Cert.SwaRefIdeal.Window.scores_at, if_neg]
      rintro ⟨h1, h2⟩
      have h1' : j.val ≤ i.val % 4096 := h1
      have h2' : i.val % 4096 < j.val + 128 := h2
      refine hj ⟨j.val + 128 - t.val % 32 * 128, by omega⟩ ((hal _).2 ?_) (Fin.ext ?_)
      · show r.val < j.val + 128 - t.val % 32 * 128 ∧ j.val + 128 - t.val % 32 * 128 ≤ r.val + 128
          ∧ (128 ≤ j.val + 128 - t.val % 32 * 128 ∨ 0 < t.val % 32)
        omega
      · show t.val % 32 * 128 + (j.val + 128 - t.val % 32 * 128) - 128 = j.val
        omega
  · rw [Cert.SwaRefIdeal.Window.gate_at, gate_block m c t r d (by omega)]
    unfold silu
    rw [show (⟨t.val * 128 + r.val, by omega⟩ : Fin 8192) = i from Fin.ext hi.symm]

/-! ## The array -/

/-- The whole attention over the launched arguments. -/
abbrev REF (c : Dev nD) : FVec Ideal Cert.SwaRefIdeal.S8192x1024 .bf16 := Cert.SwaRefIdeal.Window.out (P m c) (Z m c)

theorem low_lower' (X : FVec Ideal S256x128 .bf16) (hk : ℕ) (h : hk = 0) :
    Low (lanes 0#32 64#32 X) fun c e => X (ix2 c ⟨hk * 64 + e.val, by omega⟩) := by
  subst h
  intro c l
  rw [low_lower X c l]
  simp only [Nat.zero_mul, Nat.zero_add]

theorem high_lower' (X : FVec Ideal S256x128 .bf16) (hk : ℕ) (h : hk = 0) :
    High (swap (lanes 0#32 64#32 X)) fun c e => X (ix2 c ⟨hk * 64 + e.val, by omega⟩) := by
  subst h
  intro c l
  rw [high_lower X c l]
  simp only [Nat.zero_mul, Nat.zero_add]

theorem low_upper' (X : FVec Ideal S256x128 .bf16) (hk : ℕ) (h : hk = 1) :
    Low (swap (lanes 64#32 128#32 X)) fun c e => X (ix2 c ⟨hk * 64 + e.val, by omega⟩) := by
  subst h
  intro c l
  rw [low_upper X c l]

theorem high_upper' (X : FVec Ideal S256x128 .bf16) (hk : ℕ) (h : hk = 1) :
    High (lanes 64#32 128#32 X) fun c e => X (ix2 c ⟨hk * 64 + e.val, by omega⟩) := by
  subst h
  intro c l
  rw [high_upper X c l]

section Pieces
variable (c : Dev nD) (t : Fin cfg0.N) (o a b : ℕ)
  (inb : ∀ i, (![0, o] : Fin 2 → ℕ) i + (![128, 128] : Fin 2 → ℕ) i ≤ S128x1024.size i)
  (inbA : ∀ i, (![a] : Fin 1 → ℕ) i + (![1] : Fin 1 → ℕ) i ≤ S16.size i)
  (inbB : ∀ i, (![b] : Fin 1 → ℕ) i + (![1] : Fin 1 → ℕ) i ≤ S16.size i)
  (iA : (Rect.unit (s := S16) ![a] ![1] inbA).shape.Idx) (iB : (Rect.unit (s := S16) ![b] ![1] inbB).shape.Idx)
  (kA vA kB vB : FVec Ideal S256x128 .bf16)

/-- A stored piece of a tile: a pair of heads over the piece's lanes. -/
def stored : FVec Ideal S128x128 .bf16 :=
  pair (k0_pay4 (grid0.coords t)) kA vA kB vB (View.ld (X0_1 m c t) (Rect.unit ![0, o] ![128, 128] inb))
    (View.ld (X0_6 m c t) (Rect.unit ![0, o] ![128, 128] inb))
    (View.ld (iblk m c 0 t) (Rect.unit ![a] ![1] inbA) iA)
    (View.ld (iblk m c 0 t) (Rect.unit ![b] ![1] inbB) iB)

variable (n : ℕ) (ho : o = 128 * n) (ha : a = 2 * n) (hb : b = 2 * n + 1) (r : Fin 128) (d : Fin 1024) (x : S128x128.Idx)
  (h0 : r.val = (x 0).val) (h1 : d.val = o + (x 1).val)

include ho ha hb h0 h1

theorem stored_entry (hk : ℕ) (hn : n < 8) (hh : hk = n / 4) (kk vv : FVec Ideal S256x128 .bf16)
    (hkA : Low kA fun c e => kk (ix2 c ⟨hk * 64 + e.val, by omega⟩)) (hvA : Low vA fun c e => vv (ix2 c ⟨hk * 64 + e.val, by omega⟩))
    (hkB : High kB fun c e => kk (ix2 c ⟨hk * 64 + e.val, by omega⟩)) (hvB : High vB fun c e => vv (ix2 c ⟨hk * 64 + e.val, by omega⟩)) :
    stored m c t o a b inb inbA inbB iA iB kA vA kB vB x
      = entry (k0_pay4 (grid0.coords t)) kk vv (X0_1 m c t) (X0_6 m c t) (fun h => Z m c (ix1 h)) r d := by
  subst ho ha hb
  obtain ⟨l, rfl⟩ : ∃ l : Fin 128, x = ix2 r l := ⟨x 1, by
    funext i
    fin_cases i
    · exact Fin.ext h0.symm
    · rfl⟩
  exact pair_entry _ kk vv _ _ _ n hk hn hh kA vA kB vB hkA hvA hkB hvB _ _ _ _ r l d h1
    (fun x => slice_at _ _ inb (by omega) r x) (fun x => slice_at _ _ inb (by omega) r x)
    (sink_word m c t ⟨2 * n, by omega⟩ inbA _) (sink_word m c t ⟨2 * n + 1, by omega⟩ inbB _)

theorem stored_lower (hn : n < 4) (kk vv : FVec Ideal S256x128 .bf16) :
    stored m c t o a b inb inbA inbB iA iB (lanes 0#32 64#32 kk) (lanes 0#32 64#32 vv) (swap (lanes 0#32 64#32 kk)) (swap (lanes 0#32 64#32 vv)) x
      = entry (k0_pay4 (grid0.coords t)) kk vv (X0_1 m c t) (X0_6 m c t) (fun h => Z m c (ix1 h)) r d :=
  stored_entry m c t o a b inb inbA inbB iA iB _ _ _ _ n ho ha hb r d x h0 h1 0 (by omega) (by omega) kk vv
    (low_lower' _ _ rfl) (low_lower' _ _ rfl) (high_lower' _ _ rfl) (high_lower' _ _ rfl)

theorem stored_upper (hn : 4 ≤ n) (hn' : n < 8) (kk vv : FVec Ideal S256x128 .bf16) :
    stored m c t o a b inb inbA inbB iA iB (swap (lanes 64#32 128#32 kk)) (swap (lanes 64#32 128#32 vv)) (lanes 64#32 128#32 kk) (lanes 64#32 128#32 vv) x
      = entry (k0_pay4 (grid0.coords t)) kk vv (X0_1 m c t) (X0_6 m c t) (fun h => Z m c (ix1 h)) r d :=
  stored_entry m c t o a b inb inbA inbB iA iB _ _ _ _ n ho ha hb r d x h0 h1 1 hn' (by omega) kk vv
    (low_upper' _ _ rfl) (low_upper' _ _ rfl) (high_upper' _ _ rfl) (high_upper' _ _ rfl)

end Pieces

theorem final (c : Dev nD)
    (hs : ∀ (b k : Fin 2) (g : Fin 8) (s j : Fin 4096), Cert.SwaRefIdeal.Window.row (P m c) b k g s j ≠ ⊤) (hz : ∀ h, Attention.IsNum (Z m c h)) :
    (dats m 0 c).arrAt 7 cfg0.N = REF m c := by
  refine (dats m 0 c).arrAt_eq_of_covers 7 _ (by decide +kernel) fun t _ y => ?_
  have ht := (idx t).2.2.2.2.2.2.2.2.2
  obtain ⟨r, d, rfl⟩ : ∃ (r : Fin 128) (d : Fin 1024), y = ix2 r d := ⟨y 0, y 1, by blk_ext []⟩
  have href : REF m c (((View.whole main_v0).slice (win0_7.rect t)).emb (ix2 r d)) = REF m c (ix2 (⟨t.val * 128 + r.val, by omega⟩ : Fin 8192) d) := by
    blk_ext [idx t]
  have hval := entry_ref m c t r d ⟨t.val * 128 + r.val, by omega⟩ rfl hs hz
  blk_simp
  rw [after0_7]
  unfold outsAt0
  dsimp only
  frame_out
  refine Eq.trans ?_ (hval.trans href.symm)
  canon_tiles x h
  · exact stored_upper m c t 896 14 15 inb_S128x1024_S128x128_0_896 inb_S16_S1_14 inb_S16_S1_15 _ _ 7 rfl rfl rfl r d x h0 h1 (by omega) (by omega) _ _
  · exact stored_upper m c t 768 12 13 inb_S128x1024_S128x128_0_768 inb_S16_S1_12 inb_S16_S1_13 _ _ 6 rfl rfl rfl r d x h0 h1 (by omega) (by omega) _ _
  · exact stored_upper m c t 640 10 11 inb_S128x1024_S128x128_0_640 inb_S16_S1_10 inb_S16_S1_11 _ _ 5 rfl rfl rfl r d x h0 h1 (by omega) (by omega) _ _
  · exact stored_upper m c t 512 8 9 inb_S128x1024_S128x128_0_512 inb_S16_S1_8 inb_S16_S1_9 _ _ 4 rfl rfl rfl r d x h0 h1 (by omega) (by omega) _ _
  · exact stored_lower m c t 384 6 7 inb_S128x1024_S128x128_0_384 inb_S16_S1_6 inb_S16_S1_7 _ _ 3 rfl rfl rfl r d x h0 h1 (by omega) _ _
  · exact stored_lower m c t 256 4 5 inb_S128x1024_S128x128_0_256 inb_S16_S1_4 inb_S16_S1_5 _ _ 2 rfl rfl rfl r d x h0 h1 (by omega) _ _
  · exact stored_lower m c t 128 2 3 inb_S128x1024_S128x128_0_128 inb_S16_S1_2 inb_S16_S1_3 _ _ 1 rfl rfl rfl r d x h0 h1 (by omega) _ _
  · exact stored_lower m c t 0 0 1 inb_S128x1024_S128x128_0_0 inb_S16_S1_0 inb_S16_S1_1 _ _ 0 rfl rfl rfl r d x h0 (h1.trans (Nat.zero_add _).symm) (by omega) _ _

end Cert.SwaIdeal.Window
-- ==== Proof.SwaPre.lean ====
/- The attention's precondition: the queries, the keys and the sinks are numbers, so every score is below infinity. -/
module

public import proofs.«01_k».proof.Pre_finite_swa
public import proofs.«01_k».proof.Proof.SwaRef
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.ShloMosaic.WordCmp

namespace Cert.Pre_finite_swa

/-- The shapes' relations hold. -/
theorem facts : Facts where
  slices_S8192x15872_S8192x1024_0_8192 := by decide
  bitsLt_bf16_f32 := by decide
  shapeCasts_S8192x1024_S8192x2x8x64 := by decide
  slices_S8192x15872_S8192x128_0_15360 := by decide
  shapeCasts_S8192x128_S8192x2x1x64 := by decide
  shapeCasts_S16_S1x2x8x1 := by decide
  bcast_S_S8192x2x8x64 := by decide
  bcast_S_S8192x2x1x64 := by decide
  bcast_S8192x2x1x64_S8192x2x8x64_0_1_2_3 := by decide
  bcast_S_S1x2x8x1 := by decide
  bcast_S1x2x8x1_S8192x2x8x64_0_1_2_3 := by decide

/-- A value below infinity in magnitude is a number. -/
theorem isNum_of_abs (x : EReal) (h : FloatOps.absf (F := Ideal) (φ := .f32) x < Ideal.ofBits .f32 0x7F800000#32) : Attention.IsNum x := by
  have ht : Ideal.ofBits .f32 0x7F800000#32 = (⊤ : EReal) := by simp [Ideal.ofBits, Ideal.ieee]
  rw [ht] at h
  have h' : max x (-x) < ⊤ := h
  refine ⟨fun hb => ?_, fun hb => ?_⟩
  · rw [hb] at h'
    simp at h'
  · rw [hb] at h'
    simp at h'

/-- What the precondition says of one index. -/
theorem read [Facts] (P : FVec Ideal S8192x15872 .bf16) (z : FVec Ideal S16 .f32) (h : fn P z = fun _ => 1#1)
    (s : Fin 8192) (k : Fin 2) (g : Fin 8) (x : Fin 64) :
    Attention.IsNum (P (ix2 s ⟨8192 + (k.val * 512 + g.val * 64 + x.val), by omega⟩)) ∧ Attention.IsNum (P (ix2 s ⟨15360 + (k.val * 64 + x.val), by omega⟩))
      ∧ Attention.IsNum (z (ix1 ⟨k.val * 8 + g.val, by omega⟩)) := by
  have e : fn P z (ix4 s k g x) = 1#1 := congrFun h _
  revert e
  pointwise [fn]
  rw [andi_ofBool, andi_ofBool, ofBool_eq_one_iff]
  simp only [Bool.and_eq_true, decide_eq_true_iff]
  exact fun e => ⟨isNum_of_abs _ e.1.1, isNum_of_abs _ e.1.2, isNum_of_abs _ e.2⟩

/-- The scale of the scores is a number. -/
theorem scale_isNum : Attention.IsNum (Ideal.ofBits .f32 0x3E000000#32) := by
  have h : Ideal.ofBits .f32 0x3E000000#32 = ((0.125 : ℝ) : EReal) := by
    simp [Ideal.ofBits, Ideal.ieee]
    norm_num
    rw [← EReal.coe_mul]
    norm_num
  rw [h]
  exact Attention.isNum_coe _

/-- Under the precondition no score is infinite. -/
theorem row_ne_top [Facts] (P : FVec Ideal S8192x15872 .bf16) (z : FVec Ideal S16 .f32) (h : fn P z = fun _ => 1#1)
    (b k : Fin 2) (g : Fin 8) (s j : Fin 4096) : Cert.SwaRefIdeal.Window.row P b k g s j ≠ ⊤ := by
  unfold Cert.SwaRefIdeal.Window.row
  rw [Cert.SwaRefIdeal.Window.scores_at]
  split
  · refine (Attention.IsNum.mul (Attention.isNum_sum _ _ fun x => ?_) scale_isNum).2
    exact (read P z h ⟨b.val * 4096 + s.val, by omega⟩ k g x).1.mul (read P z h ⟨b.val * 4096 + j.val, by omega⟩ k g x).2.1
  · exact bot_ne_top

/-- Under the precondition every sink is a number. -/
theorem sink_isNum [Facts] (P : FVec Ideal S8192x15872 .bf16) (z : FVec Ideal S16 .f32) (h : fn P z = fun _ => 1#1) (i : S16.Idx) :
    Attention.IsNum (z i) := by
  have hi : (i 0).val < 16 := (i 0).isLt
  have e := (read P z h 0 ⟨(i 0).val / 8, by omega⟩ ⟨(i 0).val % 8, by omega⟩ 0).2.2
  have hx : (ix1 (⟨(i 0).val / 8 * 8 + (i 0).val % 8, by omega⟩ : Fin 16) : S16.Idx) = i := by
    funext a
    fin_cases a
    exact Fin.ext (by show (i 0).val / 8 * 8 + (i 0).val % 8 = (i 0).val; omega)
  rw [← hx]
  exact e

end Cert.Pre_finite_swa
-- ==== Proof.ProjValue.lean ====
/- The input projection: the blocked product, tile by tile, is the whole product `x · w`. -/
module

public import proofs.«01_k».proof.Proof.Gen.ProjIdeal.Value
public import proofs.«01_k».proof.Proof.Gen.ProjRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Product

open Cert.ProjIdeal Cert.ProjIdeal.Gen

variable (m : (ℓ : Loc nD τ sig) → Buf (Elt Ideal) ℓ)

/-- The whole product of the two arguments, as the reference computes it. -/
abbrev REF (X : FVec Ideal Cert.ProjRefIdeal.S8192x2048 .bf16) (W : FVec Ideal Cert.ProjRefIdeal.S2048x15872 .bf16) :
    FVec Ideal Cert.ProjRefIdeal.S8192x15872 .bf16 :=
  truncf .bf16 (Host.dotGeneral Cert.ProjRefIdeal.dot_S8192x2048_S2048x15872_S8192x15872_1_0_0_1_n_n none
    (extf .f32 X Cert.ProjRefIdeal.Gen.bitsLt_bf16_f32) (extf .f32 W Cert.ProjRefIdeal.Gen.bitsLt_bf16_f32))
    Cert.ProjRefIdeal.Gen.bitsLt_bf16_f32

/-- Which tile each window is at: rows by the first grid coordinate, columns by the second. -/
theorem idx : ∀ t : Fin cfg0.N,
    win0_0.index t = ![(grid0.coords t 0).val, 0] ∧ win0_1.index t = ![0, (grid0.coords t 1).val]
      ∧ win0_2.index t = ![(grid0.coords t 0).val, (grid0.coords t 1).val] :=
  (by decide +kernel : ∀ t : Fin grid0.N, _)

/-- One entry of the tile written at a grid point is the same entry of the whole product. -/
theorem point (c : Dev nD) (t : Fin cfg0.N) (y : S1024x512.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]

/-- The result array is the whole product. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjIdeal.Product

end
-- ==== Proof.MergeRef.lean ====
/- The merge's reference read in parts: branch projections, gates, the gated sum, the residual and the row normalisation. -/
module

public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeRefIdeal.Rows

open Cert.MergeRefIdeal Cert.MergeRefIdeal.Gen

/-- Every branch's output projected to the model width. -/
def up (y0 y1 y2 : FVec Ideal S8192x1024 .bf16) (wb : FVec Ideal S3x1024x2048 .bf16) : FVec Ideal S8192x3x2048 .f32 :=
  transpose S8192x3x2048 [2, 0, 1] (Host.dotGeneral dot_S3x1024x2048_S8192x3x1024_S3x2048x8192_1_2_2_0_0_1 none
    (extf .f32 wb bitsLt_bf16_f32)
    (concatenate S8192x3x1024 1
      [⟨S8192x1x1024, broadcastInDim S8192x1x1024 ![0, 2] bcast_S8192x1024_S8192x1x1024_0_2 (extf .f32 y0 bitsLt_bf16_f32)⟩,
       ⟨S8192x1x1024, broadcastInDim S8192x1x1024 ![0, 2] bcast_S8192x1024_S8192x1x1024_0_2 (extf .f32 y1 bitsLt_bf16_f32)⟩,
       ⟨S8192x1x1024, broadcastInDim S8192x1x1024 ![0, 2] bcast_S8192x1024_S8192x1x1024_0_2 (extf .f32 y2 bitsLt_bf16_f32)⟩]
      concatenates_S8192x1x1024_S8192x1x1024_S8192x1x1024_S8192x3x1024_d1)) transposes_S3x2048x8192_S8192x3x2048_2_0_1

/-- The gates: the logistic function of the projected gate plus its bias. -/
def gates (p : FVec Ideal S8192x15872 .bf16) (bm : FVec Ideal S3x2048 .f32) : FVec Ideal S8192x3x2048 .f32 :=
  Host.divf (broadcastInDim S8192x3x2048 ![] bcast_S_S8192x3x2048 (constant S_ .f32 0x3F800000#32))
    (addf (broadcastInDim S8192x3x2048 ![] bcast_S_S8192x3x2048 (constant S_ .f32 0x3F800000#32))
      (Host.exp (Host.negf (addf
        (shapeCast _ (extractStridedSlice S8192x6144 ![0, 0] (extf .f32 p bitsLt_bf16_f32) slices_S8192x15872_S8192x6144_0_0)
          shapeCasts_S8192x6144_S8192x3x2048)
        (broadcastInDim S8192x3x2048 ![0, 1, 2] bcast_S1x3x2048_S8192x3x2048_0_1_2
          (broadcastInDim S1x3x2048 ![1, 2] bcast_S3x2048_S1x3x2048_1_2 bm))))))

/-- The gated sum over the branches. -/
def merged (u g : FVec Ideal S8192x3x2048 .f32) : FVec Ideal S8192x2048 .f32 :=
  Host.reduceAdd (mulf g u) (constant S_ .f32 0x00000000#32) reducesTo_S8192x3x2048_S8192x2048_d1 h_S_

/-- The scaled residual plus the output projection. -/
def resid (s : FVec Ideal S8192x2048 .f32) (x : FVec Ideal S8192x2048 .f32) (wo : FVec Ideal S2048x2048 .bf16) :
    FVec Ideal S8192x2048 .f32 :=
  addf (mulf (broadcastInDim S8192x2048 ![] bcast_S_S8192x2048 (constant S_ .f32 0x3FD744FD#32)) x)
    (Host.dotGeneral dot_S8192x2048_S2048x2048_S8192x2048_1_0_0_1_n_n none s (extf .f32 wo bitsLt_bf16_f32))

/-- The mean of every row, kept as a column. -/
def mean (h : FVec Ideal S8192x2048 .f32) : FVec Ideal S8192x1 .f32 :=
  Host.divf (broadcastInDim S8192x1 ![0] bcast_S8192_S8192x1_0
    (Host.reduceAdd h (constant S_ .f32 0x00000000#32) reducesTo_S8192x2048_S8192_d1 h_S_))
    (broadcastInDim S8192x1 ![] bcast_S_S8192x1 (constant S_ .f32 0x45000000#32))

/-- A row less its mean. -/
def centred (h : FVec Ideal S8192x2048 .f32) : FVec Ideal S8192x2048 .f32 :=
  subf h (broadcastInDim S8192x2048 ![0, 1] bcast_S8192x1_S8192x2048_0_1 (mean h))

/-- The normalised rows, scaled and shifted. -/
def norm (h : FVec Ideal S8192x2048 .f32) (lg lb : FVec Ideal S1x2048 .f32) : FVec Ideal S8192x2048 .f32 :=
  addf (mulf (mulf (centred h) (broadcastInDim S8192x2048 ![0, 1] bcast_S8192x1_S8192x2048_0_1
      (Host.rsqrt (addf (mean (mulf (centred h) (centred h)))
        (broadcastInDim S8192x1 ![] bcast_S_S8192x1 (constant S_ .f32 0x3727C5AC#32))))))
    (broadcastInDim S8192x2048 ![0, 1] bcast_S1x2048_S8192x2048_0_1 lg))
    (broadcastInDim S8192x2048 ![0, 1] bcast_S1x2048_S8192x2048_0_1 lb)

/-- The whole merge: the first result. -/
def out (y0 y1 y2 : FVec Ideal S8192x1024 .bf16) (p : FVec Ideal S8192x15872 .bf16) (x : FVec Ideal S8192x2048 .f32)
    (wb : FVec Ideal S3x1024x2048 .bf16) (bm : FVec Ideal S3x2048 .f32) (wo : FVec Ideal S2048x2048 .bf16)
    (lg lb : FVec Ideal S1x2048 .f32) : FVec Ideal S8192x2048 .f32 :=
  norm (resid (merged (up y0 y1 y2 wb) (gates p bm)) x wo) lg lb

variable (m : (ℓ : Loc nD τ sig) → Buf (Elt Ideal) ℓ)

/-- The first result of the reference's run is the merge of its arguments. -/
theorem result0 (c : Dev nD) : Value.res_out0 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := rfl

/-- The second result is the first, rounded. -/
theorem result1 (c : Dev nD) : Value.res_out1 m c
    = truncf .bf16 (out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9))) bitsLt_bf16_f32 := rfl

/-! ## Each part at an index -/

section At
variable (y0 y1 y2 : FVec Ideal S8192x1024 .bf16) (wb : FVec Ideal S3x1024x2048 .bf16) (p : FVec Ideal S8192x15872 .bf16)
  (bm : FVec Ideal S3x2048 .f32) (u g : FVec Ideal S8192x3x2048 .f32) (r : Fin 8192) (n : Fin 3) (d : Fin 2048)

theorem up_at0 : up y0 y1 y2 wb (ix3 r (0 : Fin 3) d) = ∑ k : Fin 1024, wb (ix3 (0 : Fin 3) k d) * y0 (ix2 r k) := by pointwise [up]
theorem up_at1 : up y0 y1 y2 wb (ix3 r (1 : Fin 3) d) = ∑ k : Fin 1024, wb (ix3 (1 : Fin 3) k d) * y1 (ix2 r k) := by pointwise [up]
theorem up_at2 : up y0 y1 y2 wb (ix3 r (2 : Fin 3) d) = ∑ k : Fin 1024, wb (ix3 (2 : Fin 3) k d) * y2 (ix2 r k) := by pointwise [up]

theorem gates_at (h : n.val * 2048 + d.val < 15872) : gates p bm (ix3 r n d)
    = Ideal.div 1 (1 + Ideal.exp (-(p (ix2 r ⟨n.val * 2048 + d.val, h⟩) + bm (ix2 n d)))) := by pointwise [gates]

theorem merged_at : merged u g (ix2 r d)
    = g (ix3 r (0 : Fin 3) d) * u (ix3 r (0 : Fin 3) d) + g (ix3 r (1 : Fin 3) d) * u (ix3 r (1 : Fin 3) d)
      + g (ix3 r (2 : Fin 3) d) * u (ix3 r (2 : Fin 3) d) := by
  pointwise [merged]
  exact Fin.sum_univ_three _

end At

end Cert.MergeRefIdeal.Rows

end
-- ==== Proof.MergeValue.lean ====
/- The merge's kernel: every tile of rows holds the reference's rows. -/
module

public import proofs.«01_k».proof.Proof.Gen.MergeIdeal.Value
public import proofs.«01_k».proof.Proof.MergeRef

@[expose] public section

set_option maxRecDepth 16384

noncomputable section

open Idealize.ShloMosaic Idealize.ShloMosaic.TcCoe Idealize.SL.Sem
open Idealize.ShloMosaic.Pipeline (Dat)

namespace Cert.MergeIdeal.Rows

open Cert.MergeIdeal Cert.MergeIdeal.Gen

/-! ## The tile's arithmetic in parts -/

/-- One gated branch of a tile. -/
def branch (y : FVec Ideal S256x1024 .bf16) (w : FVec Ideal S1x1024x2048 .bf16) (g : FVec Ideal S256x2048 .bf16)
    (b : FVec Ideal S1x2048 .f32) : FVec Ideal S256x2048 .f32 := k0_pay3 y w g b

/-- The tile's scaled residual plus output projection. -/
def resid (s x : FVec Ideal S256x2048 .f32) (wo : FVec Ideal S2048x2048 .bf16) : FVec Ideal S256x2048 .f32 :=
  addf (mulf (broadcast S256x2048 (Scalar.ofBits .f32 0x3FD744FD#32)) x)
    (matmul dot_S256x2048_S2048x2048_S256x2048_1_0_0_1_n_n none (truncf .bf16 s bitsLt_bf16_f32) wo
      (constant S256x2048 .f32 0x00000000#32))

/-- The mean of every row of a tile, kept as a column. -/
def mean (h : FVec Ideal S256x2048 .f32) : FVec Ideal S256x1 .f32 :=
  divf (shapeCast S256x1 (multiReduction .add [1] S256 h 0x00000000#32 reduces_S256x2048_S256 (.inl rfl) rfl) shapeCasts_S256_S256x1)
    (broadcast S256x1 (Scalar.ofBits .f32 0x45000000#32))

/-- The tile's rows less their means. -/
def centred (h : FVec Ideal S256x2048 .f32) : FVec Ideal S256x2048 .f32 :=
  subf h (broadcastTo S256x2048 (mean h) broadcasts_S256x1_S256x2048)

/-- The tile's normalised rows. -/
def norm (h : FVec Ideal S256x2048 .f32) (lg lb : FVec Ideal S1x2048 .f32) : FVec Ideal S256x2048 .f32 :=
  addf (mulf (mulf (centred h) (broadcastTo S256x2048
      (rsqrt (addf (mean (mulf (centred h) (centred h))) (broadcast S256x1 (Scalar.ofBits .f32 0x3727C5AC#32))))
        broadcasts_S256x1_S256x2048))
    (broadcastTo S256x2048 lg broadcasts_S1x2048_S256x2048))
    (broadcastTo S256x2048 lb broadcasts_S1x2048_S256x2048)

section Parts
variable (x0 x1 x2 : FVec Ideal S256x1024 .bf16) (g0 g1 g2 : FVec Ideal S256x2048 .bf16) (x4 : FVec Ideal S256x2048 .f32)
  (w0 w1 w2 : FVec Ideal S1x1024x2048 .bf16) (b0 b1 b2 : FVec Ideal S1x2048 .f32) (wo : FVec Ideal S2048x2048 .bf16)
  (lg lb : FVec Ideal S1x2048 .f32)

/-- The tile's residual, from its blocks. -/
def tile : FVec Ideal S256x2048 .f32 :=
  resid (addf (addf (branch x0 w0 g0 b0) (branch x1 w1 g1 b1)) (branch x2 w2 g2 b2)) x4 wo

theorem pay_eq : k0_pay1 (k0_pay6 (k0_pay3 x0 w0 g0 b0) (k0_pay4 x1 w1) (k0_pay5 g1 b1) x2 w2 g2 b2 wo x4)
      (k0_pay7 (k0_pay3 x0 w0 g0 b0) (k0_pay4 x1 w1) (k0_pay5 g1 b1) x2 w2 g2 b2 wo x4) k0_pay8 lg lb
    = norm (tile x0 x1 x2 g0 g1 g2 x4 w0 w1 w2 b0 b1 b2 wo) lg lb := rfl

theorem pay2_eq : k0_pay2 (k0_pay6 (k0_pay3 x0 w0 g0 b0) (k0_pay4 x1 w1) (k0_pay5 g1 b1) x2 w2 g2 b2 wo x4)
      (k0_pay7 (k0_pay3 x0 w0 g0 b0) (k0_pay4 x1 w1) (k0_pay5 g1 b1) x2 w2 g2 b2 wo x4) k0_pay8 lg lb
    = truncf .bf16 (norm (tile x0 x1 x2 g0 g1 g2 x4 w0 w1 w2 b0 b1 b2 wo) lg lb) bitsLt_bf16_f32 := rfl

theorem branch_at (i : Fin 256) (d : Fin 2048) : branch x0 w0 g0 b0 (ix2 i d)
    = Ideal.div 1 (1 + Ideal.exp (-(g0 (ix2 i d) + b0 (ix2 (0 : Fin 1) d))))
        * ∑ k : Fin 1024, w0 (ix3 (0 : Fin 1) k d) * x0 (ix2 i k) := by
  pointwise [branch, k0_pay3]
  simp only [zero_sub, mul_comm]

/-- Two residuals with equal rows have equal normalised rows. -/
theorem norm_congr (h : FVec Ideal S256x2048 .f32) (H : FVec Ideal Cert.MergeRefIdeal.S8192x2048 .f32) (i : Fin 256)
    (r : Fin 8192) (hh : ∀ d : Fin 2048, h (ix2 i d) = H (ix2 r d)) (d : Fin 2048) :
    norm h lg lb (ix2 i d) = Cert.MergeRefIdeal.Rows.norm H lg lb (ix2 r d) := by
  pointwise [norm, mean, centred, Cert.MergeRefIdeal.Rows.norm, Cert.MergeRefIdeal.Rows.mean, Cert.MergeRefIdeal.Rows.centred]
  simp only [hh]

/-- Two gated sums with equal rows have equal residuals. -/
theorem resid_congr (s x : FVec Ideal S256x2048 .f32) (S X : FVec Ideal Cert.MergeRefIdeal.S8192x2048 .f32) (i : Fin 256)
    (r : Fin 8192) (hs : ∀ d : Fin 2048, s (ix2 i d) = S (ix2 r d)) (hx : ∀ d : Fin 2048, x (ix2 i d) = X (ix2 r d)) (d : Fin 2048) :
    resid s x wo (ix2 i d) = Cert.MergeRefIdeal.Rows.resid S X wo (ix2 r d) := by
  pointwise [resid, Cert.MergeRefIdeal.Rows.resid]
  simp only [hs, hx]

end Parts

variable (m : (ℓ : Loc nD τ sig) → Buf (Elt Ideal) ℓ)

/-- Which rows each window is at. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![0, 0, 0] ∧ win0_6.index t = ![0, 0] ∧ win0_7.index t = ![0, 0]
      ∧ win0_8.index t = ![0, 0] ∧ win0_9.index t = ![0, 0] ∧ win0_10.index t = ![t.val, 0] ∧ win0_11.index t = ![t.val, 0] ∧ t.val < 32 :=
  (by decide +kernel : ∀ t : Fin grid0.N, _)

/-- The gate block of a tile is the first 6144 columns of its rows. -/
theorem gate_block (c : Dev nD) (t : Fin cfg0.N) (i : Fin 256) (j : Fin 6144) (h : t.val * 256 + i.val < 8192) :
    X0_3 m c t (ix2 i j) = m ((c : Thread nD τ).loc main_arg3) (ix2 (⟨t.val * 256 + i.val, h⟩ : Fin 8192) (⟨j.val, by omega⟩ : Fin 15872)) := by
  unfold X0_3 Pipeline.Window.fill
  rw [dif_pos (moved0_3 t _)]
  blk_ext [iblk, V, idx t]

/-- A slice of the gate block, at an index. -/
theorem gate_slice (c : Dev nD) (t : Fin cfg0.N) (o : ℕ) (inb : ∀ a, (![0, o] : Fin 2 → ℕ) a + (![256, 2048] : Fin 2 → ℕ) a ≤ S256x6144.size a)
    (i : Fin 256) (d : Fin 2048) (r : Fin 8192) (hr : r.val = t.val * 256 + i.val) (k : Fin 15872) (hk : k.val = o + d.val)
    (ho : o + 2048 ≤ 6144) :
    View.ld (X0_3 m c t) (Rect.unit ![0, o] ![256, 2048] inb) (ix2 i d) = m ((c : Thread nD τ).loc main_arg3) (ix2 r k) := by
  have hd := d.isLt
  have hi := r.isLt
  have e := gate_block m c t i ⟨o + d.val, by omega⟩ (by omega)
  refine Eq.trans ?_ (e.trans ?_)
  · exact View.ld_unit_apply_of _ _ _ _ _ _ (fun a => by fin_cases a <;> simp)
  · blk_ext []

/-- The tile of a grid point, from the windows' blocks. -/
def tileAt (c : Dev nD) (t : Fin cfg0.N) : FVec Ideal S256x2048 .f32 :=
  tile (iblk m c 0 t) (iblk m c 1 t) (iblk m c 2 t)
    (View.ld (X0_3 m c t) (Rect.unit ![0, 0] ![256, 2048] inb_S256x6144_S256x2048_0_0))
    (View.ld (X0_3 m c t) (Rect.unit ![0, 2048] ![256, 2048] inb_S256x6144_S256x2048_0_2048))
    (View.ld (X0_3 m c t) (Rect.unit ![0, 4096] ![256, 2048] inb_S256x6144_S256x2048_0_4096))
    (iblk m c 4 t)
    (View.ld (iblk m c 5 t) (Rect.unit ![0, 0, 0] ![1, 1024, 2048] inb_S3x1024x2048_S1x1024x2048_0_0_0))
    (View.ld (iblk m c 5 t) (Rect.unit ![1, 0, 0] ![1, 1024, 2048] inb_S3x1024x2048_S1x1024x2048_1_0_0))
    (View.ld (iblk m c 5 t) (Rect.unit ![2, 0, 0] ![1, 1024, 2048] inb_S3x1024x2048_S1x1024x2048_2_0_0))
    (View.ld (iblk m c 6 t) (Rect.unit ![0, 0] ![1, 2048] inb_S3x2048_S1x2048_0_0))
    (View.ld (iblk m c 6 t) (Rect.unit ![1, 0] ![1, 2048] inb_S3x2048_S1x2048_1_0))
    (View.ld (iblk m c 6 t) (Rect.unit ![2, 0] ![1, 2048] inb_S3x2048_S1x2048_2_0))
    (iblk m c 7 t)

/-- The whole merge over the launched arguments. -/
abbrev REF (c : Dev nD) : FVec Ideal Cert.MergeRefIdeal.S8192x2048 .f32 :=
  Cert.MergeRefIdeal.Rows.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- One branch of a tile is that branch of the reference, at the tile's rows. -/
theorem branches (c : Dev nD) (t : Fin cfg0.N) (i : Fin 256) (r : Fin 8192) (hr : r.val = t.val * 256 + i.val) (d : Fin 2048) :
    addf (addf
        (branch (iblk m c 0 t)
          (View.ld (iblk m c 5 t) (Rect.unit ![0, 0, 0] ![1, 1024, 2048] inb_S3x1024x2048_S1x1024x2048_0_0_0))
          (View.ld (X0_3 m c t) (Rect.unit ![0, 0] ![256, 2048] inb_S256x6144_S256x2048_0_0))
          (View.ld (iblk m c 6 t) (Rect.unit ![0, 0] ![1, 2048] inb_S3x2048_S1x2048_0_0)))
        (branch (iblk m c 1 t)
          (View.ld (iblk m c 5 t) (Rect.unit ![1, 0, 0] ![1, 1024, 2048] inb_S3x1024x2048_S1x1024x2048_1_0_0))
          (View.ld (X0_3 m c t) (Rect.unit ![0, 2048] ![256, 2048] inb_S256x6144_S256x2048_0_2048))
          (View.ld (iblk m c 6 t) (Rect.unit ![1, 0] ![1, 2048] inb_S3x2048_S1x2048_1_0))))
        (branch (iblk m c 2 t)
          (View.ld (iblk m c 5 t) (Rect.unit ![2, 0, 0] ![1, 1024, 2048] inb_S3x1024x2048_S1x1024x2048_2_0_0))
          (View.ld (X0_3 m c t) (Rect.unit ![0, 4096] ![256, 2048] inb_S256x6144_S256x2048_0_4096))
          (View.ld (iblk m c 6 t) (Rect.unit ![2, 0] ![1, 2048] inb_S3x2048_S1x2048_2_0))) (ix2 i d)
      = Cert.MergeRefIdeal.Rows.merged
          (Cert.MergeRefIdeal.Rows.up (m ((c : Thread nD τ).loc main_arg0)) (m ((c : Thread nD τ).loc main_arg1))
            (m ((c : Thread nD τ).loc main_arg2)) (m ((c : Thread nD τ).loc main_arg5)))
          (Cert.MergeRefIdeal.Rows.gates (m ((c : Thread nD τ).loc main_arg3)) (m ((c : Thread nD τ).loc main_arg6))) (ix2 r d) := by
  have ht : t.val < 32 := (idx t).2.2.2.2.2.2.2.2.2.2.2.2
  have hd := d.isLt
  have hi := i.isLt
  rw [Cert.MergeRefIdeal.Rows.merged_at, Cert.MergeRefIdeal.Rows.up_at0, Cert.MergeRefIdeal.Rows.up_at1, Cert.MergeRefIdeal.Rows.up_at2,
    Cert.MergeRefIdeal.Rows.gates_at _ _ _ _ _ (by show 0 * 2048 + d.val < 15872; omega),
    Cert.MergeRefIdeal.Rows.gates_at _ _ _ _ _ (by show 1 * 2048 + d.val < 15872; omega),
    Cert.MergeRefIdeal.Rows.gates_at _ _ _ _ _ (by show 2 * 2048 + d.val < 15872; omega)]
  show branch _ _ _ _ (ix2 i d) + branch _ _ _ _ (ix2 i d) + branch _ _ _ _ (ix2 i d) = _
  rw [branch_at, branch_at, branch_at]
  rw [gate_slice m c t 0 _ i d r hr ⟨0 * 2048 + d.val, by omega⟩ (by show 0 * 2048 + d.val = 0 + d.val; omega) (by omega),
    gate_slice m c t 2048 _ i d r hr ⟨1 * 2048 + d.val, by omega⟩ (by show 1 * 2048 + d.val = 2048 + d.val; omega) (by omega),
    gate_slice m c t 4096 _ i d r hr ⟨2 * 2048 + d.val, by omega⟩ (by show 2 * 2048 + d.val = 4096 + d.val; omega) (by omega)]
  blk_point [iblk, V, idx t]

/-- A tile's residual is the reference's, at the tile's rows. -/
theorem tile_at (c : Dev nD) (t : Fin cfg0.N) (i : Fin 256) (r : Fin 8192) (hr : r.val = t.val * 256 + i.val) (d : Fin 2048) :
    tileAt m c t (ix2 i d) = Cert.MergeRefIdeal.Rows.resid (Cert.MergeRefIdeal.Rows.merged
          (Cert.MergeRefIdeal.Rows.up (m ((c : Thread nD τ).loc main_arg0)) (m ((c : Thread nD τ).loc main_arg1))
            (m ((c : Thread nD τ).loc main_arg2)) (m ((c : Thread nD τ).loc main_arg5)))
          (Cert.MergeRefIdeal.Rows.gates (m ((c : Thread nD τ).loc main_arg3)) (m ((c : Thread nD τ).loc main_arg6))))
        (m ((c : Thread nD τ).loc main_arg4)) (m ((c : Thread nD τ).loc main_arg7)) (ix2 r d) := by
  have hw : iblk m c 7 t = m ((c : Thread nD τ).loc main_arg7) := by blk_ext! [iblk, V, idx t]
  unfold tileAt tile
  rw [hw]
  refine resid_congr _ _ _ _ _ i r (branches m c t i r hr) (fun d' => ?_) d
  blk_ext [iblk, V, idx t]

/-- A tile's normalised rows are the reference's, at the tile's rows. -/
theorem norm_at (c : Dev nD) (t : Fin cfg0.N) (i : Fin 256) (r : Fin 8192) (hr : r.val = t.val * 256 + i.val) (d : Fin 2048) :
    norm (tileAt m c t) (iblk m c 8 t) (iblk m c 9 t) (ix2 i d) = REF m c (ix2 r d) := by
  have h8 : iblk m c 8 t = m ((c : Thread nD τ).loc main_arg8) := by blk_ext! [iblk, V, idx t]
  have h9 : iblk m c 9 t = m ((c : Thread nD τ).loc main_arg9) := by blk_ext! [iblk, V, idx t]
  rw [h8, h9]
  exact norm_congr _ _ _ _ i r (tile_at m c t i r hr) d

/-- The first result array is the reference's merge. -/
theorem final0 (c : Dev nD) : (dats m 0 c).arrAt 10 cfg0.N = REF m c := by
  refine (dats m 0 c).arrAt_eq_of_covers 10 _ (by decide +kernel) fun t _ y => ?_
  blk_simp
  rw [after0_10]
  unfold outsAt0
  dsimp only
  frame_out
  refine (congrFun (pay_eq _ _ _ _ _ _ _ _ _ _ _ _ _ _ _ _) y).trans ?_
  have ht : t.val < 32 := (idx t).2.2.2.2.2.2.2.2.2.2.2.2
  obtain ⟨i, d, rfl⟩ : ∃ (i : Fin 256) (d : Fin 2048), y = ix2 i d := ⟨y 0, y 1, by blk_ext []⟩
  refine (norm_at m c t i ⟨t.val * 256 + i.val, by omega⟩ rfl d).trans ?_
  blk_ext [idx t]

/-- The second result array is the reference's merge, rounded. -/
theorem final1 (c : Dev nD) : (dats m 0 c).arrAt 11 cfg0.N = truncf .bf16 (REF m c) Cert.MergeRefIdeal.Gen.bitsLt_bf16_f32 := by
  refine (dats m 0 c).arrAt_eq_of_covers 11 _ (by decide +kernel) fun t _ y => ?_
  blk_simp
  rw [after0_11]
  unfold outsAt0
  dsimp only
  frame_out
  refine (congrFun (pay2_eq _ _ _ _ _ _ _ _ _ _ _ _ _ _ _ _) y).trans ?_
  have ht : t.val < 32 := (idx t).2.2.2.2.2.2.2.2.2.2.2.2
  obtain ⟨i, d, rfl⟩ : ∃ (i : Fin 256) (d : Fin 2048), y = ix2 i d := ⟨y 0, y 1, by blk_ext []⟩
  refine Eq.trans (norm_at m c t i ⟨t.val * 256 + i.val, by omega⟩ rfl d) ?_
  show REF m c _ = REF m c _
  blk_ext [idx t]

end Cert.MergeIdeal.Rows

end
-- ==== Proof.Ranks.lean ====
/- The greatest few entries of a row: by rank, by picking the greatest again and again, and by sorting. -/
module

public import Idealize.ShloMosaic.Lib.IdealHost
public import Idealize.ShloMosaic.Lib.SortFacts

@[expose] public section

noncomputable section

open Idealize.ShloMosaic

namespace Cert.Ranks

/-! ## Ranks -/

section Rank

variable {n : ℕ}

/-- Entry `a` comes before entry `b`: it is greater, or as great and at a lower place. -/
def Before (g : Fin n → EReal) (a b : Fin n) : Prop := g b < g a ∨ (g a = g b ∧ a < b)

/-- How many entries come before `b`. -/
def rank (g : Fin n → EReal) (b : Fin n) : ℕ := by
  classical exact (Finset.univ.filter fun a => Before g a b).card

theorem before_irrefl (g : Fin n → EReal) (a : Fin n) : ¬ Before g a a := by
  rintro (h | ⟨_, h⟩)
  · exact lt_irrefl _ h
  · exact lt_irrefl _ h

theorem before_total (g : Fin n → EReal) {a b : Fin n} (h : a ≠ b) : Before g a b ∨ Before g b a := by
  rcases lt_trichotomy (g a) (g b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

theorem before_trans (g : Fin n → EReal) {a b c : Fin n} (h : Before g a b) (h' : Before g b c) : Before g a c := by
  rcases h with h | ⟨h, h2⟩ <;> rcases h' with h' | ⟨h', h3⟩
  · exact Or.inl (h'.trans h)
  · exact Or.inl (h' ▸ h)
  · exact Or.inl (h ▸ h')
  · exact Or.inr ⟨h.trans h', h2.trans h3⟩

theorem before_asymm (g : Fin n → EReal) {a b : Fin n} (h : Before g a b) : ¬ Before g b a :=
  fun h' => before_irrefl g a (before_trans g h h')

theorem rank_eq_zero_iff (g : Fin n → EReal) (b : Fin n) : rank g b = 0 ↔ ∀ a, ¬ Before g a b := by
  classical
  unfold rank
  rw [Finset.card_eq_zero, Finset.filter_eq_empty_iff]
  exact ⟨fun h a => h (Finset.mem_univ a), fun h a _ => h a⟩

/-! ## Picking the greatest again and again -/

/-- `b` is the first of the greatest entries, and not −∞. -/
def Pick (g : Fin n → EReal) (b : Fin n) : Prop := ⊥ < g b ∧ ∀ a, ¬ Before g a b

/-- The row with the picked entry put out. -/
def drop (g : Fin n → EReal) (b : Fin n) : EReal := by
  classical exact if Pick g b then ⊥ else g b

/-- `b` is picked within `k` rounds. -/
def Chosen : ℕ → (Fin n → EReal) → Fin n → Prop
  | 0, _, _ => False
  | k + 1, g, b => Pick g b ∨ Chosen k (drop g) b

theorem pick_unique (g : Fin n → EReal) {a b : Fin n} (ha : Pick g a) (hb : Pick g b) : a = b := by
  by_contra h
  rcases before_total g h with h1 | h1
  · exact hb.2 a h1
  · exact ha.2 b h1

theorem exists_pick (g : Fin n → EReal) (b : Fin n) (hb : ⊥ < g b) : ∃ a, Pick g a ∧ (a = b ∨ Before g a b) := by
  classical
  obtain ⟨a, ha, hmin⟩ := Finset.exists_min_image (Finset.univ.filter fun a => a = b ∨ Before g a b) (rank g)
    ⟨b, Finset.mem_filter.2 ⟨Finset.mem_univ _, Or.inl rfl⟩⟩
  have ha' := (Finset.mem_filter.1 ha).2
  refine ⟨a, ⟨?_, fun c hc => ?_⟩, ha'⟩
  · rcases ha' with rfl | (h | ⟨h, _⟩)
    · exact hb
    · exact hb.trans h
    · exact h ▸ hb
  · have hcb : Before g c b := by
      rcases ha' with rfl | h
      · exact hc
      · exact before_trans g hc h
    have h1 := hmin c (Finset.mem_filter.2 ⟨Finset.mem_univ _, Or.inr hcb⟩)
    refine absurd h1 (not_le.2 ?_)
    unfold rank
    refine Finset.card_lt_card ⟨fun x hx => ?_, fun h => ?_⟩
    · exact Finset.mem_filter.2 ⟨Finset.mem_univ _, before_trans g (Finset.mem_filter.1 hx).2 hc⟩
    · exact before_irrefl g c (Finset.mem_filter.1 (h (Finset.mem_filter.2 ⟨Finset.mem_univ _, hc⟩))).2

theorem rank_drop (g : Fin n → EReal) (b : Fin n) (hb : ⊥ < g b) (hp : ¬ Pick g b) : rank g b = rank (drop g) b + 1 := by
  classical
  obtain ⟨p, hp1, hp2⟩ := exists_pick g b hb
  have hpb : Before g p b := hp2.resolve_left fun h => hp (h ▸ hp1)
  have hdb : drop g b = g b := if_neg hp
  have hdp : drop g p = ⊥ := if_pos hp1
  have key : (Finset.univ.filter fun a => Before g a b) = insert p (Finset.univ.filter fun a => Before (drop g) a b) := by
    ext a
    simp only [Finset.mem_filter, Finset.mem_univ, true_and, Finset.mem_insert]
    by_cases h : a = p
    · exact ⟨fun _ => Or.inl h, fun _ => h ▸ hpb⟩
    · have hda : drop g a = g a := if_neg fun h' => h (pick_unique g h' hp1)
      unfold Before
      rw [hda, hdb]
      exact ⟨Or.inr, fun h' => h'.resolve_left h⟩
  unfold rank
  rw [key, Finset.card_insert_of_notMem]
  intro h
  rcases (Finset.mem_filter.1 h).2 with h1 | ⟨h1, _⟩
  · rw [hdp] at h1
    exact not_lt_bot h1
  · rw [hdp, hdb] at h1
    exact hb.ne h1

/-- What is picked within `k` rounds is what has fewer than `k` entries before it. -/
theorem chosen_iff (k : ℕ) (g : Fin n → EReal) (b : Fin n) : Chosen k g b ↔ ⊥ < g b ∧ rank g b < k := by
  induction k generalizing g with
  | zero => exact ⟨False.elim, fun h => absurd h.2 (Nat.not_lt_zero _)⟩
  | succ k ih =>
    show Pick g b ∨ Chosen k (drop g) b ↔ _
    rw [ih]
    by_cases hp : Pick g b
    · refine ⟨fun _ => ⟨hp.1, ?_⟩, fun _ => Or.inl hp⟩
      rw [(rank_eq_zero_iff g b).2 hp.2]
      omega
    · have hd : drop g b = g b := if_neg hp
      rw [hd]
      refine ⟨fun h => ?_, fun h => Or.inr ⟨h.1, ?_⟩⟩
      · obtain ⟨h1, h2⟩ := h.resolve_left hp
        exact ⟨h1, by rw [rank_drop g b h1 hp]; omega⟩
      · have := rank_drop g b h.1 hp
        omega

end Rank

/-- Entries −∞ added at the end of a row change no rank. -/
theorem rank_pad {n m : ℕ} (hnm : n ≤ m) (g : Fin n → EReal) (g' : Fin m → EReal) (h : ∀ a : Fin n, g' (a.castLE hnm) = g a)
    (h' : ∀ a : Fin m, n ≤ a.val → g' a = ⊥) (b : Fin n) (hb : ⊥ < g b) : rank g' (b.castLE hnm) = rank g b := by
  classical
  unfold rank
  have key : (Finset.univ.filter fun a => Before g' a (b.castLE hnm)) = (Finset.univ.filter fun a => Before g a b).map (Fin.castLEEmb hnm) := by
    ext a
    simp only [Finset.mem_filter, Finset.mem_univ, true_and, Finset.mem_map, Fin.castLEEmb_apply]
    constructor
    · intro ha
      have hlt : a.val < n := by
        by_contra hge
        have h1 := h' a (not_lt.1 hge)
        rcases ha with h2 | ⟨h2, _⟩
        · rw [h1] at h2; exact not_lt_bot h2
        · rw [h1, h] at h2; exact hb.ne h2
      refine ⟨⟨a.val, hlt⟩, ?_, rfl⟩
      have e : a = (⟨a.val, hlt⟩ : Fin n).castLE hnm := rfl
      rw [e] at ha
      rcases ha with h2 | ⟨h2, h3⟩
      · rw [h, h] at h2; exact Or.inl h2
      · rw [h, h] at h2; exact Or.inr ⟨h2, h3⟩
    · rintro ⟨c, hc, rfl⟩
      rcases hc with h2 | ⟨h2, h3⟩
      · exact Or.inl (by rw [h, h]; exact h2)
      · exact Or.inr ⟨by rw [h, h]; exact h2, h3⟩
  rw [key, Finset.card_map]

/-! ## The first places of a sorted row -/

section Sorted

variable {n : ℕ} (g : Fin n → EReal)

/-- Sorting the places in their order by «greater» alone is sorting them by «comes before». -/
theorem stableSort_before (B R : Fin n → Fin n → Bool) (h : ∀ a b : Fin n, a < b → B b a = R b a) (l : List (Fin n))
    (hl : l.Pairwise (· < ·)) : stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

/-- Which places the sort by «greater» puts first: those with few entries before them. -/
theorem sorted_first (B : Fin n → Fin n → Bool) (hB : ∀ a b, B a b = true ↔ g b < g a) (k : ℕ) (hk : k ≤ n) (b : Fin n) :
    (∃ r : Fin n, r.val < k ∧ sortedFrom B r = b) ↔ rank g b < k := by
  classical
  have hR : sortedFrom B = sortedFrom fun a b => decide (Before g a b) := by
    have hs : sortPositions n B = sortPositions n fun a b => decide (Before g a b) := by
      refine stableSort_before B _ (fun a b hab => ?_) _ (List.pairwise_lt_finRange n)
      rw [Bool.eq_iff_iff, hB, decide_eq_true_iff]
      refine ⟨Or.inl, fun h => h.resolve_right fun h' => ?_⟩
      exact absurd (h'.2.trans hab) (lt_irrefl _)
    funext r
    unfold sortedFrom
    rw [List.get_of_eq hs]
    rfl
  rw [hR]
  set σ := sortedFrom fun a b => decide (Before g a b) with hσ
  have hinj : Function.Injective σ := sortedFrom_injective _
  have hsurj : Function.Surjective σ := sortedFrom_surjective _
  have hmono : ∀ i j : Fin n, i < j → Before g (σ i) (σ j) := by
    intro i j hij
    have h := sortedFrom_noInversion (fun a b => decide (Before g a b)) (fun a b => decide (Before g a b))
      (fun a b h => decide_eq_false (before_asymm g (of_decide_eq_true h))) (fun _ _ h => h)
      (fun a b c h1 h2 => decide_eq_false fun h3 => by
        have h1' := of_decide_eq_false h1
        have h2' := of_decide_eq_false h2
        by_cases hbc : b = c
        · exact h1' (hbc ▸ h3)
        · rcases before_total g hbc with h4 | h4
          · exact h2' h4
          · exact h1' (before_trans g h3 h4)) i j hij
    exact (before_total g fun e => hij.ne (hinj e)).resolve_right (of_decide_eq_false h)
  have hrank : ∀ r : Fin n, rank g (σ r) = r.val := by
    intro r
    unfold rank
    have key : (Finset.univ.filter fun a => Before g a (σ r)) = (Finset.Iio r).image σ := by
      ext a
      simp only [Finset.mem_filter, Finset.mem_univ, true_and, Finset.mem_image, Finset.mem_Iio]
      constructor
      · intro ha
        obtain ⟨j, rfl⟩ := hsurj a
        refine ⟨j, ?_, rfl⟩
        rcases lt_trichotomy j r with h | h | h
        · exact h
        · exact absurd ha (h ▸ before_irrefl g _)
        · exact absurd ha (before_asymm g (hmono _ _ h))
      · rintro ⟨j, hj, rfl⟩
        exact hmono _ _ hj
    rw [key, Finset.card_image_of_injective _ hinj, Fin.card_Iio]
  constructor
  · rintro ⟨r, hr, rfl⟩
    rw [hrank]
    exact hr
  · intro h
    obtain ⟨r, rfl⟩ := hsurj b
    exact ⟨r, by rw [hrank] at h; exact h, rfl⟩

end Sorted

end Cert.Ranks
-- ==== Proof.MobaRow.lean ====
/- One query's scores in block-sparse attention, from the query, all the keys and the query's position. -/
module

public import proofs.«01_k».proof.Proof.Attention
public import proofs.«01_k».proof.Proof.Ranks

@[expose] public section

noncomputable section

open Idealize.ShloMosaic

namespace Cert.BlockRow

/-- A block's mean key. -/
def mean (k : Fin 4096 → Fin 128 → EReal) (n : Fin 16) (x : Fin 128) : EReal :=
  Ideal.div (∑ y : Fin 256, k ⟨n.val * 256 + y.val, by omega⟩ x) (Ideal.ofBits .f32 0x43800000#32)

/-- A query's product with the mean key of every block before block `B`; −∞ for the others. -/
def gates (q : Fin 128 → EReal) (k : Fin 4096 → Fin 128 → EReal) (B : ℕ) (n : Fin 16) : EReal :=
  haveI := Classical.dec (n.val < B)
  if n.val < B then ∑ x : Fin 128, q x * mean k n x else ⊥

/-- A query's product with a key, scaled. -/
def score (q : Fin 128 → EReal) (k : Fin 4096 → Fin 128 → EReal) (j : Fin 4096) : EReal :=
  (∑ x : Fin 128, q x * k j x) * Ideal.ofBits .f32 0x3DB504F3#32

/-- The query at position `s` may read the key at position `j`: the key's block is among the three best earlier ones, or it is
    the query's own and the key is not later. -/
def Reads (q : Fin 128 → EReal) (k : Fin 4096 → Fin 128 → EReal) (s j : Fin 4096) : Prop :=
  (j.val / 256 < s.val / 256 ∧ Ranks.rank (gates q k (s.val / 256)) ⟨j.val / 256, by omega⟩ < 3) ∨ (s.val / 256 = j.val / 256 ∧ j.val ≤ s.val)

/-- The masked scores of the query at position `s`. -/
def row (q : Fin 128 → EReal) (k : Fin 4096 → Fin 128 → EReal) (s j : Fin 4096) : EReal :=
  haveI := Classical.dec (Reads q k s j)
  if Reads q k s j then score q k j else ⊥

/-- A choice by a bit is a choice by the condition the bit stands for. -/
theorem select_eq {α : Type} (c : BitVec 1) {p : Prop} [Decidable p] (h : c = 1#1 ↔ p) (a b : α) : Scalar.select c a b = if p then a else b := by
  unfold Scalar.select
  exact if_congr h rfl rfl

theorem gates_eq (q : Fin 128 → EReal) (k : Fin 4096 → Fin 128 → EReal) (B : ℕ) (n : Fin 16) {p : Prop} [Decidable p] (hp : p ↔ n.val < B) :
    gates q k B n = if p then ∑ x : Fin 128, q x * mean k n x else ⊥ := by
  unfold gates
  by_cases h : p
  · rw [if_pos (hp.mp h), if_pos h]
  · rw [if_neg fun h' => h (hp.mpr h'), if_neg h]

theorem row_eq (q : Fin 128 → EReal) (k : Fin 4096 → Fin 128 → EReal) (s j : Fin 4096) {p : Prop} [Decidable p] (hp : p ↔ Reads q k s j) :
    row q k s j = if p then score q k j else ⊥ := by
  unfold row
  by_cases h : p
  · rw [if_pos (hp.mp h), if_pos h]
  · rw [if_neg fun h' => h (hp.mpr h'), if_neg h]

end Cert.BlockRow
-- ==== Proof.Online.lean ====
/- A softmax taken set of keys by set of keys: the running maximum, weight and weighted sum, and how they join. -/
module

public import proofs.«01_k».proof.Proof.Attention

@[expose] public section

noncomputable section

open Idealize.ShloMosaic

namespace Cert.Attention

/-! ## Multiplying a sum, and moving the point the weights are taken at -/

theorem mul_sum_of_nonneg {ι : Type} (c : EReal) (h0 : 0 ≤ c) (ht : c ≠ ⊤) (A : Finset ι) (f : ι → EReal) :
    c * ∑ i ∈ A, f i = ∑ i ∈ A, c * f i := by
  classical
  induction A using Finset.induction_on with
  | empty => rw [Finset.sum_empty, Finset.sum_empty, mul_zero]
  | insert a s ha ih => rw [Finset.sum_insert ha, Finset.sum_insert ha, EReal.left_distrib_of_nonneg_of_ne_top h0 ht, ih]

theorem exp_shift {m m' x : EReal} (hm : IsNum m) (hm' : IsNum m') (hx : x ≠ ⊤) :
    Ideal.exp (m - m') * Ideal.exp (x - m) = Ideal.exp (x - m') := by
  obtain ⟨a, rfl⟩ := hm.eq_coe
  obtain ⟨b, rfl⟩ := hm'.eq_coe
  induction x with
  | bot => rw [exp_bot_sub, exp_bot_sub, mul_zero]
  | top => exact absurd rfl hx
  | coe r =>
    rw [← EReal.coe_sub, ← EReal.coe_sub, ← EReal.coe_sub, Ideal.exp_coe, Ideal.exp_coe, Ideal.exp_coe, ← EReal.coe_mul, ← Real.exp_add]
    congr 2
    ring

section Merge

variable {ι : Type} (s : ι → EReal)

/-- The weights of the keys of `A`, taken at their greatest score, summed. -/
def weight (A : Finset ι) : EReal := ∑ i ∈ A, Ideal.exp (s i - A.sup s)

/-- The values of the keys of `A` summed with those weights. -/
def mass (A : Finset ι) (v : ι → EReal) : EReal := ∑ i ∈ A, Ideal.exp (s i - A.sup s) * v i

variable (hs : ∀ i, s i ≠ ⊤)

include hs

theorem sup_isNum {A B : Finset ι} (hA : IsNum (A.sup s)) (h : A ⊆ B) : IsNum (B.sup s) := by
  refine ⟨fun hb => hA.1 (le_bot_iff.1 (hb ▸ Finset.sup_mono h)), ?_⟩
  exact ((Finset.sup_lt_iff bot_lt_top).2 fun i _ => lt_top_iff_ne_top.2 (hs i)).ne

variable [DecidableEq ι]

theorem mass_union {A B : Finset ι} (hA : IsNum (A.sup s)) (hd : Disjoint A B) (v : ι → EReal) :
    mass s (A ∪ B) v = Ideal.exp (A.sup s - max (A.sup s) (B.sup s)) * mass s A v
      + ∑ i ∈ B, Ideal.exp (s i - max (A.sup s) (B.sup s)) * v i := by
  have hU : (A ∪ B).sup s = max (A.sup s) (B.sup s) := Finset.sup_union
  have hN := sup_isNum s hs hA (Finset.subset_union_left (s₂ := B))
  rw [hU] at hN
  unfold mass
  rw [hU, Finset.sum_union hd, mul_sum_of_nonneg _ (exp_nonneg _) (exp_ne_top (by
    obtain ⟨a, ha⟩ := hA.eq_coe
    obtain ⟨b, hb⟩ := hN.eq_coe
    rw [hb, ha, ← EReal.coe_sub]
    exact EReal.coe_ne_top _))]
  refine congrArg (· + _) (Finset.sum_congr rfl fun i _ => ?_)
  rw [← mul_assoc, exp_shift hA hN (hs i)]

theorem weight_union {A B : Finset ι} (hA : IsNum (A.sup s)) (hd : Disjoint A B) :
    weight s (A ∪ B) = Ideal.exp (A.sup s - max (A.sup s) (B.sup s)) * weight s A
      + ∑ i ∈ B, Ideal.exp (s i - max (A.sup s) (B.sup s)) := by
  have h := mass_union s hs hA hd fun _ => 1
  simpa only [mass, mul_one, weight] using h

omit [DecidableEq ι] in
theorem weight_pos {A : Finset ι} (hA : IsNum (A.sup s)) : 0 < weight s A := by
  classical
  have hne : A.Nonempty := by
    rw [Finset.nonempty_iff_ne_empty]
    rintro rfl
    exact hA.1 Finset.sup_empty
  obtain ⟨i, hi, he⟩ := Finset.exists_mem_eq_sup A hne s
  have h1 : s i - A.sup s ≠ ⊥ := by
    obtain ⟨a, ha⟩ := hA.eq_coe
    rw [← he, ha, ← EReal.coe_sub]
    exact EReal.coe_ne_bot _
  exact lt_of_lt_of_le (lt_of_le_of_ne (exp_nonneg _) (exp_ne_zero h1).symm)
    (Finset.single_le_sum (f := fun i => Ideal.exp (s i - A.sup s)) (fun j _ => exp_nonneg _) hi)

omit [DecidableEq ι] in
theorem inv_weight {A : Finset ι} (hA : IsNum (A.sup s)) : 0 ≤ Ideal.div 1 (weight s A) ∧ Ideal.div 1 (weight s A) ≠ ⊤ := by
  have hp := weight_pos s hs hA
  unfold Ideal.div
  rw [if_neg hp.ne', one_mul]
  refine ⟨EReal.inv_nonneg_of_nonneg hp.le, fun h => ?_⟩
  generalize weight s A = w at hp h
  induction w with
  | bot => exact absurd hp (not_lt_bot)
  | top => rw [EReal.inv_top] at h; exact EReal.zero_ne_top h
  | coe r => rw [← EReal.coe_inv] at h; exact EReal.coe_ne_top _ h

end Merge

section Online

variable {ι κ : Type} [Fintype ι] [Fintype κ] [DecidableEq ι] [DecidableEq κ]

/-- The joined sums, divided at the end, are the softmax's average over all the keys, when the keys that count correspond
    to those that were joined. -/
theorem online_average (e : κ → ι) (A : Finset κ) (s v : ι → EReal) (s' v' : κ → EReal)
    (inj : ∀ c c', c ∈ A → c' ∈ A → e c = e c' → c = c') (h1 : ∀ c ∈ A, s (e c) = s' c) (hv : ∀ c ∈ A, v (e c) = v' c)
    (h0 : ∀ i, (∀ c ∈ A, e c ≠ i) → s i = ⊥) (hs : ∀ c, s' c ≠ ⊤) (hA : IsNum (A.sup s')) :
    ∑ i, v i * Ideal.div (Ideal.exp (s i - Finset.univ.sup s)) (∑ j, Ideal.exp (s j - Finset.univ.sup s))
      = mass s' A v' * Ideal.div 1 (weight s' A) := by
  have hsup : Finset.univ.sup s = A.sup s' := by
    refine le_antisymm (Finset.sup_le fun i _ => ?_) (Finset.sup_le fun c hc => ?_)
    · by_cases h : ∃ c ∈ A, e c = i
      · obtain ⟨c, hc, rfl⟩ := h
        rw [h1 c hc]
        exact Finset.le_sup hc
      · rw [h0 i fun c hc he => h ⟨c, hc, he⟩]
        exact bot_le
    · rw [← h1 c hc]
      exact Finset.le_sup (f := s) (Finset.mem_univ _)
  have key : ∀ (f : ι → EReal) (f' : κ → EReal), (∀ c ∈ A, f (e c) = f' c) → (∀ i, s i = ⊥ → f i = 0) →
      ∑ i, f i = ∑ c ∈ A, f' c := by
    intro f f' hf hz
    rw [sum_transfer e (fun c => c ∈ A) f (fun c => if c ∈ A then f' c else 0) inj
      (fun c hc => by rw [if_pos hc]; exact hf c hc) (fun c hc => if_neg hc) (fun i hi => hz i (h0 i hi))]
    rw [← Finset.sum_filter, Finset.filter_mem_eq_inter, Finset.univ_inter]
  rw [hsup]
  have hw : ∑ j, Ideal.exp (s j - A.sup s') = weight s' A :=
    key _ _ (fun c hc => by rw [h1 c hc]) (fun i hi => by rw [hi, exp_bot_sub])
  rw [hw]
  have hp := weight_pos s' hs hA
  obtain ⟨hi0, hit⟩ := inv_weight s' hs hA
  rw [key _ (fun c => Ideal.div 1 (weight s' A) * (Ideal.exp (s' c - A.sup s') * v' c)) (fun c hc => ?_) (fun i hi => ?_),
    ← mul_sum_of_nonneg _ hi0 hit, mul_comm]
  · rfl
  · rw [h1 c hc, hv c hc, ← Ideal.mul_one_div hp.ne', mul_comm (v' c), mul_assoc, mul_left_comm]
  · rw [hi, exp_bot_sub, ← Ideal.mul_one_div hp.ne', zero_mul, mul_zero]

end Online

end Cert.Attention
-- ==== Proof.MobaTile.lean ====
/- The block-sparse attention's kernel: the arithmetic of one query tile, read at an index. -/
module

public import proofs.«01_k».proof.Proof.Gen.MobaIdeal.Value
public import Idealize.ShloMosaic.Lib.Pipeline.ValueKit
public import Idealize.ShloMosaic.Lib.Pointwise
public import Idealize.ShloMosaic.Lib.WordCmp
public import Idealize.ShloMosaic.Lib.SortNet.Extract
public import proofs.«01_k».proof.Proof.MobaRow
public import proofs.«01_k».proof.Proof.Online

@[expose] public section

set_option maxRecDepth 16384

noncomputable section

open Idealize.ShloMosaic Idealize.ShloMosaic.TcCoe Idealize.ShloMosaic.WordCmp

namespace Cert.MobaIdeal.Blocks

open Cert.MobaIdeal Cert.MobaIdeal.Gen

/-! ## Picking the greatest entry of every row -/

/-- The lanes' numbers. -/
def lanes : IVec S256x128 32 := iota .tc S256x128 32 [1] iota_S256x128_d1_w32

/-- Every row's maximum. -/
def rowTop (g : FVec Ideal S256x128 .f32) : FVec Ideal S256x1 .f32 :=
  shapeCast S256x1 (multiReduction .maximumf [1] S256 g 0xFF800000#32 reduces_S256x128_S256 (.inl rfl) rfl) shapeCasts_S256_S256x1

/-- The first lane holding the row's maximum. -/
def firstTop (g : FVec Ideal S256x128 .f32) : IVec S256x128 32 :=
  broadcastTo S256x128 (shapeCast S256x1 (multiReductionI .minsi [1] S256
    (select (cmpf .oeq g (broadcastTo S256x128 (rowTop g) broadcasts_S256x1_S256x128)) lanes (broadcast S256x128 128#32))
    2147483647#32 reduces_S256x128_S256 rfl) shapeCasts_S256_S256x1) broadcasts_S256x1_S256x128

/-- The picked lane of every row, none where all are −∞. -/
def pick (g : FVec Ideal S256x128 .f32) : IVec S256x128 1 :=
  andi (cmpi .eq lanes (firstTop g))
    (broadcastTo S256x128 (cmpf .ogt (rowTop g) (broadcast S256x1 (Scalar.ofBits .f32 0xFF800000#32))) broadcasts_S256x1_S256x128)

/-- The picked lanes replaced by −∞. -/
def unpicked (g : FVec Ideal S256x128 .f32) : FVec Ideal S256x128 .f32 :=
  select (pick g) (broadcast S256x128 (Scalar.ofBits .f32 0xFF800000#32)) g

/-- Zero on the three picked lanes, −∞ elsewhere. -/
def bias (g : FVec Ideal S256x128 .f32) : FVec Ideal S256x128 .f32 :=
  select (ori (ori (ori (broadcast S256x128 0#1) (pick g)) (pick (unpicked g))) (pick (unpicked (unpicked g))))
    (broadcast S256x128 (Scalar.ofBits .f32 0x00000000#32)) (broadcast S256x128 (Named.named κ "mask" 0xF149F2CA#32))

theorem bias_eq (i : grid0.Coords) (q : Vec Ideal S256x128 .bf16) (u : Vec Ideal S128x128 .f32) :
    k0_pay23 lanes (k0_pay19 i q u) (k0_pay20 i q u) (k0_pay21 i q u) (k0_pay22 i q u) = bias (k0_pay17 i q u) := rfl

theorem bot_word : Ideal.ofBits .f32 0xFF800000#32 = (⊥ : EReal) := by simp [Ideal.ofBits, Ideal.ieee]

theorem rowTop_at (g : FVec Ideal S256x128 .f32) (r : Fin 256) : rowTop g (ix2 r 0) = Finset.univ.sup fun x : Fin 128 => g (ix2 r x) := by
  pointwise [rowTop]
  rw [bot_word]
  rfl

/-- The least of some words, read as a number. -/
theorem fold_minsi {ι : Type} (f : ι → BitVec 32) (b : BitVec 32) (A : Finset ι) :
    (Finset.fold IntOp.minsi b f A).toInt = Finset.fold min b.toInt (fun x => (f x).toInt) A := by
  exact (Finset.fold_hom (m := BitVec.toInt) fun x y => SortNet.toInt_minsi x y).symm

theorem firstTop_at (g : FVec Ideal S256x128 .f32) (r : Fin 256) (l a : Fin 128) (ha : g (ix2 r a) = rowTop g (ix2 r 0))
    (hl : ∀ x : Fin 128, x < a → g (ix2 r x) ≠ rowTop g (ix2 r 0)) : firstTop g (ix2 r l) = BitVec.ofNat 32 a.val := by
  pointwise [firstTop]
  have hlane : ∀ x : Fin 128, lanes (ix2 r x) = BitVec.ofNat 32 x.val := fun x => by pointwise [lanes]
  have hI : ∀ x : Fin 128, (BitVec.ofNat 32 x.val).toInt = (x.val : Int) := fun x => toInt_ofNat_of_lt (by omega)
  refine BitVec.eq_of_toInt_eq ?_
  refine (fold_minsi _ _ _).trans ?_
  rw [hI]
  refine le_antisymm ((Finset.fold_min_le _).mpr (Or.inr ⟨a, Finset.mem_univ _, ?_⟩)) ((Finset.le_fold_min _).mpr ⟨?_, fun x _ => ?_⟩)
  · rw [if_pos ha, hlane, hI]
  · have h : (2147483647#32).toInt = 2147483647 := by decide
    rw [h]
    omega
  · by_cases hx : g (ix2 r x) = rowTop g (ix2 r 0)
    · rw [if_pos hx, hlane, hI]
      have : ¬ x < a := fun h => hl x h hx
      have : a.val ≤ x.val := not_lt.mp this
      omega
    · rw [if_neg hx]
      have h : (128#32).toInt = 128 := by decide
      rw [h]
      omega

theorem pick_at (g : FVec Ideal S256x128 .f32) (r : Fin 256) (l : Fin 128) :
    pick g (ix2 r l) = IntOp.andi (IntOp.cmpi .eq (BitVec.ofNat 32 l.val) (firstTop g (ix2 r l))) (FloatOps.cmpf (F := Ideal) (φ := .f32) .ogt (rowTop g (ix2 r 0)) (Ideal.ofBits .f32 0xFF800000#32)) := by
  pointwise [pick, lanes]

theorem unpicked_at (g : FVec Ideal S256x128 .f32) (r : Fin 256) (l : Fin 128) :
    unpicked g (ix2 r l) = Scalar.select (pick g (ix2 r l)) ⊥ (g (ix2 r l)) := by
  pointwise [unpicked]
  rw [bot_word]

/-- Among the places where something holds there is a first. -/
theorem first_of {n : ℕ} (p : Fin n → Prop) (h : ∃ x, p x) : ∃ a, p a ∧ ∀ x, x < a → ¬ p x := by
  obtain ⟨a, ha, hm⟩ := WellFounded.has_min (wellFounded_lt (α := Fin n)) {x | p x} h
  exact ⟨a, ha, fun x hx h' => hm x h' hx⟩

/-- The picked lane is the first one holding the row's maximum, where that is above −∞. -/
theorem pick_iff (g : FVec Ideal S256x128 .f32) (r : Fin 256) (l : Fin 128) :
    pick g (ix2 r l) = 1#1 ↔ Ranks.Pick (fun x : Fin 128 => g (ix2 r x)) l := by
  classical
  have hex : ∃ x : Fin 128, g (ix2 r x) = rowTop g (ix2 r 0) := by
    obtain ⟨x, _, hx⟩ := Finset.exists_mem_eq_sup (Finset.univ : Finset (Fin 128)) ⟨0, Finset.mem_univ _⟩ (fun x : Fin 128 => (g (ix2 r x) : EReal))
    exact ⟨x, hx.symm.trans (rowTop_at g r).symm⟩
  obtain ⟨a, ha, hl⟩ := first_of (fun x : Fin 128 => g (ix2 r x) = rowTop g (ix2 r 0)) hex
  have hle : ∀ x : Fin 128, (g (ix2 r x) : EReal) ≤ g (ix2 r a) := fun x => by
    rw [ha, rowTop_at]
    exact Finset.le_sup (f := fun x : Fin 128 => (g (ix2 r x) : EReal)) (Finset.mem_univ x)
  have e : pick g (ix2 r l) = 1#1 ↔ l = a ∧ (⊥ : EReal) < g (ix2 r a) := by
    rw [pick_at, firstTop_at g r l a ha hl, cmpi_eq_ofNat (by omega) (by omega), ← ha, bot_word]
    have hc : FloatOps.cmpf (F := Ideal) (φ := .f32) .ogt (g (ix2 r a)) (⊥ : EReal) = BitVec.ofBool (decide ((⊥ : EReal) < g (ix2 r a))) := rfl
    rw [hc, andi_ofBool, ofBool_eq_one_iff, Bool.and_eq_true, decide_eq_true_iff, decide_eq_true_iff, Fin.ext_iff]
  rw [e]
  unfold Ranks.Pick
  constructor
  · rintro ⟨rfl, h⟩
    refine ⟨h, fun x hx => ?_⟩
    rcases hx with hx | ⟨hx, hx'⟩
    · exact absurd (hle x) (not_le.mpr hx)
    · exact hl x hx' (hx.trans ha)
  · rintro ⟨h, h'⟩
    have hge : (g (ix2 r a) : EReal) ≤ g (ix2 r l) := not_lt.mp fun hlt => h' a (Or.inl hlt)
    have heq : (g (ix2 r a) : EReal) = g (ix2 r l) := le_antisymm hge (hle l)
    refine ⟨?_, heq ▸ h⟩
    rcases lt_trichotomy l a with hx | hx | hx
    · exact absurd (heq.symm.trans ha) (hl l hx)
    · exact hx
    · exact absurd (Or.inr ⟨heq, hx⟩) (h' a)

/-- Leaving the picked lanes out drops them from every row. -/
theorem unpicked_row (g : FVec Ideal S256x128 .f32) (r : Fin 256) : (fun x : Fin 128 => unpicked g (ix2 r x)) = Ranks.drop (fun x : Fin 128 => g (ix2 r x)) := by
  classical
  funext x
  rw [unpicked_at, BlockRow.select_eq _ (pick_iff g r x)]
  rfl

theorem bias_word (g : FVec Ideal S256x128 .f32) (r : Fin 256) (l : Fin 128) :
    bias g (ix2 r l) = Scalar.select (IntOp.ori (IntOp.ori (IntOp.ori 0#1 (pick g (ix2 r l))) (pick (unpicked g) (ix2 r l))) (pick (unpicked (unpicked g)) (ix2 r l))) 0 (⊥ : EReal) := by
  pointwise [bias]
  rfl

/-- The bias of a lane among the three best of its row is zero. -/
theorem bias_chosen (g : FVec Ideal S256x128 .f32) (r : Fin 256) (l : Fin 128) (h : Ranks.Chosen 3 (fun x : Fin 128 => g (ix2 r x)) l) : bias g (ix2 r l) = (0 : EReal) := by
  have e : ∀ x y z : BitVec 1, (x = 1#1 ∨ y = 1#1 ∨ z = 1#1) → IntOp.ori (IntOp.ori (IntOp.ori 0#1 x) y) z = 1#1 := by decide
  rw [bias_word, e, BlockRow.select_eq (1#1) (p := True) (by simp), if_pos trivial]
  simp only [pick_iff, unpicked_row]
  rcases h with h | h | h | h
  · exact Or.inl h
  · exact Or.inr (Or.inl h)
  · exact Or.inr (Or.inr h)
  · exact h.elim

/-- The bias of any other lane is −∞. -/
theorem bias_not_chosen (g : FVec Ideal S256x128 .f32) (r : Fin 256) (l : Fin 128) (h : ¬ Ranks.Chosen 3 (fun x : Fin 128 => g (ix2 r x)) l) : bias g (ix2 r l) = (⊥ : EReal) := by
  have e : ∀ x y z : BitVec 1, IntOp.ori (IntOp.ori (IntOp.ori 0#1 x) y) z = 1#1 ↔ (x = 1#1 ∨ y = 1#1 ∨ z = 1#1) := by decide
  rw [bias_word]
  refine (BlockRow.select_eq _ (p := False) ?_ _ _).trans (if_neg not_false)
  rw [e, pick_iff, pick_iff, pick_iff, unpicked_row, unpicked_row, unpicked_row]
  refine iff_of_false (fun h' => h ?_) not_false
  rcases h' with h' | h' | h'
  · exact Or.inl h'
  · exact Or.inr (Or.inl h')
  · exact Or.inr (Or.inr (Or.inl h'))

/-! ## The other parts read at an index -/

theorem gates_at (i : grid0.Coords) (q : Vec Ideal S256x128 .bf16) (u : Vec Ideal S128x128 .f32) (r : Fin 256) (l : Fin 128) :
    k0_pay17 i q u (ix2 r l) = Scalar.select (IntOp.cmpi .slt (BitVec.ofNat 32 l.val) (BitVec.ofNat 32 (i 2).val)) (∑ x : Fin 128, q (ix2 r x) * u (ix2 l x)) ⊥ := by
  pointwise [k0_pay17]
  rw [bot_word]

theorem mean_at (k : Vec Ideal S4096x128 .bf16) (n : Fin 16) (d : Fin 128) :
    k0_pay16 k (ix2 n d) = (∑ x : Fin 256, k (ix2 ⟨n.val * 256 + x.val, by omega⟩ d)) * Ideal.ofBits .f32 0x3B800000#32 := by
  pointwise [k0_pay16]

theorem own_at (q k : Vec Ideal S256x128 .bf16) (r c : Fin 256) :
    k0_pay24 q k (ix2 r c) = Scalar.select (IntOp.cmpi .sle (BitVec.ofNat 32 c.val) (BitVec.ofNat 32 r.val)) ((∑ x : Fin 128, q (ix2 r x) * k (ix2 c x)) * Ideal.ofBits .f32 0x3DB504F3#32) ⊥ := by
  pointwise [k0_pay24]
  rfl

theorem ownTop_at (q k : Vec Ideal S256x128 .bf16) (r : Fin 256) :
    k0_pay25 q k (ix2 r 0) = Finset.univ.sup fun c : Fin 256 => k0_pay24 q k (ix2 r c) := by
  pointwise [k0_pay25]
  rw [bot_word]
  rfl

theorem ownWeight_at (q k : Vec Ideal S256x128 .bf16) (r c : Fin 256) :
    k0_pay26 q k (ix2 r c) = Ideal.exp (k0_pay24 q k (ix2 r c) - k0_pay25 q k (ix2 r 0)) := by
  pointwise [k0_pay26]

theorem ownTotal_at (q k : Vec Ideal S256x128 .bf16) (r : Fin 256) :
    k0_pay27 q k (ix2 r 0) = ∑ c : Fin 256, k0_pay26 q k (ix2 r c) := by
  pointwise [k0_pay27]

theorem average_at (p : FVec Ideal S256x256 .f32) (v : Vec Ideal S256x128 .bf16) (r : Fin 256) (d : Fin 128) :
    k0_pay1 p v (ix2 r d) = ∑ c : Fin 256, p (ix2 r c) * v (ix2 c d) := by
  pointwise [k0_pay1]

theorem score_at (i : grid0.Coords) (q : Vec Ideal S256x128 .bf16) (B : FVec Ideal S256x128 .f32) (n : Fin (k0_t1_loop i).trips) (k : Vec Ideal S256x128 .bf16) (r c : Fin 256) :
    k0_pay2 i q lanes B n k (ix2 r c) = (∑ x : Fin 128, q (ix2 r x) * k (ix2 c x)) * Ideal.ofBits .f32 0x3DB504F3#32 +
      Finset.univ.sup fun l : Fin 128 => Scalar.select (IntOp.cmpi .eq (BitVec.ofNat 32 l.val) (Scf.iv 0#32 1#32 n)) (B (ix2 r l)) ⊥ := by
  pointwise [k0_pay2, lanes]
  rw [bot_word]
  rfl

theorem top_at (i : grid0.Coords) (q : Vec Ideal S256x128 .bf16) (L : IVec S256x128 32) (B : FVec Ideal S256x128 .f32) (n : Fin (k0_t1_loop i).trips) (m : FVec Ideal S256x1 .f32) (k : Vec Ideal S256x128 .bf16) (r : Fin 256) :
    k0_pay3 i q L B n m k (ix2 r 0) = max (m (ix2 r 0)) (Finset.univ.sup fun c : Fin 256 => k0_pay2 i q L B n k (ix2 r c)) := by
  pointwise [k0_pay3]
  rw [bot_word]
  rfl

theorem shift_at (i : grid0.Coords) (q : Vec Ideal S256x128 .bf16) (L : IVec S256x128 32) (B : FVec Ideal S256x128 .f32) (n : Fin (k0_t1_loop i).trips) (m : FVec Ideal S256x1 .f32) (k : Vec Ideal S256x128 .bf16) (r : Fin 256) :
    k0_pay4 i q L B n m k (ix2 r 0) = Ideal.exp (m (ix2 r 0) - k0_pay3 i q L B n m k (ix2 r 0)) := by
  pointwise [k0_pay4]

theorem weight_at (i : grid0.Coords) (q : Vec Ideal S256x128 .bf16) (L : IVec S256x128 32) (B : FVec Ideal S256x128 .f32) (n : Fin (k0_t1_loop i).trips) (m : FVec Ideal S256x1 .f32) (k : Vec Ideal S256x128 .bf16) (r c : Fin 256) :
    k0_pay5 i q L B n m k (ix2 r c) = Ideal.exp (k0_pay2 i q L B n k (ix2 r c) - k0_pay3 i q L B n m k (ix2 r 0)) := by
  pointwise [k0_pay5]

theorem total_at (i : grid0.Coords) (q : Vec Ideal S256x128 .bf16) (L : IVec S256x128 32) (B : FVec Ideal S256x128 .f32) (n : Fin (k0_t1_loop i).trips) (m l : FVec Ideal S256x1 .f32) (k : Vec Ideal S256x128 .bf16) (r : Fin 256) :
    k0_pay6 i q L B n m l k (ix2 r 0) = k0_pay4 i q L B n m k (ix2 r 0) * l (ix2 r 0) + ∑ c : Fin 256, k0_pay5 i q L B n m k (ix2 r c) := by
  pointwise [k0_pay6]

theorem sum_at (i : grid0.Coords) (q : Vec Ideal S256x128 .bf16) (L : IVec S256x128 32) (B : FVec Ideal S256x128 .f32) (n : Fin (k0_t1_loop i).trips) (m : FVec Ideal S256x1 .f32) (a : FVec Ideal S256x128 .f32) (k v : Vec Ideal S256x128 .bf16) (r : Fin 256) (d : Fin 128) :
    k0_pay7 i q L B n m a k v (ix2 r d) = k0_pay4 i q L B n m k (ix2 r 0) * a (ix2 r d) + ∑ c : Fin 256, k0_pay5 i q L B n m k (ix2 r c) * v (ix2 c d) := by
  pointwise [k0_pay7]

theorem out_at (l : FVec Ideal S256x1 .f32) (a : FVec Ideal S256x128 .f32) (g : Vec Ideal S256x128 .bf16) (r : Fin 256) (d : Fin 128) :
    k0_pay14 l a g (ix2 r d) = a (ix2 r d) * Ideal.div 1 (l (ix2 r 0)) * (g (ix2 r d) * Ideal.div 1 (1 + Ideal.exp (0 - g (ix2 r d)))) := by
  pointwise [k0_pay14]

end Cert.MobaIdeal.Blocks
-- ==== Proof.MobaLoop.lean ====
/- The pass over the past blocks: what the running maximum, total and sum are after some of them. -/
module

public import proofs.«01_k».proof.Proof.Gen.MobaIdeal.Loops
public import proofs.«01_k».proof.Proof.MobaTile

@[expose] public section

set_option maxRecDepth 16384

noncomputable section

open Idealize.ShloMosaic Idealize.ShloMosaic.TcCoe Idealize.SL.Sem Idealize.ShloMosaic.WordCmp
open Idealize.ShloMosaic.Pipeline (Dat)
open Cert.Attention

namespace Cert.MobaIdeal.Blocks

open Cert.MobaIdeal Cert.MobaIdeal.Gen

/-! ## Words -/

theorem trips_eq (i : grid0.Coords) : (k0_t1_loop i).trips = (i 2).val := by
  have h : ∀ n : Fin 16, Scf.trips 0#32 (Scalar.addi 0#32 (Scalar.muli (Scalar.divsi (Scalar.subi (BitVec.ofNat 32 n.val) 0#32) 1#32) 1#32)) 1#32 = n.val := by
    decide +kernel
  exact h (i 2)

theorem iv_eq (n : ℕ) (hn : n < 16) : Scf.iv 0#32 1#32 n = BitVec.ofNat 32 n := by
  have h : ∀ n : Fin 16, Scf.iv 0#32 1#32 n.val = BitVec.ofNat 32 n.val := by decide +kernel
  exact h ⟨n, hn⟩

theorem off1_eq (i : grid0.Coords) : k0_off1 i = ![(i 2).val * 256, 0] := by
  have h : ∀ n : Fin 16, (Scalar.indexCast (Scalar.muli (BitVec.ofNat 32 n.val) 256#32)).toNat = n.val * 256 := by decide +kernel
  funext a
  fin_cases a
  · exact h (i 2)
  · rfl

theorem off2_eq (i : grid0.Coords) (k : Fin (k0_t1_loop i).trips) (hk : k.val < 16) : k0_off2 i k = ![k.val * 256, 0] := by
  have h : ∀ n : Fin 16, (Scalar.indexCast (Scalar.muli (Scf.iv 0#32 1#32 n.val) 256#32)).toNat = n.val * 256 := by decide +kernel
  funext a
  fin_cases a
  · exact h ⟨k.val, hk⟩
  · rfl

/-- The query tile's own block. -/
abbrev ownBlock (i : grid0.Coords) (x : Vec Ideal S4096x128 .bf16) : Vec Ideal S256x128 .bf16 :=
  View.ld x (Rect.unit (s := S4096x128) (k0_off1 i) S256x128.size (k0_off1_inb i))

/-- A past block. -/
abbrev pastBlock (i : grid0.Coords) (k : Fin (k0_t1_loop i).trips) (x : Vec Ideal S4096x128 .bf16) : Vec Ideal S256x128 .bf16 :=
  View.ld x (Rect.unit (s := S4096x128) (k0_off2 i k) S256x128.size (k0_off2_inb i k))

theorem ownBlock_at (i : grid0.Coords) (x : Vec Ideal S4096x128 .bf16) (n : Fin 16) (hn : n.val = (i 2).val) (r : Fin 256) (d : Fin 128) :
    ownBlock i x (ix2 r d) = x (ix2 ⟨n.val * 256 + r.val, by omega⟩ d) := by
  refine View.ld_unit_apply_of _ _ _ _ _ _ (fun a => ?_)
  refine Eq.trans ?_ (congrArg (· + _) (congrFun (off1_eq i) a).symm)
  rw [← hn]
  fin_cases a <;> simp

theorem pastBlock_at (i : grid0.Coords) (k : Fin (k0_t1_loop i).trips) (x : Vec Ideal S4096x128 .bf16) (n : Fin 16) (hn : n.val = k.val) (r : Fin 256) (d : Fin 128) :
    pastBlock i k x (ix2 r d) = x (ix2 ⟨n.val * 256 + r.val, by omega⟩ d) := by
  refine View.ld_unit_apply_of _ _ _ _ _ _ (fun a => ?_)
  refine Eq.trans ?_ (congrArg (· + _) (congrFun (off2_eq i k (by omega)) a).symm)
  rw [← hn]
  fin_cases a <;> simp

/-! ## One trip -/

theorem trip_yield (𝒱 : Variants) (c : Dev nD) (bd : Option 𝒱.V) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S128x128 .f32) (harg8 : arg8.IsWhole) (q : Vec Ideal S256x128 .bf16) (L : IVec S256x128 32) (B : FVec Ideal S256x128 .f32) (X4 : BufTy.Contents (Elt Ideal) arg4.view.ty) (X5 : BufTy.Contents (Elt Ideal) arg5.view.ty)
    (k : Fin (k0_t1_loop i).trips) (acc : FVec Ideal S256x1 .f32 × FVec Ideal S256x1 .f32 × FVec Ideal S256x128 .f32) (x4 x5 : Vec Ideal S4096x128 .bf16)
    (h4 : arg4.view.read (Elt Ideal) X4 = x4) (h5 : arg5.view.read (Elt Ideal) X5 = x5) :
    tripR_k0_t1 (F := Ideal) 𝒱 c bd i arg3 harg3 arg4 harg4 arg5 harg5 arg6 harg6 arg7 harg7 arg8 harg8 q L B X4 X5 k acc
      = (k0_pay3 i q L B k acc.1 (pastBlock i k x4), k0_pay6 i q L B k acc.1 acc.2.1 (pastBlock i k x4), k0_pay7 i q L B k acc.1 acc.2.2 (pastBlock i k x4) (pastBlock i k x5)) := by
  subst h4 h5
  unfold tripR_k0_t1 trip_k0_t1
  dsimp only
  rfl

/-! ## The keys joined so far -/

/-- The lane of a block among the tile's 128. -/
def lane (n : Fin 16) : Fin 128 := n.castLE (by decide)

/-- The scores of row `r` with the key `z.2` of block `z.1`: causal in the tile's own block, with the block's bias elsewhere. -/
def score (b : ℕ) (q : Vec Ideal S256x128 .bf16) (x : Vec Ideal S4096x128 .bf16) (B : FVec Ideal S256x128 .f32) (r : Fin 256) (z : Fin 16 × Fin 256) : EReal :=
  if z.1.val = b then
    if z.2.val ≤ r.val then BlockRow.score (fun y => q (ix2 r y)) (fun j y => x (ix2 j y)) ⟨z.1.val * 256 + z.2.val, by omega⟩ else ⊥
  else BlockRow.score (fun y => q (ix2 r y)) (fun j y => x (ix2 j y)) ⟨z.1.val * 256 + z.2.val, by omega⟩ + B (ix2 r (lane z.1))

/-- A block's value at lane `d`. -/
def value (x : Vec Ideal S4096x128 .bf16) (d : Fin 128) (z : Fin 16 × Fin 256) : EReal := x (ix2 ⟨z.1.val * 256 + z.2.val, by omega⟩ d)

/-- One block's keys. -/
def block (n : Fin 16) : Finset (Fin 16 × Fin 256) := Finset.univ.map ⟨fun c => (n, c), fun c c' h => (Prod.mk.inj h).2⟩

/-- The keys of block `b` and of the blocks before block `n`. -/
def joined (b : Fin 16) : ℕ → Finset (Fin 16 × Fin 256)
  | 0 => block b
  | n + 1 => joined b n ∪ (if h : n < 16 then block ⟨n, h⟩ else ∅)

theorem mem_block (n : Fin 16) (z : Fin 16 × Fin 256) : z ∈ block n ↔ z.1 = n := by
  unfold block
  rw [Finset.mem_map]
  constructor
  · rintro ⟨c, _, rfl⟩
    rfl
  · rintro rfl
    exact ⟨z.2, Finset.mem_univ _, rfl⟩

theorem mem_joined (b : Fin 16) (n : ℕ) (z : Fin 16 × Fin 256) : z ∈ joined b n ↔ z.1 = b ∨ z.1.val < n := by
  induction n with
  | zero => exact (mem_block b z).trans (by simp)
  | succ n ih =>
    unfold joined
    rw [Finset.mem_union, ih]
    by_cases h : n < 16
    · rw [dif_pos h, mem_block, Fin.ext_iff (b := (⟨n, h⟩ : Fin 16))]
      show (_ ∨ _) ∨ z.1.val = n ↔ _
      omega
    · rw [dif_neg h]
      have := z.1.isLt
      simp only [Finset.notMem_empty, or_false]
      omega

theorem sum_block (n : Fin 16) (f : Fin 16 × Fin 256 → EReal) : ∑ z ∈ block n, f z = ∑ c : Fin 256, f (n, c) := Finset.sum_map _ _ _

theorem sup_block (n : Fin 16) (f : Fin 16 × Fin 256 → EReal) : (block n).sup f = Finset.univ.sup fun c : Fin 256 => f (n, c) := Finset.sup_map _ _ _

/-! ## The pass -/

/-- The running maximum, total and sum stand for the keys of a set. -/
def Stands (s : Fin 256 → Fin 16 × Fin 256 → EReal) (v : Fin 128 → Fin 16 × Fin 256 → EReal) (A : Finset (Fin 16 × Fin 256))
    (S : FVec Ideal S256x1 .f32 × FVec Ideal S256x1 .f32 × FVec Ideal S256x128 .f32) : Prop :=
  ∀ r : Fin 256, S.1 (ix2 r 0) = A.sup (s r) ∧ S.2.1 (ix2 r 0) = weight (s r) A ∧ ∀ d : Fin 128, S.2.2 (ix2 r d) = mass (s r) A (v d)

/-- A product of two keys with bias zero or −∞ added is not +∞. -/
theorem score_ne_top (b : ℕ) (q : Vec Ideal S256x128 .bf16) (x : Vec Ideal S4096x128 .bf16) (B : FVec Ideal S256x128 .f32) (hB : ∀ r l, B (ix2 r l) = (0 : EReal) ∨ B (ix2 r l) = (⊥ : EReal))
    (hN : ∀ (r : Fin 256) j, IsNum (BlockRow.score (fun y => q (ix2 r y)) (fun j y => x (ix2 j y)) j)) (r : Fin 256) (z : Fin 16 × Fin 256) : score b q x B r z ≠ ⊤ := by
  unfold score
  split
  · split
    · exact (hN r _).2
    · exact bot_ne_top
  · rcases hB r (lane z.1) with h | h
    · rw [h, add_zero]
      exact (hN r _).2
    · rw [h, EReal.add_bot]
      exact bot_ne_top

/-- The tile's own block has a number among every row's scores. -/
theorem own_isNum (b : Fin 16) (q : Vec Ideal S256x128 .bf16) (x : Vec Ideal S4096x128 .bf16) (B : FVec Ideal S256x128 .f32) (hB : ∀ r l, B (ix2 r l) = (0 : EReal) ∨ B (ix2 r l) = (⊥ : EReal))
    (hN : ∀ (r : Fin 256) j, IsNum (BlockRow.score (fun y => q (ix2 r y)) (fun j y => x (ix2 j y)) j)) (n : ℕ) (r : Fin 256) : IsNum ((joined b n).sup (score b.val q x B r)) := by
  have h0 : score b.val q x B r (b, r) ≠ ⊥ := by
    unfold score
    rw [if_pos rfl, if_pos le_rfl]
    exact (hN r _).1
  refine ⟨fun h => h0 (le_bot_iff.mp (h ▸ Finset.le_sup (f := score b.val q x B r) ((mem_joined b n (b, r)).mpr (Or.inl rfl)))), ?_⟩
  exact ((Finset.sup_lt_iff bot_lt_top).2 fun z _ => lt_top_iff_ne_top.2 (score_ne_top b.val q x B hB hN r z)).ne

/-- Before the pass the three stand for the tile's own block. -/
theorem stands_init (i : grid0.Coords) (b : Fin 16) (hb : b.val = (i 2).val) (q : Vec Ideal S256x128 .bf16) (x4 x5 : Vec Ideal S4096x128 .bf16) (B : FVec Ideal S256x128 .f32) :
    Stands (score b.val q x4 B) (value x5) (joined b 0) (k0_pay25 q (ownBlock i x4), k0_pay27 q (ownBlock i x4), k0_pay1 (k0_pay26 q (ownBlock i x4)) (ownBlock i x5)) := by
  intro r
  have hs : ∀ c : Fin 256, k0_pay24 q (ownBlock i x4) (ix2 r c) = score b.val q x4 B r (b, c) := fun c => by
    rw [own_at, BlockRow.select_eq _ (p := c.val ≤ r.val) (by rw [cmpi_sle_ofNat (by omega) (by omega), ofBool_eq_one_iff, decide_eq_true_iff])]
    unfold score BlockRow.score
    rw [if_pos rfl]
    refine if_congr Iff.rfl (congrArg (· * _) (Finset.sum_congr rfl fun y _ => ?_)) rfl
    rw [ownBlock_at i x4 b hb]
  have ht : k0_pay25 q (ownBlock i x4) (ix2 r 0) = (joined b 0).sup (score b.val q x4 B r) := by
    rw [ownTop_at]
    refine Eq.trans ?_ (sup_block b _).symm
    exact congrArg _ (funext hs)
  have hw : ∀ c : Fin 256, k0_pay26 q (ownBlock i x4) (ix2 r c) = Ideal.exp (score b.val q x4 B r (b, c) - (joined b 0).sup (score b.val q x4 B r)) := fun c => by
    rw [ownWeight_at, hs, ht]
  refine ⟨?_, ?_, fun d => ?_⟩
  · dsimp only
    rw [ht]
  · show k0_pay27 q (ownBlock i x4) (ix2 r 0) = _
    rw [ownTotal_at]
    refine Eq.trans ?_ (sum_block b fun z => Ideal.exp (score b.val q x4 B r z - (joined b 0).sup (score b.val q x4 B r))).symm
    exact Finset.sum_congr rfl fun c _ => hw c
  · show k0_pay1 (k0_pay26 q (ownBlock i x4)) (ownBlock i x5) (ix2 r d) = _
    rw [average_at]
    refine Eq.trans ?_ (sum_block b fun z => Ideal.exp (score b.val q x4 B r z - (joined b 0).sup (score b.val q x4 B r)) * value x5 d z).symm
    refine Finset.sum_congr rfl fun c _ => ?_
    rw [hw, ownBlock_at i x5 b hb]
    rfl

/-- One trip joins one more block. -/
theorem stands_step (i : grid0.Coords) (b : Fin 16) (hb : b.val = (i 2).val) (q : Vec Ideal S256x128 .bf16) (x4 x5 : Vec Ideal S4096x128 .bf16) (B : FVec Ideal S256x128 .f32)
    (hB : ∀ r l, B (ix2 r l) = (0 : EReal) ∨ B (ix2 r l) = (⊥ : EReal))
    (hN : ∀ (r : Fin 256) j, IsNum (BlockRow.score (fun y => q (ix2 r y)) (fun j y => x4 (ix2 j y)) j)) (k : Fin (k0_t1_loop i).trips)
    (S : FVec Ideal S256x1 .f32 × FVec Ideal S256x1 .f32 × FVec Ideal S256x128 .f32) (hS : Stands (score b.val q x4 B) (value x5) (joined b k.val) S) :
    Stands (score b.val q x4 B) (value x5) (joined b (k.val + 1))
      (k0_pay3 i q lanes B k S.1 (pastBlock i k x4), k0_pay6 i q lanes B k S.1 S.2.1 (pastBlock i k x4), k0_pay7 i q lanes B k S.1 S.2.2 (pastBlock i k x4) (pastBlock i k x5)) := by
  intro r
  obtain ⟨hm, hl, ha⟩ := hS r
  have hkb : k.val < b.val := by rw [hb, ← trips_eq]; exact k.isLt
  have hk : k.val < 16 := by omega
  have hj : joined b (k.val + 1) = joined b k.val ∪ block ⟨k.val, hk⟩ := by
    show joined b k.val ∪ _ = _
    rw [dif_pos hk]
  have hd : Disjoint (joined b k.val) (block ⟨k.val, hk⟩) := by
    rw [Finset.disjoint_left]
    intro z hz hz'
    rw [mem_joined] at hz
    rw [mem_block] at hz'
    rw [hz', Fin.ext_iff] at hz
    simp only at hz
    omega
  have hA := own_isNum b q x4 B hB hN k.val r
  have hT := score_ne_top b.val q x4 B hB hN r
  have hs : ∀ c : Fin 256, k0_pay2 i q lanes B k (pastBlock i k x4) (ix2 r c) = score b.val q x4 B r (⟨k.val, hk⟩, c) := fun c => by
    rw [score_at]
    unfold score
    rw [if_neg (show ¬ k.val = b.val by omega)]
    refine congrArg₂ (· + ·) ?_ ?_
    · refine congrArg (· * _) (Finset.sum_congr rfl fun y _ => ?_)
      rw [pastBlock_at i k x4 ⟨k.val, hk⟩ rfl]
    · have hsel : ∀ l : Fin 128, Scalar.select (IntOp.cmpi .eq (BitVec.ofNat 32 l.val) (Scf.iv 0#32 1#32 k)) (B (ix2 r l)) (⊥ : EReal) = if l.val = k.val then (B (ix2 r l) : EReal) else ⊥ := fun l =>
        BlockRow.select_eq _ (by rw [iv_eq k.val hk, cmpi_eq_ofNat (by omega) (by omega), ofBool_eq_one_iff, decide_eq_true_iff]) _ _
      refine (congrArg (Finset.univ.sup) (funext hsel)).trans ?_
      refine le_antisymm (Finset.sup_le fun l _ => ?_) ?_
      · split
        · next h => exact le_of_eq (congrArg (fun l : Fin 128 => (B (ix2 r l) : EReal)) (Fin.ext h))
        · exact bot_le
      · refine le_trans (le_of_eq ?_) (Finset.le_sup (f := fun l : Fin 128 => if l.val = k.val then (B (ix2 r l) : EReal) else ⊥) (Finset.mem_univ (⟨k.val, by omega⟩ : Fin 128)))
        exact (if_pos rfl).symm
  have ht : k0_pay3 i q lanes B k S.1 (pastBlock i k x4) (ix2 r 0) = max ((joined b k.val).sup (score b.val q x4 B r)) ((block ⟨k.val, hk⟩).sup (score b.val q x4 B r)) := by
    rw [top_at, hm, sup_block]
    exact congrArg (fun f : Fin 256 → EReal => max _ (Finset.univ.sup f)) (funext hs)
  have hw : ∀ c : Fin 256, k0_pay5 i q lanes B k S.1 (pastBlock i k x4) (ix2 r c) = Ideal.exp (score b.val q x4 B r (⟨k.val, hk⟩, c)
      - max ((joined b k.val).sup (score b.val q x4 B r)) ((block ⟨k.val, hk⟩).sup (score b.val q x4 B r))) := fun c => by
    rw [weight_at, hs, ht]
  have hx : k0_pay4 i q lanes B k S.1 (pastBlock i k x4) (ix2 r 0) = Ideal.exp ((joined b k.val).sup (score b.val q x4 B r)
      - max ((joined b k.val).sup (score b.val q x4 B r)) ((block ⟨k.val, hk⟩).sup (score b.val q x4 B r))) := by
    rw [shift_at, ht, hm]
  rw [hj]
  refine ⟨ht.trans Finset.sup_union.symm, ?_, fun d => ?_⟩
  · rw [weight_union _ hT hA hd, sum_block]
    refine (total_at _ _ _ _ _ _ _ _ _).trans ?_
    rw [hx, hl]
    exact congrArg₂ (fun x y : EReal => x + y) rfl (Finset.sum_congr rfl fun c _ => hw c)
  · rw [mass_union _ hT hA hd, sum_block]
    refine (sum_at _ _ _ _ _ _ _ _ _ _ _).trans ?_
    rw [hx, ha]
    refine congrArg₂ (fun x y : EReal => x + y) rfl (Finset.sum_congr rfl fun c _ => ?_)
    rw [hw, pastBlock_at i k x5 ⟨k.val, hk⟩ rfl]
    rfl

/-- After `n` trips the three stand for the tile's own block and the first `n`. -/
theorem stands_state (𝒱 : Variants) (c : Dev nD) (bd : Option 𝒱.V) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S128x128 .f32) (harg8 : arg8.IsWhole) (b : Fin 16) (hb : b.val = (i 2).val) (q : Vec Ideal S256x128 .bf16) (B : FVec Ideal S256x128 .f32)
    (hB : ∀ r l, B (ix2 r l) = (0 : EReal) ∨ B (ix2 r l) = (⊥ : EReal)) (X4 : BufTy.Contents (Elt Ideal) arg4.view.ty) (X5 : BufTy.Contents (Elt Ideal) arg5.view.ty) (x4 x5 : Vec Ideal S4096x128 .bf16)
    (h4 : arg4.view.read (Elt Ideal) X4 = x4) (h5 : arg5.view.read (Elt Ideal) X5 = x5)
    (hN : ∀ (r : Fin 256) j, IsNum (BlockRow.score (fun y => q (ix2 r y)) (fun j y => x4 (ix2 j y)) j))
    (init : FVec Ideal S256x1 .f32 × FVec Ideal S256x1 .f32 × FVec Ideal S256x128 .f32) (hI : Stands (score b.val q x4 B) (value x5) (joined b 0) init) (n : ℕ) (hn : n ≤ (k0_t1_loop i).trips) :
    Stands (score b.val q x4 B) (value x5) (joined b n) (st_k0_t1 (F := Ideal) 𝒱 c bd i arg3 harg3 arg4 harg4 arg5 harg5 arg6 harg6 arg7 harg7 arg8 harg8 q lanes B X4 X5 init n) := by
  induction n with
  | zero =>
    rw [st_k0_t1_zero]
    exact hI
  | succ n ih =>
    rw [st_k0_t1_succ 𝒱 c bd i arg3 harg3 arg4 harg4 arg5 harg5 arg6 harg6 arg7 harg7 arg8 harg8 q lanes B X4 X5 init ⟨n, hn⟩, trip_yield 𝒱 c bd i arg3 harg3 arg4 harg4 arg5 harg5 arg6 harg6 arg7 harg7 arg8 harg8 q lanes B X4 X5 ⟨n, hn⟩ _ x4 x5 h4 h5]
    exact stands_step i b hb q x4 x5 B hB hN ⟨n, hn⟩ _ (ih (Nat.le_of_succ_le hn))

end Cert.MobaIdeal.Blocks
-- ==== Proof.MobaEntry.lean ====
/- One query tile against one query's row: what the pass over the blocks leaves is the reference's average. -/
module

public import proofs.«01_k».proof.Proof.MobaLoop

@[expose] public section

set_option maxRecDepth 16384

noncomputable section

open Idealize.ShloMosaic Idealize.ShloMosaic.TcCoe Idealize.SL.Sem Idealize.ShloMosaic.WordCmp
open Cert.Attention

namespace Cert.BlockRow

/-! ## Numbers -/

theorem block_size : Ideal.ofBits .f32 0x43800000#32 = ((256 : ℝ) : EReal) := by
  simp [Ideal.ofBits, Ideal.ieee]
  norm_num
  rw [← EReal.coe_mul]
  norm_num

theorem block_part : Ideal.ofBits .f32 0x3B800000#32 = ((1 / 256 : ℝ) : EReal) := by
  simp [Ideal.ofBits, Ideal.ieee]
  norm_num
  rw [← EReal.coe_mul]
  norm_num

theorem scale_isNum : IsNum (Ideal.ofBits .f32 0x3DB504F3#32) := by
  simp [Ideal.ofBits, Ideal.ieee]
  norm_num
  rw [← EReal.coe_mul]
  exact isNum_coe _

/-- A mean is a sum times one part in 256. -/
theorem mean_eq (k : Fin 4096 → Fin 128 → EReal) (n : Fin 16) (x : Fin 128) :
    mean k n x = (∑ y : Fin 256, k ⟨n.val * 256 + y.val, by omega⟩ x) * Ideal.ofBits .f32 0x3B800000#32 := by
  unfold mean
  rw [block_size, block_part, Ideal.div_coe (by norm_num)]

variable (q : Fin 128 → EReal) (k : Fin 4096 → Fin 128 → EReal) (hq : ∀ x, IsNum (q x)) (hk : ∀ j x, IsNum (k j x))

include hq hk

theorem score_isNum (j : Fin 4096) : IsNum (score q k j) :=
  (isNum_sum _ _ fun x => (hq x).mul (hk j x)).mul scale_isNum

/-- The gate of an earlier block is a number. -/
theorem gates_isNum (B : ℕ) (n : Fin 16) (h : n.val < B) : IsNum (gates q k B n) := by
  rw [gates_eq q k B n (p := n.val < B) Iff.rfl, if_pos h]
  refine isNum_sum _ _ fun x => (hq x).mul ?_
  rw [mean_eq, block_part]
  exact (isNum_sum _ _ fun y => hk _ x).mul (isNum_coe _)

end Cert.BlockRow

namespace Cert.MobaIdeal.Blocks

open Cert.MobaIdeal Cert.MobaIdeal.Gen

section Tile
variable (i : grid0.Coords) (b : Fin 16) (hb : b.val = (i 2).val) (q : Vec Ideal S256x128 .bf16) (x4 x5 : Vec Ideal S4096x128 .bf16) (u : Vec Ideal S128x128 .f32)
  (hu : ∀ (n : Fin 16) (d : Fin 128), u (ix2 (lane n) d) = k0_pay16 x4 (ix2 n d))

/-- The bias is zero or −∞. -/
theorem bias_cases (g : FVec Ideal S256x128 .f32) (r : Fin 256) (l : Fin 128) : bias g (ix2 r l) = (0 : EReal) ∨ bias g (ix2 r l) = (⊥ : EReal) := by
  by_cases h : Ranks.Chosen 3 (fun x : Fin 128 => g (ix2 r x)) l
  · exact Or.inl (bias_chosen g r l h)
  · exact Or.inr (bias_not_chosen g r l h)

include hb hu

/-- The tile's gates are the row's on the first 16 lanes. -/
theorem gates_low (r : Fin 256) (n : Fin 16) : k0_pay17 i q u (ix2 r (lane n))
    = BlockRow.gates (fun y => q (ix2 r y)) (fun j y => x4 (ix2 j y)) b.val n := by
  rw [gates_at, ← hb, BlockRow.select_eq _ (p := n.val < b.val) (by rw [cmpi_slt_ofNat (by have := n.isLt; show n.val < _; omega) (by omega), ofBool_eq_one_iff, decide_eq_true_iff]; exact Iff.rfl),
    BlockRow.gates_eq _ _ _ _ (p := n.val < b.val) Iff.rfl]
  refine if_congr Iff.rfl (Finset.sum_congr rfl fun x _ => ?_) rfl
  rw [hu, mean_at, BlockRow.mean_eq]

omit hu in
/-- No lane past those is a block's. -/
theorem gates_high (r : Fin 256) (l : Fin 128) (hl : 16 ≤ l.val) : k0_pay17 i q u (ix2 r l) = (⊥ : EReal) := by
  rw [gates_at, ← hb, BlockRow.select_eq _ (p := l.val < b.val) (by rw [cmpi_slt_ofNat (by omega) (by omega), ofBool_eq_one_iff, decide_eq_true_iff])]
  exact if_neg (by omega)

variable (hq : ∀ (r : Fin 256) x, IsNum (q (ix2 r x))) (hk : ∀ (j : Fin 4096) x, IsNum (x4 (ix2 j x)))

include hq hk

/-- An earlier block's lane is among the best three exactly if its rank among the 16 blocks is below three. -/
theorem chosen_rank (r : Fin 256) (n : Fin 16) (hn : n.val < b.val) :
    Ranks.Chosen 3 (fun x : Fin 128 => k0_pay17 i q u (ix2 r x)) (lane n)
      ↔ Ranks.rank (BlockRow.gates (fun y => q (ix2 r y)) (fun j y => x4 (ix2 j y)) b.val) n < 3 := by
  have hg : (⊥ : EReal) < BlockRow.gates (fun y => q (ix2 r y)) (fun j y => x4 (ix2 j y)) b.val n :=
    bot_lt_iff_ne_bot.2 (BlockRow.gates_isNum _ _ (hq r) hk b.val n hn).1
  have hr : Ranks.rank (fun x : Fin 128 => k0_pay17 i q u (ix2 r x)) (lane n) = Ranks.rank (BlockRow.gates (fun y => q (ix2 r y)) (fun j y => x4 (ix2 j y)) b.val) n :=
    Ranks.rank_pad (by omega) _ _ (fun a => gates_low i b hb q x4 u hu r a) (fun a ha => gates_high i b hb q u r a ha) n hg
  rw [Ranks.chosen_iff, ← hr]
  refine and_iff_right ?_
  beta_reduce
  rw [gates_low i b hb q x4 u hu r n]
  exact hg

/-- The running maximum, total and sum over the joined blocks give the row's average. -/
theorem tile_average (St : FVec Ideal S256x1 .f32 × FVec Ideal S256x1 .f32 × FVec Ideal S256x128 .f32)
    (hS : Stands (score b.val q x4 (bias (k0_pay17 i q u))) (value x5) (joined b b.val) St) (r : Fin 256) (d : Fin 128) (s : Fin 4096) (hs : s.val = b.val * 256 + r.val) :
    St.2.2 (ix2 r d) * Ideal.div 1 (St.2.1 (ix2 r 0)) = ∑ x : Fin 4096, x5 (ix2 x d) *
      Ideal.div (Ideal.exp (BlockRow.row (fun y => q (ix2 r y)) (fun j y => x4 (ix2 j y)) s x - Finset.univ.sup (BlockRow.row (fun y => q (ix2 r y)) (fun j y => x4 (ix2 j y)) s)))
        (∑ y : Fin 4096, Ideal.exp (BlockRow.row (fun y => q (ix2 r y)) (fun j y => x4 (ix2 j y)) s y - Finset.univ.sup (BlockRow.row (fun y => q (ix2 r y)) (fun j y => x4 (ix2 j y)) s))) := by
  classical
  have hN : ∀ (r : Fin 256) j, IsNum (BlockRow.score (fun y => q (ix2 r y)) (fun j y => x4 (ix2 j y)) j) := fun r j => BlockRow.score_isNum _ _ (hq r) hk j
  have hB := bias_cases (k0_pay17 i q u)
  have hsb : s.val / 256 = b.val := by omega
  obtain ⟨-, h2, h3⟩ := hS r
  rw [h2, h3]
  refine (online_average (fun z : Fin 16 × Fin 256 => (⟨z.1.val * 256 + z.2.val, by omega⟩ : Fin 4096)) (joined b b.val) _ (fun x => x5 (ix2 x d)) (score b.val q x4 (bias (k0_pay17 i q u)) r) (value x5 d)
    ?_ ?_ (fun z _ => rfl) ?_ (score_ne_top b.val q x4 _ hB hN r) (own_isNum b q x4 _ hB hN b.val r)).symm
  · intro z z' _ _ h
    have h' : z.1.val * 256 + z.2.val = z'.1.val * 256 + z'.2.val := congrArg Fin.val h
    exact Prod.ext (Fin.ext (by omega)) (Fin.ext (by omega))
  · intro z hz
    rw [mem_joined] at hz
    have e : (z.1.val * 256 + z.2.val) / 256 = z.1.val := by omega
    have en : (⟨(z.1.val * 256 + z.2.val) / 256, by omega⟩ : Fin 16) = z.1 := Fin.ext e
    unfold score
    by_cases hz' : z.1.val = b.val
    · rw [if_pos hz']
      refine BlockRow.row_eq _ _ _ _ ?_
      unfold BlockRow.Reads
      constructor
      · intro h
        refine Or.inr ⟨?_, ?_⟩
        · show s.val / 256 = (z.1.val * 256 + z.2.val) / 256
          omega
        · show z.1.val * 256 + z.2.val ≤ s.val
          omega
      · rintro (⟨h, _⟩ | ⟨_, h⟩)
        · have h' : (z.1.val * 256 + z.2.val) / 256 < s.val / 256 := h
          omega
        · have h' : z.1.val * 256 + z.2.val ≤ s.val := h
          omega
    · have hlt : z.1.val < b.val := by
        rcases hz with h | h
        · exact absurd (congrArg Fin.val h) hz'
        · exact h
      rw [if_neg hz']
      have hiff := chosen_rank i b hb q x4 u hu hq hk r z.1 hlt
      rw [BlockRow.row_eq _ _ s ⟨z.1.val * 256 + z.2.val, by omega⟩ (p := Ranks.rank (BlockRow.gates (fun y => q (ix2 r y)) (fun j y => x4 (ix2 j y)) b.val) z.1 < 3) (by
        unfold BlockRow.Reads
        rw [hsb]
        constructor
        · intro h
          refine Or.inl ⟨?_, ?_⟩
          · show (z.1.val * 256 + z.2.val) / 256 < b.val
            omega
          · show Ranks.rank _ (⟨(z.1.val * 256 + z.2.val) / 256, _⟩ : Fin 16) < 3
            rw [en]
            exact h
        · rintro (⟨_, h⟩ | ⟨h, _⟩)
          · have h' : Ranks.rank (BlockRow.gates (fun y => q (ix2 r y)) (fun j y => x4 (ix2 j y)) b.val) (⟨(z.1.val * 256 + z.2.val) / 256, by omega⟩ : Fin 16) < 3 := h
            rw [en] at h'
            exact h'
          · have h' : b.val = (z.1.val * 256 + z.2.val) / 256 := h
            omega)]
      by_cases hr : Ranks.rank (BlockRow.gates (fun y => q (ix2 r y)) (fun j y => x4 (ix2 j y)) b.val) z.1 < 3
      · rw [if_pos hr, bias_chosen _ _ _ (hiff.2 hr), add_zero]
      · rw [if_neg hr, bias_not_chosen _ _ _ fun h => hr (hiff.1 h), EReal.add_bot]
  · intro j hj
    refine (BlockRow.row_eq _ _ s j (p := False) ?_).trans (if_neg not_false)
    refine iff_of_false not_false fun h => ?_
    refine hj (⟨j.val / 256, by omega⟩, ⟨j.val % 256, by omega⟩) ((mem_joined _ _ _).2 ?_) (Fin.ext ?_)
    · rw [Fin.ext_iff]
      show j.val / 256 = b.val ∨ j.val / 256 < b.val
      rcases h with ⟨h, _⟩ | ⟨h, _⟩ <;> omega
    · show j.val / 256 * 256 + j.val % 256 = j.val
      omega

end Tile

end Cert.MobaIdeal.Blocks
-- ==== Proof.MobaRef.lean ====
/- The block-sparse attention's reference read in parts: the chosen blocks, the masked scores, the softmax, the output. -/
module

public import proofs.«01_k».proof.Proof.Gen.MobaRefIdeal.Run
public import Idealize.ShloMosaic.Lib.Pipeline.ValueKit
public import Idealize.ShloMosaic.Lib.Pointwise
public import Idealize.ShloMosaic.Lib.WordCmp
public import proofs.«01_k».proof.Proof.Attention
public import proofs.«01_k».proof.Proof.MobaRow

@[expose] public section

set_option maxRecDepth 16384

noncomputable section

open Idealize.ShloMosaic Idealize.ShloMosaic.TcCoe Idealize.ShloMosaic.WordCmp

namespace Cert.MobaRefIdeal.Blocks

open Cert.MobaRefIdeal Cert.MobaRefIdeal.Gen

/-- The columns' eight heads, moved in front of the rows. -/
def heads (x : FVec Ideal S8192x1024 .f32) : FVec Ideal S2x8x4096x128 .f32 :=
  transpose S2x8x4096x128 [0, 2, 1, 3] (shapeCast S2x4096x8x128 x shapeCasts_S8192x1024_S2x4096x8x128) transposes_S2x4096x8x128_S2x8x4096x128_0_2_1_3

/-- The queries. -/
def queries (P : FVec Ideal S8192x15872 .bf16) : FVec Ideal S2x8x4096x128 .f32 :=
  heads (extractStridedSlice S8192x1024 ![0, 10240] (extf .f32 P bitsLt_bf16_f32) slices_S8192x15872_S8192x1024_0_10240)

/-- The keys. -/
def keys (P : FVec Ideal S8192x15872 .bf16) : FVec Ideal S2x8x4096x128 .f32 :=
  heads (extractStridedSlice S8192x1024 ![0, 11264] (extf .f32 P bitsLt_bf16_f32) slices_S8192x15872_S8192x1024_0_11264)

/-- The values. -/
def values (P : FVec Ideal S8192x15872 .bf16) : FVec Ideal S2x8x4096x128 .f32 :=
  heads (extractStridedSlice S8192x1024 ![0, 12288] (extf .f32 P bitsLt_bf16_f32) slices_S8192x15872_S8192x1024_0_12288)

/-- Every block's mean key. -/
def means (k : FVec Ideal S2x8x4096x128 .f32) : FVec Ideal S2x8x16x128 .f32 :=
  Host.divf (Host.reduceAdd (shapeCast S2x8x16x256x128 k shapeCasts_S2x8x4096x128_S2x8x16x256x128) (constant S_ .f32 0x00000000#32) reducesTo_S2x8x16x256x128_S2x8x16x128_d3 h_S_)
    (broadcastInDim S2x8x16x128 ![] bcast_S_S2x8x16x128 (constant S_ .f32 0x43800000#32))

/-- Every query's product with every mean key. -/
def affinity (q : FVec Ideal S2x8x4096x128 .f32) (u : FVec Ideal S2x8x16x128 .f32) : FVec Ideal S2x8x4096x16 .f32 :=
  Host.dotGeneral dot_S2x8x4096x128_S2x8x16x128_S2x8x4096x16_3_3_2_2_01_01 none q u

/-- A position's block: the position divided by 256, rounded down. -/
def blockOf : IVec S4096 32 :=
  select (andi (cmpi .ne (signi (iotaInDim S4096 32 0)) (broadcastInDim S4096 ![] bcast_S_S4096 (signi (id (constantI S_ 32 256#32)))))
      (cmpi .ne (Host.remsi (iotaInDim S4096 32 0) (broadcastInDim S4096 ![] bcast_S_S4096 (id (constantI S_ 32 256#32)))) (broadcastInDim S4096 ![] bcast_S_S4096 (constantI S_ 32 0#32))))
    (subi (Host.divsi (iotaInDim S4096 32 0) (broadcastInDim S4096 ![] bcast_S_S4096 (id (constantI S_ 32 256#32)))) (broadcastInDim S4096 ![] bcast_S_S4096 (constantI S_ 32 1#32)))
    (Host.divsi (iotaInDim S4096 32 0) (broadcastInDim S4096 ![] bcast_S_S4096 (id (constantI S_ 32 256#32))))

/-- The blocks before the query's own. -/
def earlier (B : IVec S4096 32) : IVec S4096x16 1 :=
  cmpi .slt (broadcastInDim S4096x16 ![0, 1] bcast_S1x16_S4096x16_0_1 (broadcastInDim S1x16 ![1] bcast_S16_S1x16_1 (iotaInDim S16 32 0)))
    (broadcastInDim S4096x16 ![0, 1] bcast_S4096x1_S4096x16_0_1 (broadcastInDim S4096x1 ![0] bcast_S4096_S4096x1_0 B))

/-- The products with the earlier blocks, −∞ for the others. -/
def gates (B : IVec S4096 32) (A : FVec Ideal S2x8x4096x16 .f32) : FVec Ideal S2x8x4096x16 .f32 :=
  select (broadcastInDim S2x8x4096x16 ![2, 3] bcast_S4096x16_S2x8x4096x16_2_3 (earlier B)) A
    (broadcastInDim S2x8x4096x16 ![] bcast_S_S2x8x4096x16 (id (constant S_ .f32 0xFF800000#32)))

/-- The places of the three greatest. -/
def best (g : FVec Ideal S2x8x4096x16 .f32) : IVec S2x8x4096x3 32 :=
  (Host.topK S2x8x4096x3 3 (FloatOps.cmpfTotal .gt) g sliceFits_S2x8x4096x16_S2x8x4096x3).2

/-- Which blocks are among three given places, places not before the query's own block left out. -/
def picked (B : IVec S4096 32) (t : IVec S2x8x4096x3 32) : IVec S2x8x4096x16 1 :=
  Host.reduce IntOp.ori (andi
      (cmpi .eq (broadcastInDim S2x8x4096x3x16 ![0, 1, 2, 3, 4] bcast_S2x8x4096x3x1_S2x8x4096x3x16_0_1_2_3_4 (broadcastInDim S2x8x4096x3x1 ![0, 1, 2, 3] bcast_S2x8x4096x3_S2x8x4096x3x1_0_1_2_3 t))
        (broadcastInDim S2x8x4096x3x16 ![0, 1, 2, 3, 4] bcast_S1x1x1x1x16_S2x8x4096x3x16_0_1_2_3_4 (broadcastInDim S1x1x1x1x16 ![4] bcast_S16_S1x1x1x1x16_4 (iotaInDim S16 32 0))))
      (broadcastInDim S2x8x4096x3x16 ![0, 1, 2, 3, 4] bcast_S2x8x4096x3x1_S2x8x4096x3x16_0_1_2_3_4 (broadcastInDim S2x8x4096x3x1 ![0, 1, 2, 3] bcast_S2x8x4096x3_S2x8x4096x3x1_0_1_2_3
        (cmpi .slt t (broadcastInDim S2x8x4096x3 ![0, 1, 2, 3] bcast_S1x1x4096x1_S2x8x4096x3_0_1_2_3 (broadcastInDim S1x1x4096x1 ![2, 3] bcast_S4096x1_S1x1x4096x1_2_3 (broadcastInDim S4096x1 ![0] bcast_S4096_S4096x1_0 B)))))))
    (constantI S_ 1 0#1) reducesTo_S2x8x4096x3x16_S2x8x4096x16_d3 h_S_

/-- The query's own block up to the query. -/
def own (B : IVec S4096 32) : IVec S4096x4096 1 :=
  andi (cmpi .eq (broadcastInDim S4096x4096 ![0, 1] bcast_S4096x1_S4096x4096_0_1 (broadcastInDim S4096x1 ![0] bcast_S4096_S4096x1_0 B))
      (broadcastInDim S4096x4096 ![0, 1] bcast_S1x4096_S4096x4096_0_1 (broadcastInDim S1x4096 ![1] bcast_S4096_S1x4096_1 B)))
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The allowed (query, key) pairs: the picked blocks and the own one. -/
def allowed (p : IVec S2x8x4096x16 1) (o : IVec S4096x4096 1) : IVec S2x8x4096x4096 1 :=
  ori (shapeCast S2x8x4096x4096 (broadcastInDim S2x8x4096x16x256 ![0, 1, 2, 3, 4] bcast_S2x8x4096x16x1_S2x8x4096x16x256_0_1_2_3_4 (broadcastInDim S2x8x4096x16x1 ![0, 1, 2, 3] bcast_S2x8x4096x16_S2x8x4096x16x1_0_1_2_3 p)) shapeCasts_S2x8x4096x16x256_S2x8x4096x4096)
    (broadcastInDim S2x8x4096x4096 ![0, 1, 2, 3] bcast_S1x1x4096x4096_S2x8x4096x4096_0_1_2_3 (broadcastInDim S1x1x4096x4096 ![2, 3] bcast_S4096x4096_S1x1x4096x4096_2_3 o))

/-- The masked, scaled scores. -/
def masked (a : IVec S2x8x4096x4096 1) (q k : FVec Ideal S2x8x4096x128 .f32) : FVec Ideal S2x8x4096x4096 .f32 :=
  select a (mulf (Host.dotGeneral dot_S2x8x4096x128_S2x8x4096x128_S2x8x4096x4096_3_3_2_2_01_01 none q k)
      (broadcastInDim S2x8x4096x4096 ![] bcast_S_S2x8x4096x4096 (constant S_ .f32 0x3DB504F3#32)))
    (broadcastInDim S2x8x4096x4096 ![] bcast_S_S2x8x4096x4096 (id (constant S_ .f32 0xFF800000#32)))

/-- Every row's maximum. -/
def top (s : FVec Ideal S2x8x4096x4096 .f32) : FVec Ideal S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x4096_S2x8x4096_d3 h_S_)

/-- The unnormalised weights. -/
def weights (s : FVec Ideal S2x8x4096x4096 .f32) (M : FVec Ideal S2x8x4096 .f32) : FVec Ideal S2x8x4096x4096 .f32 :=
  Host.exp (subf s (broadcastInDim S2x8x4096x4096 ![0, 1, 2, 3] bcast_S2x8x4096x1_S2x8x4096x4096_0_1_2_3 (broadcastInDim S2x8x4096x1 ![0, 1, 2] bcast_S2x8x4096_S2x8x4096x1_0_1_2 M)))

/-- Every row's sum of weights. -/
def total (w : FVec Ideal S2x8x4096x4096 .f32) : FVec Ideal S2x8x4096 .f32 :=
  Host.reduceAdd w (constant S_ .f32 0x00000000#32) reducesTo_S2x8x4096x4096_S2x8x4096_d3 h_S_

/-- The weights' average of the values. -/
def attend (v : FVec Ideal S2x8x4096x128 .f32) (w : FVec Ideal S2x8x4096x4096 .f32) (l : FVec Ideal S2x8x4096 .f32) : FVec Ideal S8192x1024 .f32 :=
  shapeCast S8192x1024 (transpose S2x4096x8x128 [0, 2, 1, 3] (Host.dotGeneral dot_S2x8x4096x4096_S2x8x4096x128_S2x8x4096x128_3_2_2_3_01_01 none
      (Host.divf w (broadcastInDim S2x8x4096x4096 ![0, 1, 2, 3] bcast_S2x8x4096x1_S2x8x4096x4096_0_1_2_3 (broadcastInDim S2x8x4096x1 ![0, 1, 2] bcast_S2x8x4096_S2x8x4096x1_0_1_2 l))) v)
    transposes_S2x8x4096x128_S2x4096x8x128_0_2_1_3) shapeCasts_S2x4096x8x128_S8192x1024

/-- The gate. -/
def gate (P : FVec Ideal S8192x15872 .bf16) : FVec Ideal S8192x1024 .f32 :=
  mulf (extractStridedSlice S8192x1024 ![0, 13312] (extf .f32 P bitsLt_bf16_f32) slices_S8192x15872_S8192x1024_0_13312)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 13312] (extf .f32 P bitsLt_bf16_f32) slices_S8192x15872_S8192x1024_0_13312)))))

/-- The scores of the whole call. -/
def scores (P : FVec Ideal S8192x15872 .bf16) : FVec Ideal S2x8x4096x4096 .f32 :=
  masked (allowed (picked blockOf (best (gates blockOf (affinity (queries P) (means (keys P)))))) (own blockOf)) (queries P) (keys P)

/-- The gated output, rounded. -/
def out (P : FVec Ideal S8192x15872 .bf16) : FVec Ideal S8192x1024 .bf16 :=
  truncf .bf16 (mulf (attend (values P) (weights (scores P) (top (scores P))) (total (weights (scores P) (top (scores P))))) (gate P)) bitsLt_bf16_f32

/-- The reference's result is `out`. -/
theorem result (m : (ℓ : Loc nD τ sig) → Buf (Elt Ideal) ℓ) (c : Dev nD) :
    Value.res_out0 m c = out (m ((c : Thread nD τ).loc main_arg0)) := rfl

/-! ## The parts read at an index -/

theorem bot_word : Ideal.ofBits .f32 0xFF800000#32 = (⊥ : EReal) := by simp [Ideal.ofBits, Ideal.ieee]

theorem queries_at (P : FVec Ideal S8192x15872 .bf16) (b : Fin 2) (h : Fin 8) (s : Fin 4096) (d : Fin 128) :
    queries P (ix4 b h s d) = P (ix2 ⟨b.val * 4096 + s.val, by omega⟩ ⟨10240 + (h.val * 128 + d.val), by omega⟩) := by
  pointwise [queries, heads]

theorem keys_at (P : FVec Ideal S8192x15872 .bf16) (b : Fin 2) (h : Fin 8) (s : Fin 4096) (d : Fin 128) :
    keys P (ix4 b h s d) = P (ix2 ⟨b.val * 4096 + s.val, by omega⟩ ⟨11264 + (h.val * 128 + d.val), by omega⟩) := by
  pointwise [keys, heads]

theorem values_at (P : FVec Ideal S8192x15872 .bf16) (b : Fin 2) (h : Fin 8) (s : Fin 4096) (d : Fin 128) :
    values P (ix4 b h s d) = P (ix2 ⟨b.val * 4096 + s.val, by omega⟩ ⟨12288 + (h.val * 128 + d.val), by omega⟩) := by
  pointwise [values, heads]

theorem means_at (k : FVec Ideal S2x8x4096x128 .f32) (b : Fin 2) (h : Fin 8) (n : Fin 16) (d : Fin 128) :
    means k (ix4 b h n d) = Ideal.div (∑ x : Fin 256, k (ix4 b h ⟨n.val * 256 + x.val, by omega⟩ d)) (Ideal.ofBits .f32 0x43800000#32) := by
  pointwise [means]

theorem affinity_at (q : FVec Ideal S2x8x4096x128 .f32) (u : FVec Ideal S2x8x16x128 .f32) (b : Fin 2) (h : Fin 8) (s : Fin 4096) (n : Fin 16) :
    affinity q u (ix4 b h s n) = ∑ x : Fin 128, q (ix4 b h s x) * u (ix4 b h n x) := by
  pointwise [affinity]

theorem masked_at (a : IVec S2x8x4096x4096 1) (q k : FVec Ideal S2x8x4096x128 .f32) (b : Fin 2) (h : Fin 8) (s j : Fin 4096) :
    masked a q k (ix4 b h s j) = Scalar.select (a (ix4 b h s j)) ((∑ x : Fin 128, q (ix4 b h s x) * k (ix4 b h j x)) * Ideal.ofBits .f32 0x3DB504F3#32) ⊥ := by
  pointwise [masked]
  exact congrArg _ bot_word

theorem weights_at (X : FVec Ideal S2x8x4096x4096 .f32) (M : FVec Ideal S2x8x4096 .f32) (b : Fin 2) (h : Fin 8) (s j : Fin 4096) :
    weights X M (ix4 b h s j) = Ideal.exp (X (ix4 b h s j) - M (ix3 b h s)) := by
  pointwise [weights]

theorem total_at (w : FVec Ideal S2x8x4096x4096 .f32) (b : Fin 2) (h : Fin 8) (s : Fin 4096) :
    total w (ix3 b h s) = ∑ x : Fin 4096, w (ix4 b h s x) := by
  pointwise [total]

theorem attend_at (v : FVec Ideal S2x8x4096x128 .f32) (w : FVec Ideal S2x8x4096x4096 .f32) (l : FVec Ideal S2x8x4096 .f32) (i : Fin 8192) (d : Fin 1024) :
    attend v w l (ix2 i d) = ∑ x : Fin 4096,
      Ideal.div (w (ix4 ⟨i.val / 4096, by omega⟩ ⟨d.val / 128, by omega⟩ ⟨i.val % 4096, by omega⟩ x)) (l (ix3 ⟨i.val / 4096, by omega⟩ ⟨d.val / 128, by omega⟩ ⟨i.val % 4096, by omega⟩)) *
        v (ix4 ⟨i.val / 4096, by omega⟩ ⟨d.val / 128, by omega⟩ x ⟨d.val % 128, by omega⟩) := by
  pointwise [attend]

theorem gate_at (P : FVec Ideal S8192x15872 .bf16) (i : Fin 8192) (d : Fin 1024) :
    gate P (ix2 i d) = P (ix2 i ⟨13312 + d.val, by omega⟩) * Ideal.div 1 (1 + Ideal.exp (-P (ix2 i ⟨13312 + d.val, by omega⟩))) := by
  pointwise [gate]

theorem lift_at {n : ℕ} (h : (⟨4, ![2, 8, 4096, n]⟩ : Shape).Reduces [3] (⟨3, ![2, 8, 4096]⟩ : Shape)) (b : Fin 2) (g : Fin 8)
    (s : Fin 4096) (x : Fin ((⟨4, ![2, 8, 4096, n]⟩ : Shape).size 3)) :
    h.lift (ix3 b g s) x = ix4 b g s (⟨x.val, x.isLt⟩ : Fin n) := by
  funext a; apply Fin.ext
  fin_cases a <;> rfl

/-- The host's maximum over the last axis, from −∞. -/
theorem rowMax_at {n : ℕ} (X : FVec Ideal (⟨4, ![2, 8, 4096, n]⟩ : Shape) .f32)
    (h' : (⟨4, ![2, 8, 4096, n]⟩ : Shape).ReducesTo [3] (⟨3, ![2, 8, 4096]⟩ : Shape))
    (h : (⟨4, ![2, 8, 4096, n]⟩ : Shape).Reduces [3] (⟨3, ![2, 8, 4096]⟩ : Shape))
    (hu : 0 < (⟨0, ![]⟩ : Shape).numel) (b : Fin 2) (g : Fin 8) (s : Fin 4096) :
    Host.reduce FloatOps.maximumf X (constant (⟨0, ![]⟩ : Shape) .f32 0xFF800000#32) h' hu (ix3 b g s)
      = Finset.univ.sup fun x : Fin n => X (ix4 b g s x) := by
  rw [Host.reduce_eq_fold_single FloatOps.maximumf X _ h' h hu]
  have hf : (X ∘ h.lift (ix3 b g s)) = fun x : Fin n => X (ix4 b g s x) := funext fun x => congrArg X (lift_at h b g s x)
  refine (congrArg (fun f => Finset.fold max (Ideal.ofBits .f32 0xFF800000#32) f (Finset.univ : Finset (Fin n))) hf).trans ?_
  rw [bot_word]
  rfl

theorem max_bot_at (A B : FVec Ideal S2x8x4096 .f32) (i : S2x8x4096.Idx) (hA : A i = (⊥ : EReal)) : maximumf A B i = B i := by
  show max (A i : EReal) (B i) = B i
  rw [hA]
  exact max_eq_right bot_le

theorem top_at (X : FVec Ideal S2x8x4096x4096 .f32) (b : Fin 2) (g : Fin 8) (s : Fin 4096) :
    top X (ix3 b g s) = Finset.univ.sup fun x : Fin 4096 => X (ix4 b g s x) :=
  (max_bot_at _ _ _ bot_word).trans (rowMax_at X reducesTo_S2x8x4096x4096_S2x8x4096_d3 (by decide) h_S_ b g s)

theorem blockOf_at (s : Fin 4096) : blockOf (ix1 s) = BitVec.ofNat 32 (s.val / 256) := by
  pointwise [blockOf]
  revert s
  decide +kernel

theorem earlier_at (B : IVec S4096 32) (s : Fin 4096) (n : Fin 16) : earlier B (ix2 s n) = IntOp.cmpi .slt (BitVec.ofNat 32 n.val) (B (ix1 s)) := by
  pointwise [earlier]

theorem gates_at (B : IVec S4096 32) (A : FVec Ideal S2x8x4096x16 .f32) (b : Fin 2) (h : Fin 8) (s : Fin 4096) (n : Fin 16) :
    gates B A (ix4 b h s n) = Scalar.select (earlier B (ix2 s n)) (A (ix4 b h s n)) ⊥ := by
  pointwise [gates]
  exact congrArg _ bot_word

theorem own_at (B : IVec S4096 32) (s j : Fin 4096) : own B (ix2 s j) = IntOp.andi (IntOp.cmpi .eq (B (ix1 s)) (B (ix1 j))) (IntOp.cmpi .sle (BitVec.ofNat 32 j.val) (BitVec.ofNat 32 s.val)) := by
  pointwise [own]

theorem allowed_at (p : IVec S2x8x4096x16 1) (o : IVec S4096x4096 1) (b : Fin 2) (h : Fin 8) (s j : Fin 4096) :
    allowed p o (ix4 b h s j) = IntOp.ori (p (ix4 b h s ⟨j.val / 256, by omega⟩)) (o (ix2 s j)) := by
  pointwise [allowed]

/-- The last coordinate replaced. -/
theorem along_last {n₀ n₁ n₂ n : ℕ} (b : Fin n₀) (h : Fin n₁) (s : Fin n₂) (r x : Fin n) (hd : 3 < (⟨4, ![n₀, n₁, n₂, n]⟩ : Shape).rank) :
    (ix4 b h s r : (⟨4, ![n₀, n₁, n₂, n]⟩ : Shape).Idx).along ⟨3, hd⟩ x = ix4 b h s x := by
  funext a; apply Fin.ext; fin_cases a <;> rfl

/-- The second half of a sort of pairs along the last axis. -/
theorem sort2_last {n₀ n₁ n₂ n : ℕ} {α β : Type} (cmp : α × β → α × β → BitVec 1) (x : (⟨4, ![n₀, n₁, n₂, n]⟩ : Shape).Idx → α)
    (y : (⟨4, ![n₀, n₁, n₂, n]⟩ : Shape).Idx → β) (b : Fin n₀) (h : Fin n₁) (s : Fin n₂) (r : Fin n) :
    (Host.sort2 (⟨4, ![n₀, n₁, n₂, n]⟩ : Shape) 3 cmp x y).2 (ix4 b h s r)
      = y (ix4 b h s (sortedFrom (fun k k' : Fin n => cmp (x (ix4 b h s k), y (ix4 b h s k)) (x (ix4 b h s k'), y (ix4 b h s k')) == 1#1) r)) := by
  unfold Host.sort2
  rw [dif_pos (show (3 : ℕ) < 4 from Nat.lt_succ_self 3)]
  refine (congrArg y (along_last b h s r _ _)).trans ?_
  refine congrArg (fun f : Fin n → Fin n → Bool => y (ix4 b h s (sortedFrom f r))) (funext fun k => funext fun k' => ?_)
  exact congrArg₂ (fun i i' : (⟨4, ![n₀, n₁, n₂, n]⟩ : Shape).Idx => cmp (x i, y i) (x i', y i') == 1#1) (along_last b h s r k _) (along_last b h s r k' _)

/-- The place of the `r`-th greatest, as the sort finds it. -/
theorem best_at (g : FVec Ideal S2x8x4096x16 .f32) (b : Fin 2) (h : Fin 8) (s : Fin 4096) (r : Fin 3) :
    best g (ix4 b h s r) = BitVec.ofNat 32 (sortedFrom (fun x y : Fin 16 => FloatOps.cmpfTotal (F := Ideal) .gt (g (ix4 b h s x)) (g (ix4 b h s y)) == 1#1) ⟨r.val, by omega⟩).val := by
  unfold best Host.topK
  pointwise
  exact sort2_last (fun l r : Elt Ideal .f32 × BitVec 32 => FloatOps.cmpfTotal (F := Ideal) (φ := .f32) .gt l.1 r.1) g _ b h s _

/-- The host's total-order comparison of numbers. -/
theorem greater_iff (x y : EReal) : (FloatOps.cmpfTotal (F := Ideal) (φ := .f32) .gt x y == 1#1) = true ↔ y < x := by
  rw [Ideal.cmpfTotal_def]
  simp [Ideal.cmp, CmpDirection.ordered, ofBool_eq_one_iff]

/-- A disjunction of bits. -/
theorem fold_ori {ι : Type} (A : Finset ι) (f : ι → BitVec 1) : Finset.fold IntOp.ori 0#1 f A = 1#1 ↔ ∃ x ∈ A, f x = 1#1 := by
  classical
  induction A using Finset.induction_on with
  | empty => simp
  | insert a A ha ih =>
    rw [Finset.fold_insert ha]
    have e : ∀ x y : BitVec 1, IntOp.ori x y = 1#1 ↔ x = 1#1 ∨ y = 1#1 := by decide
    rw [e, ih]
    simp

theorem picked_at (B : IVec S4096 32) (t : IVec S2x8x4096x3 32) (b : Fin 2) (h : Fin 8) (s : Fin 4096) (n : Fin 16) :
    picked B t (ix4 b h s n) = 1#1 ↔ ∃ r : Fin 3, IntOp.andi (IntOp.cmpi .eq (t (ix4 b h s r)) (BitVec.ofNat 32 n.val)) (IntOp.cmpi .slt (t (ix4 b h s r)) (B (ix1 s))) = 1#1 := by
  pointwise [picked]
  refine (fold_ori _ _).trans ?_
  simp

/-- The picked blocks: the earlier ones of rank below three. -/
theorem picked_iff (g : FVec Ideal S2x8x4096x16 .f32) (b : Fin 2) (h : Fin 8) (s : Fin 4096) (n : Fin 16) :
    picked blockOf (best g) (ix4 b h s n) = 1#1 ↔ n.val < s.val / 256 ∧ Ranks.rank (fun x : Fin 16 => g (ix4 b h s x)) n < 3 := by
  rw [picked_at]
  have hs := s.isLt
  have key := Ranks.sorted_first (fun x : Fin 16 => g (ix4 b h s x)) (fun x y : Fin 16 => FloatOps.cmpfTotal (F := Ideal) .gt (g (ix4 b h s x)) (g (ix4 b h s y)) == 1#1)
    (fun x y => greater_iff _ _) 3 (by decide) n
  rw [← key]
  constructor
  · rintro ⟨r, hr⟩
    rw [best_at, blockOf_at, cmpi_eq_ofNat (by omega) (by omega), cmpi_slt_ofNat (by omega) (by omega), andi_ofBool, ofBool_eq_one_iff, Bool.and_eq_true, decide_eq_true_iff, decide_eq_true_iff] at hr
    exact ⟨by omega, ⟨r.val, by omega⟩, r.isLt, Fin.ext hr.1⟩
  · rintro ⟨hn, r, hr, e⟩
    refine ⟨⟨r.val, hr⟩, ?_⟩
    rw [best_at, blockOf_at, cmpi_eq_ofNat (by omega) (by omega), cmpi_slt_ofNat (by omega) (by omega), andi_ofBool, ofBool_eq_one_iff, Bool.and_eq_true, decide_eq_true_iff, decide_eq_true_iff]
    have e' : (sortedFrom (fun x y : Fin 16 => FloatOps.cmpfTotal (F := Ideal) (φ := .f32) .gt (g (ix4 b h s x)) (g (ix4 b h s y)) == 1#1) ⟨(⟨r.val, hr⟩ : Fin 3).val, by omega⟩) = n := e
    rw [e']
    exact ⟨rfl, hn⟩

theorem own_iff (s j : Fin 4096) : own blockOf (ix2 s j) = 1#1 ↔ s.val / 256 = j.val / 256 ∧ j.val ≤ s.val := by
  rw [own_at, blockOf_at, blockOf_at, cmpi_eq_ofNat (by omega) (by omega), cmpi_sle_ofNat (by omega) (by omega), andi_ofBool, ofBool_eq_one_iff, Bool.and_eq_true, decide_eq_true_iff, decide_eq_true_iff]

/-! ## The result as an average -/

/-- One query. -/
def query (P : FVec Ideal S8192x15872 .bf16) (b : Fin 2) (h : Fin 8) (s : Fin 4096) : Fin 128 → EReal := fun x => queries P (ix4 b h s x)

/-- One head's keys. -/
def key (P : FVec Ideal S8192x15872 .bf16) (b : Fin 2) (h : Fin 8) : Fin 4096 → Fin 128 → EReal := fun j x => keys P (ix4 b h j x)

theorem gates_row (P : FVec Ideal S8192x15872 .bf16) (b : Fin 2) (h : Fin 8) (s : Fin 4096) (n : Fin 16) :
    gates blockOf (affinity (queries P) (means (keys P))) (ix4 b h s n) = BlockRow.gates (query P b h s) (key P b h) (s.val / 256) n := by
  have hs := s.isLt
  rw [gates_at, earlier_at, blockOf_at, cmpi_slt_ofNat (by omega) (by omega), affinity_at,
    BlockRow.select_eq _ (p := n.val < s.val / 256) (by rw [ofBool_eq_one_iff, decide_eq_true_iff]), BlockRow.gates_eq _ _ _ _ Iff.rfl]
  refine if_congr Iff.rfl (Finset.sum_congr rfl fun x _ => ?_) rfl
  rw [means_at]
  rfl

theorem scores_row (P : FVec Ideal S8192x15872 .bf16) (b : Fin 2) (h : Fin 8) (s j : Fin 4096) :
    scores P (ix4 b h s j) = BlockRow.row (query P b h s) (key P b h) s j := by
  unfold scores
  rw [masked_at, allowed_at]
  have e : ∀ x y : BitVec 1, IntOp.ori x y = 1#1 ↔ x = 1#1 ∨ y = 1#1 := by decide
  haveI := Classical.dec (BlockRow.Reads (query P b h s) (key P b h) s j)
  rw [BlockRow.select_eq _ (p := BlockRow.Reads (query P b h s) (key P b h) s j), BlockRow.row_eq _ _ _ _ Iff.rfl]
  · rfl
  rw [e, picked_iff, own_iff]
  unfold BlockRow.Reads
  rw [show (fun x : Fin 16 => gates blockOf (affinity (queries P) (means (keys P))) (ix4 b h s x)) = BlockRow.gates (query P b h s) (key P b h) (s.val / 256) from funext fun x => gates_row P b h s x]

/-- One entry of the result: the average of the values by the masked scores, times the gate. -/
theorem out_at (P : FVec Ideal S8192x15872 .bf16) (i : Fin 8192) (d : Fin 1024) (b : Fin 2) (h : Fin 8) (s : Fin 4096)
    (hb : i.val / 4096 = b.val) (hh : d.val / 128 = h.val) (hs : i.val % 4096 = s.val) :
    out P (ix2 i d) = (∑ x : Fin 4096, values P (ix4 b h x ⟨d.val % 128, by omega⟩) *
        Ideal.div (Ideal.exp (BlockRow.row (query P b h s) (key P b h) s x - Finset.univ.sup (BlockRow.row (query P b h s) (key P b h) s)))
          (∑ y : Fin 4096, Ideal.exp (BlockRow.row (query P b h s) (key P b h) s y - Finset.univ.sup (BlockRow.row (query P b h s) (key P b h) s))))
      * gate P (ix2 i d) := by
  have eb : (⟨i.val / 4096, by omega⟩ : Fin 2) = b := Fin.ext hb
  have eh : (⟨d.val / 128, by omega⟩ : Fin 8) = h := Fin.ext hh
  have es : (⟨i.val % 4096, by omega⟩ : Fin 4096) = s := Fin.ext hs
  show attend (values P) _ _ (ix2 i d) * gate P (ix2 i d) = _
  rw [attend_at, eb, eh, es]
  refine congrArg (· * _) (Finset.sum_congr rfl fun x _ => ?_)
  rw [mul_comm, total_at, weights_at, top_at]
  simp only [weights_at, top_at, scores_row]

end Cert.MobaRefIdeal.Blocks
-- ==== Proof.MobaValue.lean ====
/- The block-sparse attention's kernel: every tile of queries holds the reference's rows. -/
module

public import proofs.«01_k».proof.Proof.MobaEntry
public import proofs.«01_k».proof.Proof.MobaRef
public import Idealize.ShloMosaic.Lib.Pipeline.ReadBack

@[expose] public section

set_option maxRecDepth 16384

noncomputable section

open Idealize.ShloMosaic Idealize.ShloMosaic.TcCoe Idealize.SL.Sem Idealize.ShloMosaic.WordCmp
open Idealize.ShloMosaic.Pipeline (Dat)
open Cert.Attention

namespace Cert.MobaIdeal.Blocks

open Cert.MobaIdeal Cert.MobaIdeal.Gen

variable (m : (ℓ : Loc nD τ sig) → Buf (Elt Ideal) ℓ)

/-! ## The windows' blocks -/

/-- Where each window is at: the sequence, the head and the query block of a grid point. -/
theorem idx : ∀ t : Fin cfg0.N,
    win0_0.index t = ![t.val / 128 * 16 + t.val % 16, 80 + t.val / 16 % 8] ∧ win0_1.index t = ![t.val / 128, 88 + t.val / 16 % 8]
      ∧ win0_2.index t = ![t.val / 128, 96 + t.val / 16 % 8] ∧ win0_3.index t = ![t.val / 128 * 16 + t.val % 16, 104 + t.val / 16 % 8]
      ∧ win0_4.index t = ![t.val / 128 * 16 + t.val % 16, t.val / 16 % 8] ∧ (grid0.coords t 2).val = t.val % 16 ∧ t.val < 256 :=
  (by decide +kernel : ∀ t : Fin grid0.N, _)

/-- The projections the launch starts from. -/
abbrev P (c : Dev nD) : FVec Ideal S8192x15872 .bf16 := m ((c : Thread nD τ).loc main_arg0)

theorem query_block (c : Dev nD) (t : Fin cfg0.N) (r : Fin 256) (d : Fin 128) (h : (t.val / 128 * 16 + t.val % 16) * 256 + r.val < 8192) (h' : (80 + t.val / 16 % 8) * 128 + d.val < 15872) :
    iblk m c 0 t (ix2 r d) = P m c (ix2 (⟨(t.val / 128 * 16 + t.val % 16) * 256 + r.val, h⟩ : Fin 8192) (⟨(80 + t.val / 16 % 8) * 128 + d.val, h'⟩ : Fin 15872)) := by
  blk_ext [iblk, V, idx t]

theorem key_block (c : Dev nD) (t : Fin cfg0.N) (j : Fin 4096) (d : Fin 128) (h : t.val / 128 * 4096 + j.val < 8192) (h' : (88 + t.val / 16 % 8) * 128 + d.val < 15872) :
    iblk m c 1 t (ix2 j d) = P m c (ix2 (⟨t.val / 128 * 4096 + j.val, h⟩ : Fin 8192) (⟨(88 + t.val / 16 % 8) * 128 + d.val, h'⟩ : Fin 15872)) := by
  blk_ext [iblk, V, idx t]

theorem value_block (c : Dev nD) (t : Fin cfg0.N) (j : Fin 4096) (d : Fin 128) (h : t.val / 128 * 4096 + j.val < 8192) (h' : (96 + t.val / 16 % 8) * 128 + d.val < 15872) :
    iblk m c 2 t (ix2 j d) = P m c (ix2 (⟨t.val / 128 * 4096 + j.val, h⟩ : Fin 8192) (⟨(96 + t.val / 16 % 8) * 128 + d.val, h'⟩ : Fin 15872)) := by
  blk_ext [iblk, V, idx t]

theorem gate_block (c : Dev nD) (t : Fin cfg0.N) (r : Fin 256) (d : Fin 128) (h : (t.val / 128 * 16 + t.val % 16) * 256 + r.val < 8192) (h' : (104 + t.val / 16 % 8) * 128 + d.val < 15872) :
    iblk m c 3 t (ix2 r d) = P m c (ix2 (⟨(t.val / 128 * 16 + t.val % 16) * 256 + r.val, h⟩ : Fin 8192) (⟨(104 + t.val / 16 % 8) * 128 + d.val, h'⟩ : Fin 15872)) := by
  blk_ext [iblk, V, idx t]

/-! ## The mean keys kept from a head's first tile -/

/-- The mean keys lie on the scratch's first rows, whatever was there before. -/
theorem means_first (k : Vec Ideal S4096x128 .bf16) (L : List (View.Piece (Elt Ideal) S128x128 .f32)) (n : Fin 16) (d : Fin 128) :
    View.canon (⟨Rect.unit ![0, 0] ![16, 128] inb_S128x128_S16x128_0_0, k0_pay16 k⟩ :: L) (ix2 (lane n) d) = k0_pay16 k (ix2 n d) := by
  have e : (ix2 (lane n) d : S128x128.Idx) = (Rect.unit (s := S128x128) ![0, 0] ![16, 128] inb_S128x128_S16x128_0_0).emb (ix2 n d) := by
    funext a
    fin_cases a <;> exact Fin.ext (by simp [lane, Rect.emb, Rect.unit, LoadRect.idx, ix2])
  rw [e]
  exact View.canon_cons_emb (Rect.unit (s := S128x128) ![0, 0] ![16, 128] inb_S128x128_S16x128_0_0) (k0_pay16 k) L (ix2 n d)

/-- The scratch read back after its two stores. -/
theorem means_read {sp : Space} (v : View sig .tc sp S128x128 .f32) (k : Vec Ideal S4096x128 .bf16) (n : Fin 16) (d : Fin 128) :
    (v.readCov (Val := Elt Ideal) [⟨Rect.unit ![0, 0] ![16, 128] inb_S128x128_S16x128_0_0, k0_pay16 k⟩, ⟨Rect.unit ![0, 0] ![128, 128] inb_S128x128_S128x128_0_0, k0_pay15 (F := Ideal)⟩]
      (Rect.unit (s := S128x128) ![0, 0] ![128, 128] inb_S128x128_S128x128_0_0).toLoadRect : Vec Ideal S128x128 .f32) (ix2 (lane n) d) = k0_pay16 k (ix2 n d) := by
  have e : (Rect.unit (s := S128x128) ![0, 0] ![128, 128] inb_S128x128_S128x128_0_0).idx (ix2 (lane n) d) = ix2 (lane n) d := by
    funext a
    fin_cases a <;> exact Fin.ext (by simp [Rect.unit, LoadRect.idx, ix2])
  rw [View.readCov_eq_canon _ _ _ fun j => ⟨_, List.mem_cons_of_mem _ (List.mem_cons_self ..), LoadRect.idx_mem _ j⟩]
  show View.canon _ ((Rect.unit (s := S128x128) ![0, 0] ![128, 128] inb_S128x128_S128x128_0_0).idx (ix2 (lane n) d)) = _
  rw [e]
  exact means_first k _ n d

theorem means_kept (c : Dev nD) (j : ℕ) : ∀ t : Fin cfg0.N, t.val % 16 = j → ∀ (n : Fin 16) (d : Fin 128),
    (outsAt0 m c t.val t.isLt).2 (ix2 (lane n) d) = k0_pay16 (iblk m c 1 t) (ix2 n d) := by
  induction j with
  | zero =>
    intro t h0 n d
    rw [outsAt0_A m c t h0]
    dsimp only
    frame_out
    exact means_first _ _ n d
  | succ j ih =>
    intro t hj n d
    have h0 : ¬ t.val % 16 = 0 := by omega
    have ht := (idx t).2.2.2.2.2.2
    have hlt : t.val - 1 < cfg0.N := Nat.lt_of_le_of_lt (Nat.sub_le _ _) t.isLt
    rw [outsAt0_B m c t h0]
    show (outsAt0 m c (t.val - 1) hlt).2 (ix2 (lane n) d) = _
    refine (ih ⟨t.val - 1, hlt⟩ (by show (t.val - 1) % 16 = j; omega) n d).trans ?_
    rw [mean_at, mean_at]
    refine congrArg (· * _) (Finset.sum_congr rfl fun x _ => ?_)
    rw [key_block m c t _ d (by show t.val / 128 * 4096 + (n.val * 256 + x.val) < 8192; omega) (by omega),
      key_block m c ⟨t.val - 1, hlt⟩ _ d (by show (t.val - 1) / 128 * 4096 + (n.val * 256 + x.val) < 8192; omega) (by show (88 + (t.val - 1) / 16 % 8) * 128 + d.val < 15872; omega)]
    refine congrArg (P m c) (congrArg₂ ix2 (Fin.ext ?_) (Fin.ext ?_))
    · show (t.val - 1) / 128 * 4096 + (n.val * 256 + x.val) = t.val / 128 * 4096 + (n.val * 256 + x.val)
      omega
    · show (88 + (t.val - 1) / 16 % 8) * 128 + d.val = (88 + t.val / 16 % 8) * 128 + d.val
      omega

/-! ## A tile's entries -/

/-- The whole attention over the launched argument. -/
abbrev REF (c : Dev nD) : FVec Ideal Cert.MobaRefIdeal.S8192x1024 .bf16 := Cert.MobaRefIdeal.Blocks.out (P m c)

section Entry
variable (c : Dev nD) (hP : ∀ (i : Fin 8192) (e : Fin 15872), 10240 ≤ e.val → e.val < 12288 → IsNum (P m c (ix2 i e))) (t : Fin cfg0.N)

include hP

theorem queries_isNum (r : Fin 256) (x : Fin 128) : IsNum (iblk m c 0 t (ix2 r x) : EReal) := by
  have ht := (idx t).2.2.2.2.2.2
  rw [query_block m c t r x (by omega) (by omega)]
  exact hP _ _ (by show 10240 ≤ (80 + t.val / 16 % 8) * 128 + x.val; omega) (by show (80 + t.val / 16 % 8) * 128 + x.val < 12288; omega)

theorem keys_isNum (j : Fin 4096) (x : Fin 128) : IsNum (iblk m c 1 t (ix2 j x) : EReal) := by
  have ht := (idx t).2.2.2.2.2.2
  rw [key_block m c t j x (by omega) (by omega)]
  exact hP _ _ (by show 10240 ≤ (88 + t.val / 16 % 8) * 128 + x.val; omega) (by show (88 + t.val / 16 % 8) * 128 + x.val < 12288; omega)

/-- A tile's entry is the reference's, at the tile's rows and its head's lanes. -/
theorem entry_ref (u : Vec Ideal S128x128 .f32) (hu : ∀ (n : Fin 16) (d : Fin 128), u (ix2 (lane n) d) = k0_pay16 (iblk m c 1 t) (ix2 n d))
    (b : Fin 16) (hb : b.val = (grid0.coords t 2).val) (St : FVec Ideal S256x1 .f32 × FVec Ideal S256x1 .f32 × FVec Ideal S256x128 .f32)
    (hS : Stands (score b.val (iblk m c 0 t) (iblk m c 1 t) (bias (k0_pay17 (grid0.coords t) (iblk m c 0 t) u))) (value (iblk m c 2 t)) (joined b b.val) St)
    (r : Fin 256) (d : Fin 128) (i : Fin 8192) (hi : i.val = (t.val / 128 * 16 + t.val % 16) * 256 + r.val) (e : Fin 1024) (he : e.val = t.val / 16 % 8 * 128 + d.val) :
    k0_pay14 St.2.1 St.2.2 (iblk m c 3 t) (ix2 r d) = REF m c (ix2 i e) := by
  have ht := (idx t).2.2.2.2.2.2
  have hn := (idx t).2.2.2.2.2.1
  rw [out_at]
  refine Eq.trans ?_ (Cert.MobaRefIdeal.Blocks.out_at (P m c) i e ⟨t.val / 128, by omega⟩ ⟨t.val / 16 % 8, by omega⟩ ⟨t.val % 16 * 256 + r.val, by omega⟩
    (by show i.val / 4096 = t.val / 128; omega) (by show e.val / 128 = t.val / 16 % 8; omega) (by show i.val % 4096 = t.val % 16 * 256 + r.val; omega)).symm
  have hq : (fun y => iblk m c 0 t (ix2 r y) : Fin 128 → EReal) = Cert.MobaRefIdeal.Blocks.query (P m c) ⟨t.val / 128, by omega⟩ ⟨t.val / 16 % 8, by omega⟩ ⟨t.val % 16 * 256 + r.val, by omega⟩ := by
    funext y
    unfold Cert.MobaRefIdeal.Blocks.query
    rw [query_block m c t r y (by omega) (by omega), Cert.MobaRefIdeal.Blocks.queries_at]
    refine congrArg (P m c) (congrArg₂ ix2 (Fin.ext ?_) (Fin.ext ?_))
    · show (t.val / 128 * 16 + t.val % 16) * 256 + r.val = t.val / 128 * 4096 + (t.val % 16 * 256 + r.val)
      omega
    · show (80 + t.val / 16 % 8) * 128 + y.val = 10240 + (t.val / 16 % 8 * 128 + y.val)
      omega
  have hk : (fun j y => iblk m c 1 t (ix2 j y) : Fin 4096 → Fin 128 → EReal) = Cert.MobaRefIdeal.Blocks.key (P m c) ⟨t.val / 128, by omega⟩ ⟨t.val / 16 % 8, by omega⟩ := by
    funext j y
    unfold Cert.MobaRefIdeal.Blocks.key
    rw [key_block m c t j y (by omega) (by omega), Cert.MobaRefIdeal.Blocks.keys_at]
    refine congrArg (P m c) (congrArg₂ ix2 rfl (Fin.ext ?_))
    show (88 + t.val / 16 % 8) * 128 + y.val = 11264 + (t.val / 16 % 8 * 128 + y.val)
    omega
  refine congrArg₂ (fun x y : EReal => x * y) ?_ ?_
  · refine (tile_average (grid0.coords t) b hb (iblk m c 0 t) (iblk m c 1 t) (iblk m c 2 t) u hu (queries_isNum m c hP t) (keys_isNum m c hP t) St hS r d
      ⟨t.val % 16 * 256 + r.val, by omega⟩ (by show t.val % 16 * 256 + r.val = b.val * 256 + r.val; rw [hb, hn])).trans ?_
    rw [hq, hk]
    refine Finset.sum_congr rfl fun x _ => congrArg (· * _) ?_
    rw [value_block m c t x d (by omega) (by omega), Cert.MobaRefIdeal.Blocks.values_at]
    refine congrArg (P m c) (congrArg₂ ix2 rfl (Fin.ext ?_))
    show (96 + t.val / 16 % 8) * 128 + d.val = 12288 + (t.val / 16 % 8 * 128 + e.val % 128)
    omega
  · rw [Cert.MobaRefIdeal.Blocks.gate_at, zero_sub, gate_block m c t r d (by omega) (by omega)]
    have h1 : (⟨(t.val / 128 * 16 + t.val % 16) * 256 + r.val, by omega⟩ : Fin 8192) = i := Fin.ext hi.symm
    have h2 : (⟨(104 + t.val / 16 % 8) * 128 + d.val, by omega⟩ : Fin 15872) = ⟨13312 + e.val, by omega⟩ :=
      Fin.ext (by show (104 + t.val / 16 % 8) * 128 + d.val = 13312 + e.val; omega)
    rw [h1, h2]

/-- After all its trips the pass stands for the tile's own block and all before it. -/
theorem pass (u : Vec Ideal S128x128 .f32) (b : Fin 16) (hb : b.val = (grid0.coords t 2).val) :
    Stands (score b.val (iblk m c 0 t) (iblk m c 1 t) (bias (k0_pay17 (grid0.coords t) (iblk m c 0 t) u))) (value (iblk m c 2 t)) (joined b b.val)
      (st_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
        (iblk m c 0 t) lanes (bias (k0_pay17 (grid0.coords t) (iblk m c 0 t) u)) ((hs0_1 t).unread (iblk m c 1 t)) ((hs0_2 t).unread (iblk m c 2 t))
        (k0_pay25 (iblk m c 0 t) (ownBlock (grid0.coords t) (iblk m c 1 t)), k0_pay27 (iblk m c 0 t) (ownBlock (grid0.coords t) (iblk m c 1 t)),
          k0_pay1 (k0_pay26 (iblk m c 0 t) (ownBlock (grid0.coords t) (iblk m c 1 t))) (ownBlock (grid0.coords t) (iblk m c 2 t)))
        (k0_t1_loop (grid0.coords t)).trips) := by
  have hn : b.val = (k0_t1_loop (grid0.coords t)).trips := by rw [trips_eq, hb]
  rw [← hn]
  exact stands_state Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) b hb
    (iblk m c 0 t) _ (bias_cases _) _ _ (iblk m c 1 t) (iblk m c 2 t) ((hs0_1 t).read_unread _) ((hs0_2 t).read_unread _)
    (fun r j => BlockRow.score_isNum _ _ (queries_isNum m c hP t r) (keys_isNum m c hP t) j) _
    (stands_init (grid0.coords t) b hb (iblk m c 0 t) (iblk m c 1 t) (iblk m c 2 t) _) b.val hn.le

end Entry

/-- The second loop makes no trip. -/
theorem rest_trips (i : grid0.Coords) : Scf.trips (Scalar.addi 0#32 (Scalar.muli (Scalar.divsi (Scalar.subi (BitVec.ofNat 32 (i 2).val) 0#32) 1#32) 1#32))
    (Scalar.addi 0#32 (Scalar.subi (BitVec.ofNat 32 (i 2).val) 0#32)) 1#32 = 0 := Nat.le_zero.mp (k0_t2_abs i).2.1

theorem final (c : Dev nD) (hP : ∀ (i : Fin 8192) (e : Fin 15872), 10240 ≤ e.val → e.val < 12288 → IsNum (P m c (ix2 i e))) :
    (dats m 0 c).arrAt 4 cfg0.N = REF m c := by
  refine (dats m 0 c).arrAt_eq_of_covers 4 _ (by decide +kernel) fun t _ y => ?_
  have ht := (idx t).2.2.2.2.2.2
  have hn := (idx t).2.2.2.2.2.1
  obtain ⟨r, d, rfl⟩ : ∃ (r : Fin 256) (d : Fin 128), y = ix2 r d := ⟨y 0, y 1, by blk_ext []⟩
  have href : REF m c (((View.whole main_v0).slice (win0_4.rect t)).emb (ix2 r d))
      = REF m c (ix2 (⟨(t.val / 128 * 16 + t.val % 16) * 256 + r.val, by omega⟩ : Fin 8192) (⟨t.val / 16 % 8 * 128 + d.val, by omega⟩ : Fin 1024)) := by
    blk_ext [idx t]
  have hb : (⟨t.val % 16, by omega⟩ : Fin 16).val = (grid0.coords t 2).val := hn.symm
  blk_simp
  rw [after0_4]
  by_cases h0 : t.val % 16 = 0
  · rw [outsAt0_A m c t h0]
    dsimp only
    frame_out
    refine Eq.trans ?_ ((entry_ref m c hP t _ (means_read (View.whole cc0_scratch0) (iblk m c 1 t)) _ hb _ (pass m c hP t _ _ hb) r d _ rfl _ rfl).trans href.symm)
    rw [rest_trips (grid0.coords t)]
    rfl
  · rw [outsAt0_B m c t h0]
    dsimp only
    frame_out
    have hlt : t.val - 1 < cfg0.N := Nat.lt_of_le_of_lt (Nat.sub_le _ _) t.isLt
    have hu : ∀ (n : Fin 16) (d : Fin 128), (outsAt0 m c (t.val - 1) hlt).2 (ix2 (lane n) d) = k0_pay16 (iblk m c 1 t) (ix2 n d) := fun n d => by
      refine Eq.trans ?_ (means_kept m c _ t rfl n d)
      rw [outsAt0_B m c t h0]
      rfl
    refine Eq.trans ?_ ((entry_ref m c hP t _ hu _ hb _ (pass m c hP t _ _ hb) r d _ rfl _ rfl).trans href.symm)
    rw [Idealize.ShloMosaic.read_unread_whole cc0_scratch0]
    rw [rest_trips (grid0.coords t)]
    rfl

end Cert.MobaIdeal.Blocks
-- ==== Proof.MobaPre.lean ====
/- The block-sparse attention's precondition: the queries and the keys are numbers. -/
module

public import proofs.«01_k».proof.Pre_finite_moba
public import proofs.«01_k».proof.Proof.SwaPre

@[expose] public section

set_option maxRecDepth 16384

noncomputable section

open Idealize.ShloMosaic Idealize.ShloMosaic.TcCoe Idealize.ShloMosaic.WordCmp

namespace Cert.Pre_finite_moba

/-- The shapes' relations hold. -/
theorem facts : Facts where
  slices_S8192x15872_S8192x2048_0_10240 := by decide
  bitsLt_bf16_f32 := by decide
  bcast_S_S8192x2048 := by decide

/-- What the precondition says of one query's or key's entry. -/
theorem read [Facts] (P : FVec Ideal S8192x15872 .bf16) (h : fn P = fun _ => 1#1) (i : Fin 8192) (e : Fin 15872) (h0 : 10240 ≤ e.val) (h1 : e.val < 12288) :
    Attention.IsNum (P (ix2 i e)) := by
  have hx : 10240 + (e.val - 10240) < 15872 := by omega
  have he : (⟨10240 + (e.val - 10240), hx⟩ : Fin 15872) = e := Fin.ext (by show 10240 + (e.val - 10240) = e.val; omega)
  rw [← he]
  have hf : fn P (ix2 i (⟨e.val - 10240, by omega⟩ : Fin 2048)) = 1#1 := congrFun h _
  revert hf
  pointwise [fn]
  rw [ofBool_eq_one_iff, decide_eq_true_iff]
  exact fun hf => Cert.Pre_finite_swa.isNum_of_abs _ hf

end Cert.Pre_finite_moba
-- ==== Proof.Decay.lean ====
/- Decayed sums: a query's read of the keys before it, taken at once or chunk after chunk with a state. -/
module

public import proofs.«01_k».proof.Proof.Attention

@[expose] public section

noncomputable section

open Idealize.ShloMosaic
open Finset (range)

namespace Cert.Decay

/-- The logarithm of the forget gate of a logit. -/
def gate (z : ℝ) : ℝ := -(max (-z) 0 + Real.log (1 + Real.exp (-|z|))) * (1 / 16)

theorem gate_nonpos (z : ℝ) : gate z ≤ 0 := by
  have h1 : 0 ≤ max (-z) 0 := le_max_right _ _
  have h2 : 0 ≤ Real.log (1 + Real.exp (-|z|)) := Real.log_nonneg (by linarith [Real.exp_pos (-|z|)])
  unfold gate
  linarith

/-- The cumulative log decay before a position. -/
def cum (g : ℕ → ℝ) (n : ℕ) : ℝ := ∑ j ∈ range n, g j

theorem cum_add (g : ℕ → ℝ) (n m : ℕ) : cum g (n + m) = cum g n + cum (fun j => g (n + j)) m := Finset.sum_range_add g n m

theorem cum_anti (g : ℕ → ℝ) (h : ∀ j, g j ≤ 0) {n m : ℕ} (hnm : n ≤ m) : cum g m ≤ cum g n := by
  obtain ⟨d, rfl⟩ := Nat.exists_eq_add_of_le hnm
  rw [cum_add]
  have : cum (fun j => g (n + j)) d ≤ 0 := Finset.sum_nonpos fun j _ => h _
  linarith

variable {ι : Type} [Fintype ι]

/-- What the positions before the first of a row of positions leave: their keys, decayed, times their values. -/
def state (g k : ℕ → ι → ℝ) (v : ℕ → ℝ) (n : ℕ) (d : ι) : ℝ :=
  ∑ j ∈ range n, k j d * Real.exp (cum (fun i => g i d) n - cum (fun i => g i d) (j + 1)) * v j

/-- A key's weight for a query at position `s`. -/
def weight (g q k : ℕ → ι → ℝ) (s j : ℕ) : ℝ :=
  ∑ d, q s d * k j d * Real.exp (cum (fun i => g i d) (s + 1) - cum (fun i => g i d) (j + 1))

/-- What the query at position `s` reads. -/
def read (g q k : ℕ → ι → ℝ) (v : ℕ → ℝ) (s : ℕ) : ℝ := ∑ j ∈ range (s + 1), weight g q k s j * v j

theorem state_add (g k : ℕ → ι → ℝ) (v : ℕ → ℝ) (n m : ℕ) (d : ι) :
    state g k v (n + m) d = state g k v n d * Real.exp (cum (fun i => g (n + i) d) m) + state (fun j => g (n + j)) (fun j => k (n + j)) (fun j => v (n + j)) m d := by
  unfold state
  rw [Finset.sum_range_add, Finset.sum_mul]
  refine congrArg₂ (· + ·) (Finset.sum_congr rfl fun j _ => ?_) (Finset.sum_congr rfl fun j _ => ?_)
  · rw [cum_add, add_sub_right_comm, Real.exp_add]
    ring
  · rw [cum_add, add_assoc n j 1, cum_add (fun i => g i d) n (j + 1), add_sub_add_left_eq_sub]

theorem weight_add (g q k : ℕ → ι → ℝ) (n r j : ℕ) :
    weight g q k (n + r) (n + j) = weight (fun j => g (n + j)) (fun j => q (n + j)) (fun j => k (n + j)) r j := by
  unfold weight
  refine Finset.sum_congr rfl fun d _ => ?_
  rw [add_assoc n r 1, add_assoc n j 1, cum_add, cum_add (fun i => g i d) n (j + 1), add_sub_add_left_eq_sub]

theorem read_add (g q k : ℕ → ι → ℝ) (v : ℕ → ℝ) (n r : ℕ) :
    read g q k v (n + r) = (∑ d, q (n + r) d * Real.exp (cum (fun i => g (n + i) d) (r + 1)) * state g k v n d)
      + read (fun j => g (n + j)) (fun j => q (n + j)) (fun j => k (n + j)) (fun j => v (n + j)) r := by
  unfold read
  rw [add_assoc n r 1, Finset.sum_range_add]
  refine congrArg₂ (· + ·) ?_ (Finset.sum_congr rfl fun j _ => by rw [weight_add])
  unfold weight state
  simp only [Finset.sum_mul, Finset.mul_sum]
  rw [Finset.sum_comm]
  refine Finset.sum_congr rfl fun d _ => Finset.sum_congr rfl fun j _ => ?_
  rw [add_assoc n r 1, cum_add (fun i => g i d) n (r + 1), add_comm (cum (fun i => g i d) n), add_sub_assoc, Real.exp_add]
  ring

/-- The keys of the sub-blocks before a query's own, their weight split at the query's sub-block, and the keys of the own
    one. -/
theorem read_split (g q k : ℕ → ι → ℝ) (v : ℕ → ℝ) (hg : ∀ j d, g j d ≤ 0) (i a : ℕ) (hi : i < 8) (ha : a < 16) :
    (∑ c : Fin 128, (if c.val < 16 * i then ∑ d, (q (16 * i + a) d * Real.exp (min (cum (fun x => g x d) (16 * i + a + 1) - cum (fun x => g x d) (16 * i - 1 + 1)) 0))
          * (k c.val d * Real.exp (min (cum (fun x => g x d) (16 * i - 1 + 1) - cum (fun x => g x d) (c.val + 1)) 0)) else 0) * v c.val)
      + (∑ j : Fin 16, (∑ d, if j.val ≤ a then Real.exp (min (cum (fun x => g x d) (16 * i + a + 1) - cum (fun x => g x d) (16 * i + j.val + 1)) 0) * (q (16 * i + a) d * k (16 * i + j.val) d) else 0) * v (16 * i + j.val))
      = read g q k v (16 * i + a) := by
  have hanti : ∀ (d : ι) {n m : ℕ}, n ≤ m → cum (fun x => g x d) m ≤ cum (fun x => g x d) n := fun d n m h => cum_anti _ (fun j => hg j d) h
  unfold read
  rw [add_assoc (16 * i) a 1, Finset.sum_range_add]
  refine congrArg₂ (· + ·) ?_ ?_
  · have h1 := Fin.sum_univ_eq_sum_range (fun c => (if c < 16 * i then ∑ d, (q (16 * i + a) d * Real.exp (min (cum (fun x => g x d) (16 * i + (a + 1)) - cum (fun x => g x d) (16 * i - 1 + 1)) 0))
          * (k c d * Real.exp (min (cum (fun x => g x d) (16 * i - 1 + 1) - cum (fun x => g x d) (c + 1)) 0)) else 0) * v c) 128
    rw [h1]
    refine (Finset.sum_subset (Finset.range_subset_range.mpr (by omega : 16 * i ≤ 128)) fun c _ hc => ?_).symm.trans (Finset.sum_congr rfl fun c hc => ?_)
    · rw [Finset.mem_range] at hc
      rw [if_neg hc, zero_mul]
    · rw [Finset.mem_range] at hc
      rw [if_pos hc]
      refine congrArg (· * v c) (Finset.sum_congr rfl fun d _ => ?_)
      rw [min_eq_left (by linarith [hanti d (by omega : 16 * i - 1 + 1 ≤ 16 * i + (a + 1))]), min_eq_left (by linarith [hanti d (by omega : c + 1 ≤ 16 * i - 1 + 1)]),
        show ∀ x y z w : ℝ, x * y * (z * w) = x * z * (y * w) from fun x y z w => by ring, ← Real.exp_add, sub_add_sub_cancel, add_assoc (16 * i) a 1]
  · have h1 := Fin.sum_univ_eq_sum_range (fun j => (∑ d, if j ≤ a then Real.exp (min (cum (fun x => g x d) (16 * i + (a + 1)) - cum (fun x => g x d) (16 * i + j + 1)) 0) * (q (16 * i + a) d * k (16 * i + j) d) else 0) * v (16 * i + j)) 16
    rw [h1]
    refine (Finset.sum_subset (Finset.range_subset_range.mpr (by omega : a + 1 ≤ 16)) fun c _ hc => ?_).symm.trans (Finset.sum_congr rfl fun c hc => ?_)
    · rw [Finset.mem_range] at hc
      rw [Finset.sum_eq_zero fun d _ => if_neg (by omega), zero_mul]
    · rw [Finset.mem_range] at hc
      refine congrArg (· * v (16 * i + c)) (Finset.sum_congr rfl fun d _ => ?_)
      rw [if_pos (by omega), min_eq_left (by linarith [hanti d (by omega : 16 * i + c + 1 ≤ 16 * i + (a + 1))]), add_assoc (16 * i) a 1]
      ring

/-! ## In the extended reals -/

theorem coe_sum {κ : Type} (s : Finset κ) (f : κ → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_min (x y : ℝ) : ((min x y : ℝ) : EReal) = min (x : EReal) y := EReal.coe_strictMono.monotone.map_min

theorem coe_max (x y : ℝ) : ((max x y : ℝ) : EReal) = max (x : EReal) y := EReal.coe_strictMono.monotone.map_max

theorem coe_ite (p : Prop) [Decidable p] (x y : ℝ) : ((if p then x else y : ℝ) : EReal) = if p then (x : EReal) else (y : EReal) := apply_ite _ _ _ _

theorem log1p_exp (x : ℝ) : Ideal.log1p (Ideal.exp (x : EReal)) = ((Real.log (1 + Real.exp x) : ℝ) : EReal) := by
  have h : ¬ 1 + Real.exp x ≤ 0 := by linarith [Real.exp_pos x]
  unfold Ideal.log1p
  rw [Ideal.exp_coe, ← EReal.coe_one, ← EReal.coe_add, Ideal.log_coe, if_neg h]

/-- The sum of the entries up to one of them. -/
theorem sum_upto {N : ℕ} (f : ℕ → ℝ) (s : ℕ) (hs : s < N) : ∑ j : Fin N, (if j.val ≤ s then f j.val else 0) = ∑ j ∈ range (s + 1), f j := by
  rw [Fin.sum_univ_eq_sum_range (fun j => if j ≤ s then f j else 0) N]
  refine (Finset.sum_subset (Finset.range_subset_range.mpr (by omega : s + 1 ≤ N)) fun c _ hc => ?_).symm.trans (Finset.sum_congr rfl fun c hc => ?_)
  · rw [Finset.mem_range] at hc
    exact if_neg (by omega)
  · rw [Finset.mem_range] at hc
    exact if_pos (by omega)

theorem sixteenth : Ideal.ofBits .f32 0x3D800000#32 = ((1 / 16 : ℝ) : EReal) := by
  simp [Ideal.ofBits, Ideal.ieee]
  norm_num
  rw [← EReal.coe_mul]
  norm_num

theorem sixteen : Ideal.ofBits .f32 0x41800000#32 = ((16 : ℝ) : EReal) := by
  simp [Ideal.ofBits, Ideal.ieee]
  norm_num
  rw [← EReal.coe_mul]
  norm_num

theorem absf_coe (z : ℝ) : (FloatOps.absf (F := Ideal) (φ := .f32) (z : EReal) : EReal) = ((|z| : ℝ) : EReal) := by
  show max (z : EReal) (-(z : EReal)) = _
  rw [← EReal.coe_neg, ← coe_max]
  rfl

/-- The gate of a number, its softplus times one part in 16. -/
theorem gate_coe (z : ℝ) : (0 - (max (0 - (z : EReal)) 0 + Ideal.log1p (Ideal.exp (0 - FloatOps.absf (F := Ideal) (φ := .f32) (z : EReal))))) * Ideal.ofBits .f32 0x3D800000#32 = ((gate z : ℝ) : EReal) := by
  rw [absf_coe, sixteenth, zero_sub, zero_sub, zero_sub, ← EReal.coe_neg, ← EReal.coe_neg, log1p_exp, ← EReal.coe_zero, ← coe_max, ← EReal.coe_add, ← EReal.coe_neg, ← EReal.coe_mul]
  rfl

/-- The gate of a number, its softplus divided by 16. -/
theorem gate_div (z : ℝ) : Ideal.div (-(max (-(z : EReal)) 0 + Ideal.log1p (Ideal.exp (-FloatOps.absf (F := Ideal) (φ := .f32) (-(z : EReal) - 0 : EReal))))) (Ideal.ofBits .f32 0x41800000#32) = ((gate z : ℝ) : EReal) := by
  rw [sub_zero, ← EReal.coe_neg, absf_coe, abs_neg, sixteen, Ideal.div_coe (by norm_num), ← EReal.coe_neg, log1p_exp, ← EReal.coe_zero, ← coe_max, ← EReal.coe_add, ← EReal.coe_neg, ← EReal.coe_mul]
  rfl

end Cert.Decay
-- ==== Proof.GlaTile.lean ====
/- The gated linear attention's kernel: the arithmetic of one chunk of positions, read at an index. -/
module

public import proofs.«01_k».proof.Proof.Gen.GlaIdeal.Value
public import Idealize.ShloMosaic.Lib.Pipeline.ValueKit
public import Idealize.ShloMosaic.Lib.Pointwise
public import Idealize.ShloMosaic.Lib.WordCmp
public import proofs.«01_k».proof.Proof.MobaRow
public import proofs.«01_k».proof.Proof.Decay

@[expose] public section

set_option maxRecDepth 16384

noncomputable section

open Idealize.ShloMosaic Idealize.ShloMosaic.TcCoe Idealize.ShloMosaic.WordCmp

namespace Cert.GlaIdeal.Blocks

open Cert.GlaIdeal Cert.GlaIdeal.Gen

/-! ## One key of a sub-block, joined to its 16 queries -/

/-- The queries' numbers. -/
def rows : IVec S16x128 32 := iota .tc S16x128 32 [0] iota_S16x128_d0_w32

/-- One key's value, times its weight for every query not before it, added. -/
def step (w : BitVec 32) (b q : Vec Ideal S16x128 .f32) (bj kj : Vec Ideal S1x128 .f32) (vj : Vec Ideal S1x256 .f32) (o : FVec Ideal S16x256 .f32) : FVec Ideal S16x256 .f32 :=
  addf o (mulf (broadcastTo S16x256 (shapeCast S16x1 (multiReduction .add [1] S16
      (select (cmpi .sge rows (broadcast S16x128 w))
        (mulf (exp (minimumf (subf b (broadcastTo S16x128 bj broadcasts_S1x128_S16x128)) (broadcast S16x128 (Scalar.ofBits .f32 0x00000000#32))))
          (mulf q (broadcastTo S16x128 kj broadcasts_S1x128_S16x128)))
        (broadcast S16x128 (Scalar.ofBits .f32 0x00000000#32)))
      0x00000000#32 reduces_S16x128_S16 (.inl rfl) rfl) shapeCasts_S16_S16x1) broadcasts_S16x1_S16x256) (broadcastTo S16x256 vj broadcasts_S1x256_S16x256))

/-- The first `n` keys of a sub-block joined. -/
def chain (b q : Vec Ideal S16x128 .f32) (bs ks : ℕ → Vec Ideal S1x128 .f32) (vs : ℕ → Vec Ideal S1x256 .f32) (o : FVec Ideal S16x256 .f32) : ℕ → FVec Ideal S16x256 .f32
  | 0 => o
  | n + 1 => step (BitVec.ofNat 32 n) b q (bs n) (ks n) (vs n) (chain b q bs ks vs o n)

theorem step_at (w : BitVec 32) (b q : Vec Ideal S16x128 .f32) (bj kj : Vec Ideal S1x128 .f32) (vj : Vec Ideal S1x256 .f32) (o : FVec Ideal S16x256 .f32) (a : Fin 16) (e : Fin 256) :
    step w b q bj kj vj o (ix2 a e) = o (ix2 a e) + (∑ d : Fin 128, Scalar.select (IntOp.cmpi .sge (BitVec.ofNat 32 a.val) w)
      (Ideal.exp (min (b (ix2 a d) - bj (ix2 0 d)) 0) * (q (ix2 a d) * kj (ix2 0 d))) 0) * vj (ix2 0 e) := by
  pointwise [step, rows]

/-! ## The chunk's parts -/

theorem past_at (B K : FVec Ideal S128x128 .f32) (v : Vec Ideal S128x256 .bf16) (J : IVec S16x128 32) (k : Fin k0_t1_loop.trips) (x : Vec Ideal S1x128 .f32) (b q : Vec Ideal S16x128 .f32) (a : Fin 16) (e : Fin 256) :
    k0_pay2 B K v J 0#32 1#32 k x b q (ix2 a e) = ∑ c : Fin 128, Scalar.select (IntOp.cmpi .slt (J (ix2 a c)) (Scalar.muli (Scf.iv 0#32 1#32 k) 16#32))
      (∑ d : Fin 128, (q (ix2 a d) * Ideal.exp (min (b (ix2 a d) - x (ix2 0 d)) 0)) * (K (ix2 c d) * Ideal.exp (min (x (ix2 0 d) - B (ix2 c d)) 0))) 0 * v (ix2 c e) := by
  pointwise [k0_pay2]

theorem log_gate_at (v3 v4 : Vec Ideal S128x128 .bf16) (v6 : Vec Ideal S1x128 .f32) (r d : Fin 128) :
    k0_pay21 v3 v4 v6 (ix2 r d) = (0 - (max (0 - (∑ x : Fin 128, v3 (ix2 r x) * v4 (ix2 x d) + v6 (ix2 0 d))) 0
      + Ideal.log1p (Ideal.exp (0 - FloatOps.absf (F := Ideal) (φ := .f32) (∑ x : Fin 128, v3 (ix2 r x) * v4 (ix2 x d) + v6 (ix2 0 d)))))) * Ideal.ofBits .f32 0x3D800000#32 := by
  pointwise [k0_pay21]

theorem tri_at (r c : Fin 128) : k0_pay22 (F := Ideal) (ix2 r c) = Scalar.select (IntOp.cmpi .sle (BitVec.ofNat 32 c.val) (BitVec.ofNat 32 r.val)) 1 0 := by
  pointwise [k0_pay22]

theorem high_at (v3 v4 : Vec Ideal S128x128 .bf16) (v6 : Vec Ideal S1x128 .f32) (r d : Fin 128) : k0_pay23 v3 v4 v6 (ix2 r d) = k0_pay21 v3 v4 v6 (ix2 r d) := by
  pointwise [k0_pay23]

theorem mid_at (v3 v4 : Vec Ideal S128x128 .bf16) (v6 : Vec Ideal S1x128 .f32) (r d : Fin 128) : k0_pay25 v3 v4 v6 (ix2 r d) = k0_pay21 v3 v4 v6 (ix2 r d) - k0_pay21 v3 v4 v6 (ix2 r d) := by
  pointwise [k0_pay25, k0_pay24, k0_pay23]

theorem low_at (v3 v4 : Vec Ideal S128x128 .bf16) (v6 : Vec Ideal S1x128 .f32) (r d : Fin 128) :
    k0_pay26 v3 v4 v6 (ix2 r d) = (k0_pay21 v3 v4 v6 (ix2 r d) - k0_pay21 v3 v4 v6 (ix2 r d)) - (k0_pay21 v3 v4 v6 (ix2 r d) - k0_pay21 v3 v4 v6 (ix2 r d)) := by
  pointwise [k0_pay26, k0_pay25, k0_pay24, k0_pay23]

/-- The chunk's cumulative log decay. -/
def decay (v3 v4 : Vec Ideal S128x128 .bf16) (v6 : Vec Ideal S1x128 .f32) : FVec Ideal S128x128 .f32 :=
  k0_pay28 (k0_pay22 (F := Ideal)) (k0_pay25 v3 v4 v6) (k0_pay26 v3 v4 v6) (k0_pay27 v3 v4 v6) (constant S128x128 .f32 0x00000000#32)

theorem decay_at (v3 v4 : Vec Ideal S128x128 .bf16) (v6 : Vec Ideal S1x128 .f32) (r d : Fin 128) :
    decay v3 v4 v6 (ix2 r d) = ((∑ c : Fin 128, k0_pay22 (F := Ideal) (ix2 r c) * k0_pay23 v3 v4 v6 (ix2 c d)) + ∑ c : Fin 128, k0_pay22 (F := Ideal) (ix2 r c) * k0_pay25 v3 v4 v6 (ix2 c d))
      + ∑ c : Fin 128, k0_pay22 (F := Ideal) (ix2 r c) * k0_pay26 v3 v4 v6 (ix2 c d) := by
  pointwise [decay, k0_pay28, k0_pay27]

theorem query_at (q : Vec Ideal S128x128 .bf16) (r d : Fin 128) : k0_pay29 q (ix2 r d) = q (ix2 r d) * Ideal.ofBits .f32 0x3DB504F3#32 := by
  pointwise [k0_pay29]

theorem key_at (k : Vec Ideal S128x128 .bf16) (r d : Fin 128) : k0_pay30 k (ix2 r d) = k (ix2 r d) := by
  pointwise [k0_pay30]

theorem kept_query_at (q : Vec Ideal S128x128 .bf16) (r d : Fin 128) : k0_pay32 q (ix2 r d) = q (ix2 r d) * Ideal.ofBits .f32 0x3DB504F3#32 := by
  pointwise [k0_pay32, k0_pay29]

theorem kept_key_at (k : Vec Ideal S128x128 .bf16) (r d : Fin 128) : k0_pay33 k (ix2 r d) = k (ix2 r d) := by
  pointwise [k0_pay33, k0_pay30]

theorem kept_value_at (v : Vec Ideal S128x256 .bf16) (r : Fin 128) (e : Fin 256) : k0_pay34 v (ix2 r e) = v (ix2 r e) := by
  pointwise [k0_pay34]

theorem kept_decay_at (v29 v33 v36 : FVec Ideal S128x128 .bf16) (v37 z : FVec Ideal S128x128 .f32) (r d : Fin 128) :
    k0_pay31 v29 v33 v36 v37 z (ix2 r d) = k0_pay28 v29 v33 v36 v37 z (ix2 r d) := by
  pointwise [k0_pay31]

theorem inter_at (v29 v33 v36 : FVec Ideal S128x128 .bf16) (v37 z : FVec Ideal S128x128 .f32) (q : Vec Ideal S128x128 .bf16) (S : Vec Ideal S128x256 .f32) (r : Fin 128) (e : Fin 256) :
    k0_pay35 v29 v33 v36 v37 z q S (ix2 r e) = ∑ d : Fin 128, k0_pay29 q (ix2 r d) * Ideal.exp (k0_pay28 v29 v33 v36 v37 z (ix2 r d)) * S (ix2 d e) := by
  pointwise [k0_pay35]

theorem state_at (B K : FVec Ideal S128x128 .f32) (v : Vec Ideal S128x256 .bf16) (S : Vec Ideal S128x256 .f32) (d : Fin 128) (e : Fin 256) :
    k0_pay37 B K v S (ix2 d e) = S (ix2 d e) * Ideal.exp (B (ix2 127 d)) + ∑ c : Fin 128, K (ix2 c d) * Ideal.exp (B (ix2 127 d) - B (ix2 c d)) * v (ix2 c e) := by
  pointwise [k0_pay37]
  rw [dite_eq_ite, ite_self]

theorem start_at (d : Fin 128) (e : Fin 256) : k0_pay20 (F := Ideal) (ix2 d e) = (0 : EReal) := by
  pointwise [k0_pay20]

theorem normed_at (o : Vec Ideal S128x256 .f32) (n : Vec Ideal S1x256 .f32) (g : Vec Ideal S128x256 .bf16) (r : Fin 128) (e : Fin 256) :
    k0_pay1 (k0_pay38 o n) (k0_pay39 g) (k0_pay40 g) (k0_pay41 (F := Ideal)) (ix2 r e)
      = o (ix2 r e) * Ideal.rsqrt (Ideal.div (∑ x : Fin 256, o (ix2 r x) * o (ix2 r x)) (Ideal.ofBits .f32 0x43800000#32) + Ideal.ofBits .f32 0x358637BD#32) * n (ix2 0 e)
        * (g (ix2 r e) * Ideal.div 1 (1 + Ideal.exp (0 - g (ix2 r e)))) := by
  pointwise [k0_pay1, k0_pay38, k0_pay39, k0_pay40, k0_pay41]

end Cert.GlaIdeal.Blocks
-- ==== Proof.GlaLoop.lean ====
/- The loop over a chunk's eight sub-blocks of 16 positions: what each adds to its rows. -/
module

public import proofs.«01_k».proof.Proof.Gen.GlaIdeal.Loops
public import proofs.«01_k».proof.Proof.GlaTile
public import Idealize.ShloMosaic.Lib.WritesUnit

@[expose] public section

set_option maxRecDepth 16384

noncomputable section

open Idealize.ShloMosaic Idealize.ShloMosaic.TcCoe Idealize.SL.Sem Idealize.ShloMosaic.WordCmp

namespace Cert.GlaIdeal.Blocks

open Cert.GlaIdeal Cert.GlaIdeal.Gen

/-! ## Where the loop reads and writes -/

theorem trips_eq : k0_t1_loop.trips = 8 := by decide +kernel

theorem start_eq (k : Fin k0_t1_loop.trips) : Scalar.muli (Scf.iv 0#32 1#32 k.val) 16#32 = BitVec.ofNat 32 (16 * k.val) := by
  revert k
  decide +kernel

theorem off1_eq : ∀ k : Fin k0_t1_loop.trips, k0_off1 k = ![16 * k.val - 1, 0] := by decide +kernel

theorem off2_eq : ∀ k : Fin k0_t1_loop.trips, k0_off2 k = ![16 * k.val, 0] := by decide +kernel

theorem off3_eq : ∀ (k : Fin k0_t1_loop.trips) (j : Fin 16), k0_off3 k (BitVec.ofNat 32 j.val) = ![16 * k.val + j.val, 0] := by decide +kernel

theorem off4_eq : ∀ (k : Fin k0_t1_loop.trips) (j : Fin 16), k0_off4 k (BitVec.ofNat 32 j.val) = ![16 * k.val + j.val, 0] := by decide +kernel

theorem off5_eq : ∀ k : Fin k0_t1_loop.trips, k0_off5 k = ![16 * k.val, 0] := by decide +kernel

/-- A number below 16. -/
def low (j : ℕ) : Fin 16 := ⟨j % 16, Nat.mod_lt _ (by decide)⟩

/-- The row before a sub-block, the first for the first. -/
abbrev baseRow (k : Fin k0_t1_loop.trips) (x : Vec Ideal S128x128 .f32) : Vec Ideal S1x128 .f32 :=
  View.ld x (Rect.unit (s := S128x128) (k0_off1 k) S1x128.size (k0_off1_inb k))

/-- A sub-block's rows. -/
abbrev subRows (k : Fin k0_t1_loop.trips) (x : Vec Ideal S128x128 .f32) : Vec Ideal S16x128 .f32 :=
  View.ld x (Rect.unit (s := S128x128) (k0_off2 k) S16x128.size (k0_off2_inb k))

/-- One row of a sub-block. -/
abbrev subRow (k : Fin k0_t1_loop.trips) (x : Vec Ideal S128x128 .f32) (j : ℕ) : Vec Ideal S1x128 .f32 :=
  View.ld x (Rect.unit (s := S128x128) (k0_off3 k (BitVec.ofNat 32 (low j).val)) S1x128.size (k0_off3_inb k (low j)))

/-- One row of a sub-block's values. -/
abbrev subValue (k : Fin k0_t1_loop.trips) (x : Vec Ideal S128x256 .f32) (j : ℕ) : Vec Ideal S1x256 .f32 :=
  View.ld x (Rect.unit (s := S128x256) (k0_off4 k (BitVec.ofNat 32 (low j).val)) S1x256.size (k0_off4_inb k (low j)))

/-- The rows a sub-block adds to. -/
abbrev subOut (k : Fin k0_t1_loop.trips) (x : Vec Ideal S128x256 .f32) : Vec Ideal S16x256 .f32 :=
  View.ld x (Rect.unit (s := S128x256) (k0_off5 k) S16x256.size (k0_off5_inb k))

theorem baseRow_at (k : Fin k0_t1_loop.trips) (x : Vec Ideal S128x128 .f32) (d : Fin 128) (n : Fin 128) (hn : n.val = 16 * k.val - 1) :
    baseRow k x (ix2 0 d) = x (ix2 n d) := by
  refine View.ld_unit_apply_of _ _ _ _ _ _ (fun a => ?_)
  refine Eq.trans ?_ (congrArg (· + _) (congrFun (off1_eq k) a).symm)
  fin_cases a <;> simp [hn]

theorem subRows_at (k : Fin k0_t1_loop.trips) (x : Vec Ideal S128x128 .f32) (a : Fin 16) (d : Fin 128) (n : Fin 128) (hn : n.val = 16 * k.val + a.val) :
    subRows k x (ix2 a d) = x (ix2 n d) := by
  refine View.ld_unit_apply_of _ _ _ _ _ _ (fun a => ?_)
  refine Eq.trans ?_ (congrArg (· + _) (congrFun (off2_eq k) a).symm)
  fin_cases a <;> simp [hn]

theorem subRow_at (k : Fin k0_t1_loop.trips) (x : Vec Ideal S128x128 .f32) (j : Fin 16) (d : Fin 128) (n : Fin 128) (hn : n.val = 16 * k.val + j.val) :
    subRow k x j.val (ix2 0 d) = x (ix2 n d) := by
  have hl : low j.val = j := Fin.ext (Nat.mod_eq_of_lt j.isLt)
  refine View.ld_unit_apply_of _ _ _ _ _ _ (fun a => ?_)
  refine Eq.trans ?_ (congrArg (· + _) (congrFun (off3_eq k (low j.val)) a).symm)
  have hv : (low j.val).val = j.val := congrArg Fin.val hl
  fin_cases a <;> simp [hn, hv]

theorem subValue_at (k : Fin k0_t1_loop.trips) (x : Vec Ideal S128x256 .f32) (j : Fin 16) (e : Fin 256) (n : Fin 128) (hn : n.val = 16 * k.val + j.val) :
    subValue k x j.val (ix2 0 e) = x (ix2 n e) := by
  have hl : low j.val = j := Fin.ext (Nat.mod_eq_of_lt j.isLt)
  refine View.ld_unit_apply_of _ _ _ _ _ _ (fun a => ?_)
  refine Eq.trans ?_ (congrArg (· + _) (congrFun (off4_eq k (low j.val)) a).symm)
  have hv : (low j.val).val = j.val := congrArg Fin.val hl
  fin_cases a <;> simp [hn, hv]

theorem subOut_at (k : Fin k0_t1_loop.trips) (x : Vec Ideal S128x256 .f32) (a : Fin 16) (e : Fin 256) (n : Fin 128) (hn : n.val = 16 * k.val + a.val) :
    subOut k x (ix2 a e) = x (ix2 n e) := by
  refine View.ld_unit_apply_of _ _ _ _ _ _ (fun a => ?_)
  refine Eq.trans ?_ (congrArg (· + _) (congrFun (off5_eq k) a).symm)
  fin_cases a <;> simp [hn]

/-! ## One trip -/

/-- The keys' numbers. -/
def lanes : IVec S16x128 32 := iota .tc S16x128 32 [1] iota_S16x128_d1_w32

/-- What a sub-block's queries read of the chunk's keys. -/
def intra (B K : FVec Ideal S128x128 .f32) (v : Vec Ideal S128x256 .bf16) (k : Fin k0_t1_loop.trips) (x13 x14 x15 : Vec Ideal S128x128 .f32) (x16 : Vec Ideal S128x256 .f32) : FVec Ideal S16x256 .f32 :=
  chain (subRows k x13) (subRows k x14) (subRow k x13) (subRow k x15) (subValue k x16)
    (k0_pay2 B K v lanes 0#32 1#32 k (baseRow k x13) (subRows k x13) (subRows k x14)) 16

theorem trip_pieces (𝒱 : Variants) (c : Dev nD) (bd : Option 𝒱.V) (i : grid0.Coords) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x256 .f32) (harg10 : arg10.IsWhole) (arg11 : Memref sig .tc .vmem S128x256 .bf16) (harg11 : arg11.IsWhole) (arg12 : Memref sig .tc .vmem S128x256 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x256 .f32) (harg16 : arg16.IsWhole) (arg17 : Memref sig .tc .vmem S128x256 .f32) (harg17 : arg17.IsWhole) (B K : FVec Ideal S128x128 .f32) (v : Vec Ideal S128x256 .bf16) (S : Vec Ideal S128x256 .f32) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (k : Fin k0_t1_loop.trips) (f : BufTy.Contents (Elt Ideal) arg17.view.ty)
    (x13 x14 x15 : Vec Ideal S128x128 .f32) (x16 : Vec Ideal S128x256 .f32) (h13 : arg13.view.read (Elt Ideal) X13 = x13) (h14 : arg14.view.read (Elt Ideal) X14 = x14)
    (h15 : arg15.view.read (Elt Ideal) X15 = x15) (h16 : arg16.view.read (Elt Ideal) X16 = x16) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 B K v S lanes rows X13 X14 X15 X16 k f
      = [⟨Rect.unit (s := S128x256) (k0_off5 k) S16x256.size (k0_off5_inb k),
          shapeCast S16x256 (addf (subOut k (arg17.view.read (Elt Ideal) f)) (intra B K v k x13 x14 x15 x16)) shapeCasts_S16x256_S16x256⟩] := by
  subst h13 h14 h15 h16
  unfold tripL_k0_t1 trip_k0_t1
  dsimp only
  rfl

/-! ## All trips -/

/-- Before trip `n` the rows of the sub-blocks before it have their queries' part added, the others are as they were. -/
theorem pieces_read (𝒱 : Variants) (c : Dev nD) (bd : Option 𝒱.V) (i : grid0.Coords) (arg3 : Memref sig .tc .vmem S128x128 .bf16) (harg3 : arg3.IsWhole) (arg4 : Memref sig .tc .vmem S128x128 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x256 .f32) (harg10 : arg10.IsWhole) (arg11 : Memref sig .tc .vmem S128x256 .bf16) (harg11 : arg11.IsWhole) (arg12 : Memref sig .tc .vmem S128x256 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x256 .f32) (harg16 : arg16.IsWhole) (arg17 : Memref sig .tc .vmem S128x256 .f32) (harg17 : arg17.IsWhole) (B K : FVec Ideal S128x128 .f32) (v : Vec Ideal S128x256 .bf16) (S : Vec Ideal S128x256 .f32) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (G : BufTy.Contents (Elt Ideal) arg17.view.ty)
    (x13 x14 x15 : Vec Ideal S128x128 .f32) (x16 : Vec Ideal S128x256 .f32) (h13 : arg13.view.read (Elt Ideal) X13 = x13) (h14 : arg14.view.read (Elt Ideal) X14 = x14)
    (h15 : arg15.view.read (Elt Ideal) X15 = x15) (h16 : arg16.view.read (Elt Ideal) X16 = x16) (n : ℕ) (hn : n ≤ k0_t1_loop.trips) :
    ∀ (r : Fin 128) (e : Fin 256),
      (n ≤ r.val / 16 → arg17.view.read (Elt Ideal) (arg17.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 B K v S lanes rows X13 X14 X15 X16 G n)) (ix2 r e) = arg17.view.read (Elt Ideal) G (ix2 r e))
      ∧ (∀ (k : Fin k0_t1_loop.trips) (a : Fin 16), k.val < n → r.val = 16 * k.val + a.val →
          arg17.view.read (Elt Ideal) (arg17.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 B K v S lanes rows X13 X14 X15 X16 G n)) (ix2 r e)
            = arg17.view.read (Elt Ideal) G (ix2 r e) + intra B K v k x13 x14 x15 x16 (ix2 a e)) := by
  induction n with
  | zero => exact fun r e => ⟨fun _ => rfl, fun k a h => absurd h (Nat.not_lt_zero _)⟩
  | succ n ih =>
    intro r e
    have ih := ih (Nat.le_of_succ_le hn)
    have hs := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 B K v S lanes rows X13 X14 X15 X16 G ⟨n, hn⟩
    rw [trip_pieces 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 B K v S X13 X14 X15 X16 ⟨n, hn⟩ _ x13 x14 x15 x16 h13 h14 h15 h16] at hs
    change pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 B K v S lanes rows X13 X14 X15 X16 G (n + 1) = _ at hs
    rw [hs]
    refine ⟨fun h => ?_, fun k a hk hr => ?_⟩
    · refine (View.read_writes_cons_rows_of_not_mem (o := 16 * n) (W := 16) _ _ _ _ _ (ix2 r e) (off5_eq ⟨n, hn⟩) rfl (by show r.val < 16 * n ∨ 16 * n + 16 ≤ r.val; omega)).trans ?_
      exact (ih r e).1 (by omega)
    · by_cases hkn : k.val = n
      · obtain rfl : k = ⟨n, hn⟩ := Fin.ext hkn
        refine (View.read_writes_cons_rows_of_mem (o := 16 * n) _ _ _ _ _ (ix2 r e) (ix2 a e) (off5_eq ⟨n, hn⟩) hr rfl).trans ?_
        have hc : ∀ y : FVec Ideal S16x256 .f32, shapeCast S16x256 y shapeCasts_S16x256_S16x256 (ix2 a e) = y (ix2 a e) := fun y => by pointwise
        rw [hc]
        show (_ + _ : EReal) = _
        rw [subOut_at ⟨n, hn⟩ _ a e r hr]
        exact congrArg (· + _) ((ih r e).1 (by show n ≤ r.val / 16; simp only at hr; omega))
      · refine (View.read_writes_cons_rows_of_not_mem (o := 16 * n) (W := 16) _ _ _ _ _ (ix2 r e) (off5_eq ⟨n, hn⟩) rfl (by show r.val < 16 * n ∨ 16 * n + 16 ≤ r.val; omega)).trans ?_
        exact (ih r e).2 k a (by omega) hr

/-! ## What a trip adds -/

/-- The first `n` keys of the sub-block joined. -/
theorem chain_at (b q : Vec Ideal S16x128 .f32) (bs ks : ℕ → Vec Ideal S1x128 .f32) (vs : ℕ → Vec Ideal S1x256 .f32) (o : FVec Ideal S16x256 .f32) (a : Fin 16) (e : Fin 256) (n : ℕ) (hn : n ≤ 16) :
    chain b q bs ks vs o n (ix2 a e) = o (ix2 a e) + ∑ j ∈ Finset.range n, (∑ d : Fin 128, if j ≤ a.val then
      Ideal.exp (min (b (ix2 a d) - bs j (ix2 0 d)) 0) * (q (ix2 a d) * ks j (ix2 0 d)) else (0 : EReal)) * vs j (ix2 0 e) := by
  induction n with
  | zero => simp [chain]
  | succ n ih =>
    unfold chain
    rw [step_at, ih (by omega), Finset.sum_range_succ, add_assoc]
    refine congrArg (fun x : EReal => _ + (_ + x * _)) (Finset.sum_congr rfl fun d _ => ?_)
    refine BlockRow.select_eq _ ?_ _ _
    rw [cmpi_sge_ofNat (by omega) (by omega), ofBool_eq_one_iff, decide_eq_true_iff]

end Cert.GlaIdeal.Blocks
-- ==== Proof.GlaEntry.lean ====
/- One chunk of the gated linear attention's kernel, of numbers: its queries read what the whole sequence gives them, and its
   state is the sequence's. -/
module

public import proofs.«01_k».proof.Proof.GlaLoop

@[expose] public section

set_option maxRecDepth 16384

noncomputable section

open Idealize.ShloMosaic Idealize.ShloMosaic.TcCoe Idealize.SL.Sem Idealize.ShloMosaic.WordCmp
open Cert.Decay (cum gate read state coe_sum coe_min coe_ite)

namespace Cert.GlaIdeal.Blocks

open Cert.GlaIdeal Cert.GlaIdeal.Gen

/-! ## The cumulative log decay -/

theorem log_gate_entry (v3 v4 : Vec Ideal S128x128 .bf16) (v6 : Vec Ideal S1x128 .f32) (r d : Fin 128) (z : ℝ)
    (hz : (∑ x : Fin 128, v3 (ix2 r x) * v4 (ix2 x d) + v6 (ix2 0 d) : EReal) = (z : EReal)) :
    (k0_pay21 v3 v4 v6 (ix2 r d) : EReal) = ((gate z : ℝ) : EReal) := by
  rw [log_gate_at, hz]
  exact Decay.gate_coe z

theorem tri_entry (r c : Fin 128) : (k0_pay22 (F := Ideal) (ix2 r c) : EReal) = ((if c.val ≤ r.val then 1 else 0 : ℝ) : EReal) := by
  rw [tri_at, coe_ite, EReal.coe_one, EReal.coe_zero]
  refine BlockRow.select_eq _ ?_ _ _
  rw [cmpi_sle_ofNat (by omega) (by omega), ofBool_eq_one_iff, decide_eq_true_iff]

theorem decay_entry (v3 v4 : Vec Ideal S128x128 .bf16) (v6 : Vec Ideal S1x128 .f32) (g : ℕ → Fin 128 → ℝ)
    (hg : ∀ r d : Fin 128, (k0_pay21 v3 v4 v6 (ix2 r d) : EReal) = ((g r.val d : ℝ) : EReal)) (r d : Fin 128) :
    (decay v3 v4 v6 (ix2 r d) : EReal) = ((cum (fun i => g i d) (r.val + 1) : ℝ) : EReal) := by
  rw [decay_at]
  simp only [high_at, mid_at, low_at, hg, ← EReal.coe_sub, sub_self, EReal.coe_zero, sub_zero, mul_zero, Finset.sum_const_zero, add_zero, tri_entry, ← EReal.coe_mul, ← coe_sum]
  refine congrArg _ ?_
  simp only [ite_mul, one_mul, zero_mul]
  exact Decay.sum_upto (fun j => g j d) r.val r.isLt

/-! ## The chunk's own keys -/

theorem lanes_at (a : Fin 16) (c : Fin 128) : lanes (ix2 a c) = BitVec.ofNat 32 c.val := by
  pointwise [lanes]

/-- What a sub-block's query reads of the chunk. -/
theorem intra_entry (B K : FVec Ideal S128x128 .f32) (v : Vec Ideal S128x256 .bf16) (k : Fin k0_t1_loop.trips) (x13 x14 x15 : Vec Ideal S128x128 .f32) (x16 : Vec Ideal S128x256 .f32)
    (g q y : ℕ → Fin 128 → ℝ) (u : ℕ → ℝ) (e : Fin 256) (hg : ∀ j d, g j d ≤ 0)
    (hB : ∀ r d : Fin 128, (B (ix2 r d) : EReal) = ((cum (fun i => g i d) (r.val + 1) : ℝ) : EReal)) (hK : ∀ c d : Fin 128, (K (ix2 c d) : EReal) = ((y c.val d : ℝ) : EReal))
    (hv : ∀ c : Fin 128, (v (ix2 c e) : EReal) = ((u c.val : ℝ) : EReal))
    (h13 : ∀ r d : Fin 128, (x13 (ix2 r d) : EReal) = ((cum (fun i => g i d) (r.val + 1) : ℝ) : EReal)) (h14 : ∀ r d : Fin 128, (x14 (ix2 r d) : EReal) = ((q r.val d : ℝ) : EReal))
    (h15 : ∀ c d : Fin 128, (x15 (ix2 c d) : EReal) = ((y c.val d : ℝ) : EReal)) (h16 : ∀ c : Fin 128, (x16 (ix2 c e) : EReal) = ((u c.val : ℝ) : EReal)) (a : Fin 16) :
    (intra B K v k x13 x14 x15 x16 (ix2 a e) : EReal) = ((read g q y u (16 * k.val + a.val) : ℝ) : EReal) := by
  have hk : k.val < 8 := lt_of_lt_of_eq k.isLt trips_eq
  have hr : ∀ (x : Vec Ideal S128x128 .f32) (d : Fin 128), subRows k x (ix2 a d) = x (ix2 (⟨16 * k.val + a.val, by omega⟩ : Fin 128) d) := fun x d => subRows_at k x a d _ rfl
  have hb : ∀ (x : Vec Ideal S128x128 .f32) (d : Fin 128), baseRow k x (ix2 0 d) = x (ix2 (⟨16 * k.val - 1, by omega⟩ : Fin 128) d) := fun x d => baseRow_at k x d _ rfl
  have ho : ∀ (x : Vec Ideal S128x128 .f32) (j : Fin 16) (d : Fin 128), subRow k x j.val (ix2 0 d) = x (ix2 (⟨16 * k.val + j.val, by omega⟩ : Fin 128) d) := fun x j d => subRow_at k x j d _ rfl
  have hu : ∀ (j : Fin 16), subValue k x16 j.val (ix2 0 e) = x16 (ix2 (⟨16 * k.val + j.val, by omega⟩ : Fin 128) e) := fun j => subValue_at k x16 j e _ rfl
  unfold intra
  rw [chain_at _ _ _ _ _ _ _ _ _ le_rfl, past_at]
  refine Eq.trans (congrArg (fun x : EReal => _ + x) (Fin.sum_univ_eq_sum_range (fun j => (∑ d : Fin 128, if j ≤ a.val then
      Ideal.exp (min (subRows k x13 (ix2 a d) - subRow k x13 j (ix2 0 d)) 0) * (subRows k x14 (ix2 a d) * subRow k x15 j (ix2 0 d)) else (0 : EReal)) * subValue k x16 j (ix2 0 e)) 16).symm) ?_
  rw [← Decay.read_split g q y u hg k.val a.val hk a.isLt, EReal.coe_add, coe_sum, coe_sum]
  refine congrArg₂ (fun x y : EReal => x + y) (Finset.sum_congr rfl fun c _ => ?_) (Finset.sum_congr rfl fun j _ => ?_)
  · rw [EReal.coe_mul, coe_ite, hv, EReal.coe_zero]
    refine congrArg (fun x : EReal => x * _) ?_
    refine (BlockRow.select_eq _ (p := c.val < 16 * k.val) ?_ _ _).trans ?_
    · rw [lanes_at, start_eq, cmpi_slt_ofNat (by omega) (by omega), ofBool_eq_one_iff, decide_eq_true_iff]
    · refine congrArg (fun x : EReal => if c.val < 16 * k.val then x else 0) ?_
      rw [coe_sum]
      refine Finset.sum_congr rfl fun d _ => ?_
      rw [hr, hr, hb, hB, hK, h13, h13, h14]
      simp only [← EReal.coe_sub, ← EReal.coe_zero, ← coe_min, Ideal.exp_coe, ← EReal.coe_mul]
  · rw [EReal.coe_mul, coe_sum, hu, h16]
    refine congrArg (fun x : EReal => x * _) (Finset.sum_congr rfl fun d _ => ?_)
    rw [coe_ite, hr, hr, ho, ho, h13, h13, h14, h15]
    simp only [← EReal.coe_sub, ← EReal.coe_zero, ← coe_min, Ideal.exp_coe, ← EReal.coe_mul]

/-! ## The state -/

/-- What the state gives a chunk's query. -/
theorem inter_entry (v3 v4 : Vec Ideal S128x128 .bf16) (v6 : Vec Ideal S1x128 .f32) (Q : Vec Ideal S128x128 .bf16) (S : Vec Ideal S128x256 .f32) (r : Fin 128) (e : Fin 256)
    (q b σ : Fin 128 → ℝ) (hq : ∀ d, (k0_pay29 Q (ix2 r d) : EReal) = ((q d : ℝ) : EReal)) (hb : ∀ d, (decay v3 v4 v6 (ix2 r d) : EReal) = ((b d : ℝ) : EReal))
    (hS : ∀ d, (S (ix2 d e) : EReal) = ((σ d : ℝ) : EReal)) :
    (k0_pay35 (k0_pay22 (F := Ideal)) (k0_pay25 v3 v4 v6) (k0_pay26 v3 v4 v6) (k0_pay27 v3 v4 v6) (constant S128x128 .f32 0x00000000#32) Q S (ix2 r e) : EReal)
      = ((∑ d, q d * Real.exp (b d) * σ d : ℝ) : EReal) := by
  rw [inter_at, coe_sum]
  refine Finset.sum_congr rfl fun d _ => ?_
  have hb' : (k0_pay28 (k0_pay22 (F := Ideal)) (k0_pay25 v3 v4 v6) (k0_pay26 v3 v4 v6) (k0_pay27 v3 v4 v6) (constant S128x128 .f32 0x00000000#32) (ix2 r d) : EReal) = ((b d : ℝ) : EReal) := hb d
  rw [hq, hb', hS, Ideal.exp_coe, EReal.coe_mul, EReal.coe_mul]

/-- The state after a chunk. -/
theorem state_entry (B K : FVec Ideal S128x128 .f32) (v : Vec Ideal S128x256 .bf16) (S : Vec Ideal S128x256 .f32) (g y : ℕ → Fin 128 → ℝ) (u : ℕ → ℝ) (n : ℕ) (d : Fin 128) (e : Fin 256)
    (hB : ∀ r d : Fin 128, (B (ix2 r d) : EReal) = ((cum (fun i => g (n + i) d) (r.val + 1) : ℝ) : EReal)) (hK : ∀ c d : Fin 128, (K (ix2 c d) : EReal) = ((y (n + c.val) d : ℝ) : EReal))
    (hv : ∀ c : Fin 128, (v (ix2 c e) : EReal) = ((u (n + c.val) : ℝ) : EReal)) (hS : (S (ix2 d e) : EReal) = ((state g y u n d : ℝ) : EReal)) :
    (k0_pay37 B K v S (ix2 d e) : EReal) = ((state g y u (n + 128) d : ℝ) : EReal) := by
  have h127 : (B (ix2 127 d) : EReal) = ((cum (fun i => g (n + i) d) 128 : ℝ) : EReal) := hB 127 d
  rw [state_at, Decay.state_add, EReal.coe_add, EReal.coe_mul, hS, h127, Ideal.exp_coe]
  refine congrArg₂ (fun x y : EReal => x + y) rfl ?_
  unfold state
  rw [← Fin.sum_univ_eq_sum_range (fun j => y (n + j) d * Real.exp (cum (fun i => g (n + i) d) 128 - cum (fun i => g (n + i) d) (j + 1)) * u (n + j)) 128, coe_sum]
  refine Finset.sum_congr rfl fun c _ => ?_
  rw [hB, hK, hv]
  simp only [← EReal.coe_sub, Ideal.exp_coe, ← EReal.coe_mul]

end Cert.GlaIdeal.Blocks
-- ==== Proof.GlaRef.lean ====
/- The gated linear attention's reference: its parts, and one entry of its result. -/
module

public import proofs.«01_k».proof.Proof.Gen.GlaRefIdeal.Run
public import Idealize.ShloMosaic.Lib.IdealHost
public import Idealize.ShloMosaic.Lib.Pipeline.ValueKit
public import Idealize.ShloMosaic.Lib.Pointwise
public import Idealize.ShloMosaic.Lib.WordCmp
public import proofs.«01_k».proof.Proof.MobaRow
public import proofs.«01_k».proof.Proof.Decay

@[expose] public section

set_option maxRecDepth 16384

noncomputable section

open Idealize.ShloMosaic Idealize.ShloMosaic.TcCoe Idealize.SL.Sem Idealize.ShloMosaic.WordCmp

namespace Cert.GlaRefIdeal.Blocks

open Cert.GlaRefIdeal Cert.GlaRefIdeal.Gen

/-- The queries, scaled. -/
def queries (P : FVec Ideal S8192x15872 .bf16) : FVec Ideal S2x4096x4x128 .f32 :=
  shapeCast S2x4096x4x128 (mulf (extractStridedSlice S8192x512 ![0, 14336] (extf .f32 P bitsLt_bf16_f32) slices_S8192x15872_S8192x512_0_14336)
    (broadcastInDim S8192x512 ![] bcast_S_S8192x512 (constant S_ .f32 0x3DB504F3#32))) shapeCasts_S8192x512_S2x4096x4x128

/-- The keys. -/
def keys (P : FVec Ideal S8192x15872 .bf16) : FVec Ideal S2x4096x4x128 .f32 :=
  shapeCast S2x4096x4x128 (extractStridedSlice S8192x512 ![0, 14848] (extf .f32 P bitsLt_bf16_f32) slices_S8192x15872_S8192x512_0_14848) shapeCasts_S8192x512_S2x4096x4x128

/-- The values. -/
def values (P : FVec Ideal S8192x15872 .bf16) : FVec Ideal S2x4096x4x256 .f32 :=
  shapeCast S2x4096x4x256 (extractStridedSlice S8192x1024 ![0, 6144] (extf .f32 P bitsLt_bf16_f32) slices_S8192x15872_S8192x1024_0_6144) shapeCasts_S8192x1024_S2x4096x4x256

/-- The forget gates' logits. -/
def logits (P : FVec Ideal S8192x15872 .bf16) (W : FVec Ideal S128x512 .bf16) (β : FVec Ideal S1x512 .f32) : FVec Ideal S8192x512 .f32 :=
  addf (Host.dotGeneral dot_S8192x128_S128x512_S8192x512_1_0_0_1_n_n none (extractStridedSlice S8192x128 ![0, 15616] (extf .f32 P bitsLt_bf16_f32) slices_S8192x15872_S8192x128_0_15616) (extf .f32 W bitsLt_bf16_f32))
    (broadcastInDim S8192x512 ![0, 1] bcast_S1x512_S8192x512_0_1 β)

/-- The logarithms of the forget gates. -/
def gates (z : FVec Ideal S8192x512 .f32) : FVec Ideal S2x4096x4x128 .f32 :=
  shapeCast S2x4096x4x128 (Host.divf (Host.negf (select
      (cmpf .une (subf (Host.negf z) (broadcastInDim S8192x512 ![] bcast_S_S8192x512 (constant S_ .f32 0x00000000#32))) (subf (Host.negf z) (broadcastInDim S8192x512 ![] bcast_S_S8192x512 (constant S_ .f32 0x00000000#32))))
      (addf (Host.negf z) (broadcastInDim S8192x512 ![] bcast_S_S8192x512 (constant S_ .f32 0x00000000#32)))
      (addf (maximumf (Host.negf z) (broadcastInDim S8192x512 ![] bcast_S_S8192x512 (constant S_ .f32 0x00000000#32)))
        (Host.log1p (Host.exp (Host.negf (Host.absf (subf (Host.negf z) (broadcastInDim S8192x512 ![] bcast_S_S8192x512 (constant S_ .f32 0x00000000#32))))))))))
    (broadcastInDim S8192x512 ![] bcast_S_S8192x512 (constant S_ .f32 0x41800000#32))) shapeCasts_S8192x512_S2x4096x4x128

/-- The (position, earlier position) pairs. -/
def causal : IVec S4096x4096 1 :=
  select (cmpi .sge (addi (iotaInDim S4096x4096 32 0) (broadcastInDim S4096x4096 ![] bcast_S_S4096x4096 (constantI S_ 32 0#32))) (iotaInDim S4096x4096 32 1))
    (broadcastInDim S4096x4096 ![] bcast_S_S4096x4096 (constantI S_ 1 1#1)) (broadcastInDim S4096x4096 ![] bcast_S_S4096x4096 (constantI S_ 1 0#1))

/-- The cumulative log decay. -/
def decay (g : FVec Ideal S2x4096x4x128 .f32) : FVec Ideal S2x4096x4x128 .f32 :=
  transpose S2x4096x4x128 [0, 3, 1, 2] (Host.dotGeneral dot_S2x4096x4x128_S4096x4096_S2x4x128x4096_1_1_023_0_n_n none g (uitofp .f32 causal)) transposes_S2x4x128x4096_S2x4096x4x128_0_3_1_2

/-- An array over positions, for every other position. -/
def late (x : FVec Ideal S2x4096x4x128 .f32) : FVec Ideal S2x4096x4096x4x128 .f32 :=
  broadcastInDim S2x4096x4096x4x128 ![0, 1, 2, 3, 4] bcast_S2x4096x1x4x128_S2x4096x4096x4x128_0_1_2_3_4 (broadcastInDim S2x4096x1x4x128 ![0, 1, 3, 4] bcast_S2x4096x4x128_S2x4096x1x4x128_0_1_3_4 x)

/-- An array over other positions, for every position. -/
def early (x : FVec Ideal S2x4096x4x128 .f32) : FVec Ideal S2x4096x4096x4x128 .f32 :=
  broadcastInDim S2x4096x4096x4x128 ![0, 1, 2, 3, 4] bcast_S2x1x4096x4x128_S2x4096x4096x4x128_0_1_2_3_4 (broadcastInDim S2x1x4096x4x128 ![0, 2, 3, 4] bcast_S2x4096x4x128_S2x1x4096x4x128_0_2_3_4 x)

/-- How much of an earlier position is left at a later one. -/
def remains (b : FVec Ideal S2x4096x4x128 .f32) : FVec Ideal S2x4096x4096x4x128 .f32 :=
  select (broadcastInDim S2x4096x4096x4x128 ![0, 1, 2, 3, 4] bcast_S1x4096x4096x1x1_S2x4096x4096x4x128_0_1_2_3_4 (broadcastInDim S1x4096x4096x1x1 ![1, 2] bcast_S4096x4096_S1x4096x4096x1x1_1_2 causal))
    (Host.exp (subf (late b) (early b))) (broadcastInDim S2x4096x4096x4x128 ![] bcast_S_S2x4096x4096x4x128 (id (constant S_ .f32 0x00000000#32)))

/-- The keys' weights for the queries. -/
def weights (q k : FVec Ideal S2x4096x4x128 .f32) (w : FVec Ideal S2x4096x4096x4x128 .f32) : FVec Ideal S2x4096x4096x4 .f32 :=
  Host.reduceAdd (mulf (mulf (late q) (early k)) w) (constant S_ .f32 0x00000000#32) reducesTo_S2x4096x4096x4x128_S2x4096x4096x4_d4 h_S_

/-- What the queries read. -/
def attend (v : FVec Ideal S2x4096x4x256 .f32) (a : FVec Ideal S2x4096x4096x4 .f32) : FVec Ideal S2x4096x4x256 .f32 :=
  transpose S2x4096x4x256 [0, 3, 1, 2] (Host.dotGeneral dot_S2x4096x4x256_S2x4096x4096x4_S2x4x256x4096_1_2_3_1_02_03 none v a) transposes_S2x4x256x4096_S2x4096x4x256_0_3_1_2

/-- The root-mean-square norm over a head's lanes, with its scale. -/
def normed (o : FVec Ideal S2x4096x4x256 .f32) (n : FVec Ideal S1x256 .f32) : FVec Ideal S8192x1024 .f32 :=
  shapeCast S8192x1024 (mulf (mulf o (broadcastInDim S2x4096x4x256 ![0, 1, 2, 3] bcast_S2x4096x4x1_S2x4096x4x256_0_1_2_3 (Host.rsqrt (addf
        (Host.divf (broadcastInDim S2x4096x4x1 ![0, 1, 2] bcast_S2x4096x4_S2x4096x4x1_0_1_2 (Host.reduceAdd (mulf o o) (constant S_ .f32 0x00000000#32) reducesTo_S2x4096x4x256_S2x4096x4_d3 h_S_))
          (broadcastInDim S2x4096x4x1 ![] bcast_S_S2x4096x4x1 (constant S_ .f32 0x43800000#32)))
        (broadcastInDim S2x4096x4x1 ![] bcast_S_S2x4096x4x1 (constant S_ .f32 0x358637BD#32))))))
    (broadcastInDim S2x4096x4x256 ![0, 1, 2, 3] bcast_S1x1x1x256_S2x4096x4x256_0_1_2_3 (broadcastInDim S1x1x1x256 ![3] bcast_S256_S1x1x1x256_3 (shapeCast S256 n shapeCasts_S1x256_S256)))) shapeCasts_S2x4096x4x256_S8192x1024

/-- The output gate. -/
def gate (P : FVec Ideal S8192x15872 .bf16) : FVec Ideal S8192x1024 .f32 :=
  mulf (extractStridedSlice S8192x1024 ![0, 7168] (extf .f32 P bitsLt_bf16_f32) slices_S8192x15872_S8192x1024_0_7168)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 7168] (extf .f32 P bitsLt_bf16_f32) slices_S8192x15872_S8192x1024_0_7168)))))

/-- The heads' outputs before the norm. -/
def heads (P : FVec Ideal S8192x15872 .bf16) (W : FVec Ideal S128x512 .bf16) (β : FVec Ideal S1x512 .f32) : FVec Ideal S2x4096x4x256 .f32 :=
  attend (values P) (weights (queries P) (keys P) (remains (decay (gates (logits P W β)))))

/-- The gated output, rounded. -/
def out (P : FVec Ideal S8192x15872 .bf16) (W : FVec Ideal S128x512 .bf16) (β : FVec Ideal S1x512 .f32) (n : FVec Ideal S1x256 .f32) : FVec Ideal S8192x1024 .bf16 :=
  truncf .bf16 (mulf (normed (heads P W β) n) (gate P)) bitsLt_bf16_f32

/-- The reference's result is `out`. -/
theorem result (m : (ℓ : Loc nD τ sig) → Buf (Elt Ideal) ℓ) (c : Dev nD) :
    Value.res_out0 m c = out (m ((c : Thread nD τ).loc main_arg0)) (m ((c : Thread nD τ).loc main_arg1)) (m ((c : Thread nD τ).loc main_arg2)) (m ((c : Thread nD τ).loc main_arg3)) := rfl

/-! ## The parts read at an index -/

theorem queries_at (P : FVec Ideal S8192x15872 .bf16) (b : Fin 2) (s : Fin 4096) (h : Fin 4) (d : Fin 128) :
    queries P (ix4 b s h d) = P (ix2 ⟨b.val * 4096 + s.val, by omega⟩ ⟨14336 + (h.val * 128 + d.val), by omega⟩) * Ideal.ofBits .f32 0x3DB504F3#32 := by
  pointwise [queries]

theorem keys_at (P : FVec Ideal S8192x15872 .bf16) (b : Fin 2) (s : Fin 4096) (h : Fin 4) (d : Fin 128) :
    keys P (ix4 b s h d) = P (ix2 ⟨b.val * 4096 + s.val, by omega⟩ ⟨14848 + (h.val * 128 + d.val), by omega⟩) := by
  pointwise [keys]

theorem values_at (P : FVec Ideal S8192x15872 .bf16) (b : Fin 2) (s : Fin 4096) (h : Fin 4) (e : Fin 256) :
    values P (ix4 b s h e) = P (ix2 ⟨b.val * 4096 + s.val, by omega⟩ ⟨6144 + (h.val * 256 + e.val), by omega⟩) := by
  pointwise [values]

theorem logits_at (P : FVec Ideal S8192x15872 .bf16) (W : FVec Ideal S128x512 .bf16) (β : FVec Ideal S1x512 .f32) (i : Fin 8192) (d : Fin 512) :
    logits P W β (ix2 i d) = ∑ x : Fin 128, P (ix2 i ⟨15616 + x.val, by omega⟩) * W (ix2 x d) + β (ix2 0 d) := by
  pointwise [logits]

theorem gates_at (z : FVec Ideal S8192x512 .f32) (b : Fin 2) (s : Fin 4096) (h : Fin 4) (d : Fin 128) (y : EReal)
    (hy : z (ix2 ⟨b.val * 4096 + s.val, by omega⟩ ⟨h.val * 128 + d.val, by omega⟩) = y) :
    gates z (ix4 b s h d) = Ideal.div (-(max (-y) 0 + Ideal.log1p (Ideal.exp (-FloatOps.absf (F := Ideal) (φ := .f32) (-y - 0 : EReal))))) (Ideal.ofBits .f32 0x41800000#32) := by
  subst hy
  pointwise [gates]
  rw [if_neg (not_not.2 rfl)]

theorem causal_at (s j : Fin 4096) : causal (ix2 s j) = 1#1 ↔ j.val ≤ s.val := by
  pointwise [causal]
  rw [IntOp.addi, BitVec.add_zero, cmpi_sge_ofNat (by omega) (by omega)]
  by_cases h : j.val ≤ s.val <;> simp [Scalar.select, h]

theorem decay_at (g : FVec Ideal S2x4096x4x128 .f32) (b : Fin 2) (s : Fin 4096) (h : Fin 4) (d : Fin 128) :
    decay g (ix4 b s h d) = ∑ j : Fin 4096, g (ix4 b j h d) * FloatOps.uitofp (F := Ideal) .f32 (causal (ix2 s j)) := by
  pointwise [decay]

theorem remains_at (B : FVec Ideal S2x4096x4x128 .f32) (b : Fin 2) (s j : Fin 4096) (h : Fin 4) (d : Fin 128) :
    remains B (ix5 b s j h d) = Scalar.select (causal (ix2 s j)) (Ideal.exp (B (ix4 b s h d) - B (ix4 b j h d))) 0 := by
  pointwise [remains, late, early]
  rw [show id (constant (F := Ideal) S_ FTy.f32 0x00000000#32) ix0 = 0 from Ideal.ofBits_zero_f32]

theorem weights_at (q k : FVec Ideal S2x4096x4x128 .f32) (w : FVec Ideal S2x4096x4096x4x128 .f32) (b : Fin 2) (s j : Fin 4096) (h : Fin 4) :
    weights q k w (ix4 b s j h) = ∑ d : Fin 128, q (ix4 b s h d) * k (ix4 b j h d) * w (ix5 b s j h d) := by
  pointwise [weights, late, early]

theorem attend_at (v : FVec Ideal S2x4096x4x256 .f32) (a : FVec Ideal S2x4096x4096x4 .f32) (b : Fin 2) (s : Fin 4096) (h : Fin 4) (e : Fin 256) :
    attend v a (ix4 b s h e) = ∑ j : Fin 4096, v (ix4 b j h e) * a (ix4 b s j h) := by
  pointwise [attend]

theorem normed_at (o : FVec Ideal S2x4096x4x256 .f32) (n : FVec Ideal S1x256 .f32) (i : Fin 8192) (e : Fin 1024) :
    normed o n (ix2 i e) = o (ix4 ⟨i.val / 4096, by omega⟩ ⟨i.val % 4096, by omega⟩ ⟨e.val / 256, by omega⟩ ⟨e.val % 256, by omega⟩)
      * Ideal.rsqrt (Ideal.div (∑ x : Fin 256, o (ix4 ⟨i.val / 4096, by omega⟩ ⟨i.val % 4096, by omega⟩ ⟨e.val / 256, by omega⟩ x) * o (ix4 ⟨i.val / 4096, by omega⟩ ⟨i.val % 4096, by omega⟩ ⟨e.val / 256, by omega⟩ x))
          (Ideal.ofBits .f32 0x43800000#32) + Ideal.ofBits .f32 0x358637BD#32) * n (ix2 0 ⟨e.val % 256, by omega⟩) := by
  pointwise [normed]

theorem gate_at (P : FVec Ideal S8192x15872 .bf16) (i : Fin 8192) (d : Fin 1024) :
    gate P (ix2 i d) = P (ix2 i ⟨7168 + d.val, by omega⟩) * Ideal.div 1 (1 + Ideal.exp (-P (ix2 i ⟨7168 + d.val, by omega⟩))) := by
  pointwise [gate]

/-- One entry of the gated output, by its sequence, position, head and lane. -/
theorem out_at (P : FVec Ideal S8192x15872 .bf16) (W : FVec Ideal S128x512 .bf16) (β : FVec Ideal S1x512 .f32) (n : FVec Ideal S1x256 .f32) (i : Fin 8192) (x : Fin 1024)
    (b : Fin 2) (h : Fin 4) (s : Fin 4096) (e : Fin 256) (hb : i.val / 4096 = b.val) (hh : x.val / 256 = h.val) (hs : i.val % 4096 = s.val) (he : x.val % 256 = e.val) :
    out P W β n (ix2 i x) = heads P W β (ix4 b s h e)
      * Ideal.rsqrt (Ideal.div (∑ y : Fin 256, heads P W β (ix4 b s h y) * heads P W β (ix4 b s h y)) (Ideal.ofBits .f32 0x43800000#32) + Ideal.ofBits .f32 0x358637BD#32) * n (ix2 0 e)
      * (P (ix2 i ⟨7168 + x.val, by omega⟩) * Ideal.div 1 (1 + Ideal.exp (-P (ix2 i ⟨7168 + x.val, by omega⟩)))) := by
  have h1 : (⟨i.val / 4096, by omega⟩ : Fin 2) = b := Fin.ext hb
  have h2 : (⟨x.val / 256, by omega⟩ : Fin 4) = h := Fin.ext hh
  have h3 : (⟨i.val % 4096, by omega⟩ : Fin 4096) = s := Fin.ext hs
  have h4 : (⟨x.val % 256, by omega⟩ : Fin 256) = e := Fin.ext he
  have hn := normed_at (heads P W β) n i x
  rw [h1, h2, h3, h4] at hn
  exact congrArg₂ (fun x y : EReal => x * y) hn (gate_at P i x)

/-- The scale of the queries is a number. -/
theorem scale_isNum : Attention.IsNum (Ideal.ofBits .f32 0x3DB504F3#32) := by
  simp [Ideal.ofBits, Ideal.ieee]
  norm_num
  rw [← EReal.coe_mul]
  exact Attention.isNum_coe _

/-! ## The sequences a head works on -/

/-- Queries, keys, values and gates' logits are numbers. -/
structure Finite (P : FVec Ideal S8192x15872 .bf16) (W : FVec Ideal S128x512 .bf16) (β : FVec Ideal S1x512 .f32) : Prop where
  query : ∀ (i : Fin 8192) (d : Fin 512), Attention.IsNum (P (ix2 i ⟨14336 + d.val, by omega⟩))
  key : ∀ (i : Fin 8192) (d : Fin 512), Attention.IsNum (P (ix2 i ⟨14848 + d.val, by omega⟩))
  logit : ∀ (i : Fin 8192) (d : Fin 512), Attention.IsNum (logits P W β (ix2 i d))
  value : ∀ (i : Fin 8192) (e : Fin 1024), Attention.IsNum (P (ix2 i ⟨6144 + e.val, by omega⟩))

/-- A position of a sequence. -/
def pos (j : ℕ) : Fin 4096 := ⟨j % 4096, Nat.mod_lt _ (by decide)⟩

theorem pos_val (j : Fin 4096) : pos j.val = j := Fin.ext (Nat.mod_eq_of_lt j.isLt)

/-- A sequence's row of the whole batch. -/
def rowOf (b : Fin 2) (j : ℕ) : Fin 8192 := ⟨b.val * 4096 + j % 4096, by omega⟩

/-- A head's lane of 512. -/
def lane128 (h : Fin 4) (d : Fin 128) : Fin 512 := ⟨h.val * 128 + d.val, by omega⟩

section Seq
variable (P : FVec Ideal S8192x15872 .bf16) (W : FVec Ideal S128x512 .bf16) (β : FVec Ideal S1x512 .f32) (b : Fin 2) (h : Fin 4)

/-- The log gates. -/
def gateSeq (j : ℕ) (d : Fin 128) : ℝ := Decay.gate (logits P W β (ix2 (rowOf b j) (lane128 h d)) : EReal).toReal

/-- The queries. -/
def querySeq (j : ℕ) (d : Fin 128) : ℝ := (queries P (ix4 b (pos j) h d) : EReal).toReal

/-- The keys. -/
def keySeq (j : ℕ) (d : Fin 128) : ℝ := (keys P (ix4 b (pos j) h d) : EReal).toReal

/-- One lane of the values. -/
def valueSeq (e : Fin 256) (j : ℕ) : ℝ := (values P (ix4 b (pos j) h e) : EReal).toReal

theorem gateSeq_nonpos (j : ℕ) (d : Fin 128) : gateSeq P W β b h j d ≤ 0 := Decay.gate_nonpos _

variable {P W β} (hF : Finite P W β)
include hF

theorem logit_coe (j : ℕ) (d : Fin 128) : (logits P W β (ix2 (rowOf b j) (lane128 h d)) : EReal) = (((logits P W β (ix2 (rowOf b j) (lane128 h d)) : EReal).toReal : ℝ) : EReal) :=
  (EReal.coe_toReal (hF.logit _ _).2 (hF.logit _ _).1).symm

theorem gate_coe (j : Fin 4096) (d : Fin 128) : (gates (logits P W β) (ix4 b j h d) : EReal) = ((gateSeq P W β b h j.val d : ℝ) : EReal) := by
  have hr : (⟨b.val * 4096 + j.val, by omega⟩ : Fin 8192) = rowOf b j.val := Fin.ext (by show b.val * 4096 + j.val = b.val * 4096 + j.val % 4096; omega)
  rw [gates_at (logits P W β) b j h d _ ((congrArg (fun i => logits P W β (ix2 i (lane128 h d))) hr).trans (logit_coe b h hF j.val d))]
  exact Decay.gate_div _

theorem query_coe (j : ℕ) (d : Fin 128) : (queries P (ix4 b (pos j) h d) : EReal) = ((querySeq P b h j d : ℝ) : EReal) := by
  have hn : Attention.IsNum (queries P (ix4 b (pos j) h d)) := by
    rw [queries_at]
    exact (hF.query _ (lane128 h d)).mul scale_isNum
  exact (EReal.coe_toReal hn.2 hn.1).symm

theorem key_coe (j : ℕ) (d : Fin 128) : (keys P (ix4 b (pos j) h d) : EReal) = ((keySeq P b h j d : ℝ) : EReal) := by
  have hn : Attention.IsNum (keys P (ix4 b (pos j) h d)) := by
    rw [keys_at]
    exact hF.key _ (lane128 h d)
  exact (EReal.coe_toReal hn.2 hn.1).symm

theorem value_coe (e : Fin 256) (j : ℕ) : (values P (ix4 b (pos j) h e) : EReal) = ((valueSeq P b h e j : ℝ) : EReal) := by
  have hn : Attention.IsNum (values P (ix4 b (pos j) h e)) := by
    rw [values_at]
    exact hF.value _ ⟨h.val * 256 + e.val, by omega⟩
  exact (EReal.coe_toReal hn.2 hn.1).symm

theorem decay_coe (s : Fin 4096) (d : Fin 128) : (decay (gates (logits P W β)) (ix4 b s h d) : EReal) = ((Decay.cum (fun i => gateSeq P W β b h i d) (s.val + 1) : ℝ) : EReal) := by
  rw [decay_at]
  have hs : ∀ j : Fin 4096, (gates (logits P W β) (ix4 b j h d) * FloatOps.uitofp (F := Ideal) .f32 (causal (ix2 s j)) : EReal) = ((if j.val ≤ s.val then gateSeq P W β b h j.val d else 0 : ℝ) : EReal) := fun j => by
    rw [gate_coe b h hF j d]
    by_cases hc : j.val ≤ s.val
    · rw [(causal_at s j).2 hc, if_pos hc]
      show _ * (((1#1 : BitVec 1).toNat : ℝ) : EReal) = _
      simp
    · rw [(BitVec.eq_zero_or_eq_one _).resolve_right (fun h => hc ((causal_at s j).1 h)), if_neg hc]
      show _ * (((0#1 : BitVec 1).toNat : ℝ) : EReal) = _
      simp
  simp only [hs]
  rw [← Decay.coe_sum]
  exact congrArg _ (Decay.sum_upto (fun j => gateSeq P W β b h j d) s.val s.isLt)

/-- A head's output before the norm is what the query reads of the sequence. -/
theorem heads_at (s : Fin 4096) (e : Fin 256) :
    (heads P W β (ix4 b s h e) : EReal) = ((Decay.read (gateSeq P W β b h) (querySeq P b h) (keySeq P b h) (valueSeq P b h e) s.val : ℝ) : EReal) := by
  unfold heads
  rw [attend_at]
  have hw : ∀ j : Fin 4096, (values P (ix4 b j h e) * weights (queries P) (keys P) (remains (decay (gates (logits P W β)))) (ix4 b s j h) : EReal)
      = ((if j.val ≤ s.val then Decay.weight (gateSeq P W β b h) (querySeq P b h) (keySeq P b h) s.val j.val * valueSeq P b h e j.val else 0 : ℝ) : EReal) := fun j => by
    have hv := value_coe b h hF e j.val
    rw [pos_val] at hv
    rw [hv, weights_at]
    have ht : ∀ d : Fin 128, (queries P (ix4 b s h d) * keys P (ix4 b j h d) * remains (decay (gates (logits P W β))) (ix5 b s j h d) : EReal)
        = ((if j.val ≤ s.val then querySeq P b h s.val d * keySeq P b h j.val d * Real.exp (Decay.cum (fun i => gateSeq P W β b h i d) (s.val + 1) - Decay.cum (fun i => gateSeq P W β b h i d) (j.val + 1)) else 0 : ℝ) : EReal) := fun d => by
      have hq := query_coe b h hF s.val d
      have hk := key_coe b h hF j.val d
      rw [pos_val] at hq hk
      rw [remains_at, BlockRow.select_eq _ (causal_at s j) _ _, hq, hk, decay_coe b h hF, decay_coe b h hF, ← EReal.coe_sub, Ideal.exp_coe, Decay.coe_ite]
      split
      · rw [EReal.coe_mul, EReal.coe_mul]
      · rw [mul_zero, EReal.coe_zero]
    simp only [ht]
    rw [← Decay.coe_sum, ← EReal.coe_mul]
    refine congrArg _ ?_
    split
    · exact mul_comm _ _
    · simp
  simp only [hw]
  rw [← Decay.coe_sum]
  exact congrArg _ (Decay.sum_upto (fun j => Decay.weight (gateSeq P W β b h) (querySeq P b h) (keySeq P b h) s.val j * valueSeq P b h e j) s.val s.isLt)

end Seq

end Cert.GlaRefIdeal.Blocks
-- ==== Proof.GlaValue.lean ====
/- The gated linear attention's kernel: every chunk of positions holds the reference's rows. -/
module

public import proofs.«01_k».proof.Proof.GlaEntry
public import proofs.«01_k».proof.Proof.GlaRef
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem Idealize.ShloMosaic.WordCmp
open Idealize.ShloMosaic.Pipeline (Dat)
open Cert.Decay (cum gate read state coe_sum)

namespace Cert.GlaIdeal.Blocks

open Cert.GlaIdeal Cert.GlaIdeal.Gen

variable (m : (ℓ : Loc nD τ sig) → Buf (Elt Ideal) ℓ)

/-! ## The windows' blocks -/

/-- Where each window is at: the chunk's rows and the head's lanes of a grid point. -/
theorem idx : ∀ t : Fin cfg0.N,
    win0_0.index t = ![t.val / 128 * 32 + t.val % 32, 112 + t.val / 32 % 4] ∧ win0_1.index t = ![t.val / 128 * 32 + t.val % 32, 116 + t.val / 32 % 4]
      ∧ win0_2.index t = ![t.val / 128 * 32 + t.val % 32, 24 + t.val / 32 % 4] ∧ win0_3.index t = ![t.val / 128 * 32 + t.val % 32, 28 + t.val / 32 % 4]
      ∧ win0_4.index t = ![t.val / 128 * 32 + t.val % 32, 122] ∧ win0_5.index t = ![0, t.val / 32 % 4] ∧ win0_6.index t = ![0, t.val / 32 % 4] ∧ win0_7.index t = ![0, 0]
      ∧ win0_8.index t = ![t.val / 128 * 32 + t.val % 32, t.val / 32 % 4] ∧ t.val < 256 :=
  (by decide +kernel : ∀ t : Fin grid0.N, _)

theorem lt_256 (t : Fin cfg0.N) : t.val < 256 := (idx t).2.2.2.2.2.2.2.2.2

/-- The launch's arguments. -/
abbrev P (c : Dev nD) : FVec Ideal S8192x15872 .bf16 := m ((c : Thread nD τ).loc main_arg0)
abbrev W (c : Dev nD) : FVec Ideal S128x512 .bf16 := m ((c : Thread nD τ).loc main_arg1)
abbrev β (c : Dev nD) : FVec Ideal S1x512 .f32 := m ((c : Thread nD τ).loc main_arg2)
abbrev N (c : Dev nD) : FVec Ideal S1x256 .f32 := m ((c : Thread nD τ).loc main_arg3)

theorem query_block (c : Dev nD) (t : Fin cfg0.N) (r d : Fin 128) (h : (t.val / 128 * 32 + t.val % 32) * 128 + r.val < 8192) (h' : (112 + t.val / 32 % 4) * 128 + d.val < 15872) :
    iblk m c 0 t (ix2 r d) = P m c (ix2 (⟨(t.val / 128 * 32 + t.val % 32) * 128 + r.val, h⟩ : Fin 8192) (⟨(112 + t.val / 32 % 4) * 128 + d.val, h'⟩ : Fin 15872)) := by
  blk_ext [iblk, V, idx t]

theorem key_block (c : Dev nD) (t : Fin cfg0.N) (r d : Fin 128) (h : (t.val / 128 * 32 + t.val % 32) * 128 + r.val < 8192) (h' : (116 + t.val / 32 % 4) * 128 + d.val < 15872) :
    iblk m c 1 t (ix2 r d) = P m c (ix2 (⟨(t.val / 128 * 32 + t.val % 32) * 128 + r.val, h⟩ : Fin 8192) (⟨(116 + t.val / 32 % 4) * 128 + d.val, h'⟩ : Fin 15872)) := by
  blk_ext [iblk, V, idx t]

theorem value_block (c : Dev nD) (t : Fin cfg0.N) (r : Fin 128) (e : Fin 256) (h : (t.val / 128 * 32 + t.val % 32) * 128 + r.val < 8192) (h' : (24 + t.val / 32 % 4) * 256 + e.val < 15872) :
    iblk m c 2 t (ix2 r e) = P m c (ix2 (⟨(t.val / 128 * 32 + t.val % 32) * 128 + r.val, h⟩ : Fin 8192) (⟨(24 + t.val / 32 % 4) * 256 + e.val, h'⟩ : Fin 15872)) := by
  blk_ext [iblk, V, idx t]

theorem gate_block (c : Dev nD) (t : Fin cfg0.N) (r : Fin 128) (e : Fin 256) (h : (t.val / 128 * 32 + t.val % 32) * 128 + r.val < 8192) (h' : (28 + t.val / 32 % 4) * 256 + e.val < 15872) :
    iblk m c 3 t (ix2 r e) = P m c (ix2 (⟨(t.val / 128 * 32 + t.val % 32) * 128 + r.val, h⟩ : Fin 8192) (⟨(28 + t.val / 32 % 4) * 256 + e.val, h'⟩ : Fin 15872)) := by
  blk_ext [iblk, V, idx t]

theorem forget_block (c : Dev nD) (t : Fin cfg0.N) (r x : Fin 128) (h : (t.val / 128 * 32 + t.val % 32) * 128 + r.val < 8192) :
    iblk m c 4 t (ix2 r x) = P m c (ix2 (⟨(t.val / 128 * 32 + t.val % 32) * 128 + r.val, h⟩ : Fin 8192) (⟨15616 + x.val, by omega⟩ : Fin 15872)) := by
  blk_ext [iblk, V, idx t]

theorem weight_block (c : Dev nD) (t : Fin cfg0.N) (x d : Fin 128) (h : t.val / 32 % 4 * 128 + d.val < 512) :
    iblk m c 5 t (ix2 x d) = W m c (ix2 x (⟨t.val / 32 % 4 * 128 + d.val, h⟩ : Fin 512)) := by
  blk_ext [iblk, V, idx t]

theorem bias_block (c : Dev nD) (t : Fin cfg0.N) (d : Fin 128) (h : t.val / 32 % 4 * 128 + d.val < 512) :
    iblk m c 6 t (ix2 0 d) = β m c (ix2 0 (⟨t.val / 32 % 4 * 128 + d.val, h⟩ : Fin 512)) := by
  blk_ext [iblk, V, idx t]

theorem norm_block (c : Dev nD) (t : Fin cfg0.N) (e : Fin 256) : iblk m c 7 t (ix2 0 e) = N m c (ix2 0 e) := by
  blk_ext [iblk, V, idx t]

/-! ## A chunk's sequences -/

open Cert.GlaRefIdeal.Blocks (gateSeq querySeq keySeq valueSeq rowOf lane128 pos)

/-- A grid point's sequence and head. -/
def seqOf (t : Fin cfg0.N) : Fin 2 := ⟨t.val / 128, by have := lt_256 t; omega⟩
def headOf (t : Fin cfg0.N) : Fin 4 := ⟨t.val / 32 % 4, by omega⟩

/-- The positions before a grid point's chunk. -/
def base (t : Fin cfg0.N) : ℕ := 128 * (t.val % 32)

abbrev gSeq (c : Dev nD) (t : Fin cfg0.N) : ℕ → Fin 128 → ℝ := gateSeq (P m c) (W m c) (β m c) (seqOf t) (headOf t)
abbrev qSeq (c : Dev nD) (t : Fin cfg0.N) : ℕ → Fin 128 → ℝ := querySeq (P m c) (seqOf t) (headOf t)
abbrev kSeq (c : Dev nD) (t : Fin cfg0.N) : ℕ → Fin 128 → ℝ := keySeq (P m c) (seqOf t) (headOf t)
abbrev vSeq (c : Dev nD) (t : Fin cfg0.N) (e : Fin 256) : ℕ → ℝ := valueSeq (P m c) (seqOf t) (headOf t) e

section Chunk
variable (c : Dev nD) (hF : Cert.GlaRefIdeal.Blocks.Finite (P m c) (W m c) (β m c)) (t : Fin cfg0.N)

include hF

theorem gate_entry (r d : Fin 128) : (k0_pay21 (iblk m c 4 t) (iblk m c 5 t) (iblk m c 6 t) (ix2 r d) : EReal) = ((gSeq m c t (base t + r.val) d : ℝ) : EReal) := by
  have ht := lt_256 t
  refine log_gate_entry _ _ _ r d _ (Eq.trans ?_ (Cert.GlaRefIdeal.Blocks.logit_coe (seqOf t) (headOf t) hF (base t + r.val) d))
  rw [Cert.GlaRefIdeal.Blocks.logits_at, bias_block m c t d (by omega)]
  have hi : (⟨(t.val / 128 * 32 + t.val % 32) * 128 + r.val, by omega⟩ : Fin 8192) = rowOf (seqOf t) (base t + r.val) :=
    Fin.ext (by show (t.val / 128 * 32 + t.val % 32) * 128 + r.val = t.val / 128 * 4096 + (128 * (t.val % 32) + r.val) % 4096; omega)
  refine congrArg₂ (fun x y : EReal => x + y) (Finset.sum_congr rfl fun x _ => ?_) rfl
  rw [forget_block m c t r x (by omega), weight_block m c t x d (by omega), hi]
  rfl

theorem query_entry (r d : Fin 128) : (k0_pay29 (iblk m c 0 t) (ix2 r d) : EReal) = ((qSeq m c t (base t + r.val) d : ℝ) : EReal) := by
  have ht := lt_256 t
  rw [query_at, query_block m c t r d (by omega) (by omega)]
  refine Eq.trans ?_ (Cert.GlaRefIdeal.Blocks.query_coe (seqOf t) (headOf t) hF (base t + r.val) d)
  rw [Cert.GlaRefIdeal.Blocks.queries_at]
  refine congrArg (fun x : EReal => x * _) (congrArg (P m c) (congrArg₂ ix2 (Fin.ext ?_) (Fin.ext ?_)))
  · show (t.val / 128 * 32 + t.val % 32) * 128 + r.val = t.val / 128 * 4096 + (128 * (t.val % 32) + r.val) % 4096
    omega
  · show (112 + t.val / 32 % 4) * 128 + d.val = 14336 + (t.val / 32 % 4 * 128 + d.val)
    omega

theorem key_entry (r d : Fin 128) : (k0_pay30 (iblk m c 1 t) (ix2 r d) : EReal) = ((kSeq m c t (base t + r.val) d : ℝ) : EReal) := by
  have ht := lt_256 t
  rw [key_at, key_block m c t r d (by omega) (by omega)]
  refine Eq.trans ?_ (Cert.GlaRefIdeal.Blocks.key_coe (seqOf t) (headOf t) hF (base t + r.val) d)
  rw [Cert.GlaRefIdeal.Blocks.keys_at]
  refine congrArg (P m c) (congrArg₂ ix2 (Fin.ext ?_) (Fin.ext ?_))
  · show (t.val / 128 * 32 + t.val % 32) * 128 + r.val = t.val / 128 * 4096 + (128 * (t.val % 32) + r.val) % 4096
    omega
  · show (116 + t.val / 32 % 4) * 128 + d.val = 14848 + (t.val / 32 % 4 * 128 + d.val)
    omega

theorem value_entry (r : Fin 128) (e : Fin 256) : (iblk m c 2 t (ix2 r e) : EReal) = ((vSeq m c t e (base t + r.val) : ℝ) : EReal) := by
  have ht := lt_256 t
  rw [value_block m c t r e (by omega) (by omega)]
  refine Eq.trans ?_ (Cert.GlaRefIdeal.Blocks.value_coe (seqOf t) (headOf t) hF e (base t + r.val))
  rw [Cert.GlaRefIdeal.Blocks.values_at]
  refine congrArg (P m c) (congrArg₂ ix2 (Fin.ext ?_) (Fin.ext ?_))
  · show (t.val / 128 * 32 + t.val % 32) * 128 + r.val = t.val / 128 * 4096 + (128 * (t.val % 32) + r.val) % 4096
    omega
  · show (24 + t.val / 32 % 4) * 256 + e.val = 6144 + (t.val / 32 % 4 * 256 + e.val)
    omega

theorem chunk_decay (r d : Fin 128) : (decay (iblk m c 4 t) (iblk m c 5 t) (iblk m c 6 t) (ix2 r d) : EReal) = ((cum (fun i => gSeq m c t (base t + i) d) (r.val + 1) : ℝ) : EReal) :=
  decay_entry (iblk m c 4 t) (iblk m c 5 t) (iblk m c 6 t) (fun j d => gSeq m c t (base t + j) d) (gate_entry m c hF t) r d

omit hF in
/-- What the chunk's queries read, as the loop leaves it. -/
def acc (S : Vec Ideal S128x256 .f32) : Vec Ideal S128x256 .f32 :=
  (View.whole cc0_scratch5).readCov (Val := Elt Ideal)
    (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      (decay (iblk m c 4 t) (iblk m c 5 t) (iblk m c 6 t)) (k0_pay30 (iblk m c 1 t)) (iblk m c 2 t) S lanes rows
      ((View.whole cc0_scratch1).writes (Elt Ideal) (View.whole cc0_scratch1).junk [⟨Rect.unit ![0, 0] ![128, 128] inb_S128x128_S128x128_0_0, k0_pay31 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32)⟩])
      ((View.whole cc0_scratch2).writes (Elt Ideal) (View.whole cc0_scratch2).junk [⟨Rect.unit ![0, 0] ![128, 128] inb_S128x128_S128x128_0_0, k0_pay32 (iblk m c 0 t)⟩])
      ((View.whole cc0_scratch3).writes (Elt Ideal) (View.whole cc0_scratch3).junk [⟨Rect.unit ![0, 0] ![128, 128] inb_S128x128_S128x128_0_0, k0_pay33 (iblk m c 1 t)⟩])
      ((View.whole cc0_scratch4).writes (Elt Ideal) (View.whole cc0_scratch4).junk [⟨Rect.unit ![0, 0] ![128, 256] inb_S128x256_S128x256_0_0, k0_pay34 (iblk m c 2 t)⟩])
      ((View.whole cc0_scratch5).writes (Elt Ideal) (View.whole cc0_scratch5).junk [⟨Rect.unit ![0, 0] ![128, 256] inb_S128x256_S128x256_0_0, k0_pay35 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32) (iblk m c 0 t) S⟩])
      k0_t1_loop.trips ++ [⟨Rect.unit ![0, 0] ![128, 256] inb_S128x256_S128x256_0_0, k0_pay35 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32) (iblk m c 0 t) S⟩])
    (Rect.unit (s := S128x256) ![0, 0] ![128, 256] inb_S128x256_S128x256_0_0).toLoadRect

/-- With the state of the chunks before, every row holds what its query reads of the whole sequence. -/
theorem acc_entry (S : Vec Ideal S128x256 .f32) (hS : ∀ (d : Fin 128) (e : Fin 256), (S (ix2 d e) : EReal) = ((state (gSeq m c t) (kSeq m c t) (vSeq m c t e) (base t) d : ℝ) : EReal))
    (r : Fin 128) (e : Fin 256) :
    (acc m c t S (ix2 r e) : EReal) = ((read (gSeq m c t) (qSeq m c t) (kSeq m c t) (vSeq m c t e) (base t + r.val) : ℝ) : EReal) := by
  have hk : r.val / 16 < k0_t1_loop.trips := by rw [trips_eq]; omega
  have he : (Rect.unit (s := S128x256) ![0, 0] ![128, 256] inb_S128x256_S128x256_0_0).idx (ix2 r e) = ix2 r e := by
    funext a
    fin_cases a <;> exact Fin.ext (by simp [Rect.unit, LoadRect.idx, ix2])
  have hr : r.val = 16 * (r.val / 16) + r.val % 16 := by omega
  have hd : ∀ r d : Fin 128, (k0_pay31 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32) (ix2 r d) : EReal) = ((cum (fun i => gSeq m c t (base t + i) d) (r.val + 1) : ℝ) : EReal) := fun r d =>
    (kept_decay_at _ _ _ _ _ r d).trans (chunk_decay m c hF t r d)
  have h1 := ((pieces_read Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      (decay (iblk m c 4 t) (iblk m c 5 t) (iblk m c 6 t)) (k0_pay30 (iblk m c 1 t)) (iblk m c 2 t) S
      ((View.whole cc0_scratch1).writes (Elt Ideal) (View.whole cc0_scratch1).junk [⟨Rect.unit ![0, 0] ![128, 128] inb_S128x128_S128x128_0_0, k0_pay31 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32)⟩])
      ((View.whole cc0_scratch2).writes (Elt Ideal) (View.whole cc0_scratch2).junk [⟨Rect.unit ![0, 0] ![128, 128] inb_S128x128_S128x128_0_0, k0_pay32 (iblk m c 0 t)⟩])
      ((View.whole cc0_scratch3).writes (Elt Ideal) (View.whole cc0_scratch3).junk [⟨Rect.unit ![0, 0] ![128, 128] inb_S128x128_S128x128_0_0, k0_pay33 (iblk m c 1 t)⟩])
      ((View.whole cc0_scratch4).writes (Elt Ideal) (View.whole cc0_scratch4).junk [⟨Rect.unit ![0, 0] ![128, 256] inb_S128x256_S128x256_0_0, k0_pay34 (iblk m c 2 t)⟩])
      ((View.whole cc0_scratch5).writes (Elt Ideal) (View.whole cc0_scratch5).junk [⟨Rect.unit ![0, 0] ![128, 256] inb_S128x256_S128x256_0_0, k0_pay35 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32) (iblk m c 0 t) S⟩])
      (k0_pay31 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32)) (k0_pay32 (iblk m c 0 t)) (k0_pay33 (iblk m c 1 t)) (k0_pay34 (iblk m c 2 t))
      (View.read_writes_full (View.whole cc0_scratch1) _ inb_S128x128_S128x128_0_0 _ []) (View.read_writes_full (View.whole cc0_scratch2) _ inb_S128x128_S128x128_0_0 _ [])
      (View.read_writes_full (View.whole cc0_scratch3) _ inb_S128x128_S128x128_0_0 _ []) (View.read_writes_full (View.whole cc0_scratch4) _ inb_S128x256_S128x256_0_0 _ [])
      k0_t1_loop.trips le_rfl r e).2 ⟨r.val / 16, hk⟩ ⟨r.val % 16, by omega⟩ hk hr)
  refine Eq.trans (Eq.trans ?_ h1) ?_
  · unfold acc View.readCov
    rw [View.writes_append]
    show View.read (Elt Ideal) (View.whole cc0_scratch5) _ ((Rect.unit (s := S128x256) ![0, 0] ![128, 256] inb_S128x256_S128x256_0_0).idx (ix2 r e)) = _
    rw [he]
  have h3 : View.read (Elt Ideal) (View.whole cc0_scratch5) ((View.whole cc0_scratch5).writes (Elt Ideal) (View.whole cc0_scratch5).junk [⟨Rect.unit ![0, 0] ![128, 256] inb_S128x256_S128x256_0_0, k0_pay35 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32) (iblk m c 0 t) S⟩]) = k0_pay35 (k0_pay22 (F := Ideal)) (k0_pay25 (iblk m c 4 t) (iblk m c 5 t) (iblk m c 6 t)) (k0_pay26 (iblk m c 4 t) (iblk m c 5 t) (iblk m c 6 t)) (k0_pay27 (iblk m c 4 t) (iblk m c 5 t) (iblk m c 6 t)) (constant S128x128 .f32 0x00000000#32) (iblk m c 0 t) S :=
    View.read_writes_full (View.whole cc0_scratch5) _ inb_S128x256_S128x256_0_0 _ []
  rw [Decay.read_add, EReal.coe_add]
  refine congrArg₂ (fun x y : EReal => x + y) ((congrFun h3 (ix2 r e)).trans ?_) ?_
  · exact inter_entry (iblk m c 4 t) (iblk m c 5 t) (iblk m c 6 t) (iblk m c 0 t) S r e _ _ _ (fun d => query_entry m c hF t r d) (fun d => chunk_decay m c hF t r d) (fun d => hS d e)
  · refine (intra_entry _ _ _ ⟨r.val / 16, hk⟩ _ _ _ _ (fun j d => gSeq m c t (base t + j) d) (fun j d => qSeq m c t (base t + j) d) (fun j d => kSeq m c t (base t + j) d)
      (fun j => vSeq m c t e (base t + j)) e (fun j d => Cert.GlaRefIdeal.Blocks.gateSeq_nonpos _ _ _ _ _ _ _)
      (chunk_decay m c hF t) (key_entry m c hF t) (fun x => value_entry m c hF t x e)
      hd (fun r d => (kept_query_at _ r d).trans ((query_at _ r d).symm.trans (query_entry m c hF t r d)))
      (fun r d => (kept_key_at _ r d).trans ((key_at _ r d).symm.trans (key_entry m c hF t r d)))
      (fun x => (kept_value_at _ x e).trans (value_entry m c hF t x e)) ⟨r.val % 16, by omega⟩).trans ?_
    show ((read _ _ _ _ (16 * (r.val / 16) + r.val % 16) : ℝ) : EReal) = _
    rw [← hr]

/-- The chunk's state, from the state before. -/
theorem state_next (S : Vec Ideal S128x256 .f32) (d : Fin 128) (e : Fin 256) (hS : (S (ix2 d e) : EReal) = ((state (gSeq m c t) (kSeq m c t) (vSeq m c t e) (base t) d : ℝ) : EReal)) :
    (k0_pay37 (decay (iblk m c 4 t) (iblk m c 5 t) (iblk m c 6 t)) (k0_pay30 (iblk m c 1 t)) (iblk m c 2 t) S (ix2 d e) : EReal)
      = ((state (gSeq m c t) (kSeq m c t) (vSeq m c t e) (base t + 128) d : ℝ) : EReal) :=
  state_entry _ _ _ S (gSeq m c t) (kSeq m c t) (vSeq m c t e) (base t) d e (chunk_decay m c hF t) (key_entry m c hF t) (fun x => value_entry m c hF t x e) hS

end Chunk

/-! ## The chunk before -/

theorem same_seq (t : Fin cfg0.N) (h0 : ¬ t.val % 32 = 0) (hlt : t.val - 1 < cfg0.N) : seqOf ⟨t.val - 1, hlt⟩ = seqOf t :=
  Fin.ext (by show (t.val - 1) / 128 = t.val / 128; omega)

theorem same_head (t : Fin cfg0.N) (h0 : ¬ t.val % 32 = 0) (hlt : t.val - 1 < cfg0.N) : headOf ⟨t.val - 1, hlt⟩ = headOf t :=
  Fin.ext (by show (t.val - 1) / 32 % 4 = t.val / 32 % 4; omega)

theorem base_next (t : Fin cfg0.N) (h0 : ¬ t.val % 32 = 0) (hlt : t.val - 1 < cfg0.N) : base ⟨t.val - 1, hlt⟩ + 128 = base t := by
  show 128 * ((t.val - 1) % 32) + 128 = 128 * (t.val % 32)
  omega

/-! ## The state kept from chunk to chunk -/

theorem start_entry (c : Dev nD) (t : Fin cfg0.N) (h0 : t.val % 32 = 0) (d : Fin 128) (e : Fin 256) :
    (k0_pay20 (F := Ideal) (ix2 d e) : EReal) = ((state (gSeq m c t) (kSeq m c t) (vSeq m c t e) (base t) d : ℝ) : EReal) := by
  rw [start_at]
  unfold base
  rw [h0]
  simp [state]

theorem state_kept (c : Dev nD) (hF : Cert.GlaRefIdeal.Blocks.Finite (P m c) (W m c) (β m c)) (j : ℕ) : ∀ t : Fin cfg0.N, t.val % 32 = j → ∀ (d : Fin 128) (e : Fin 256),
    ((outsAt0 m c t.val t.isLt).2 (ix2 d e) : EReal) = ((state (gSeq m c t) (kSeq m c t) (vSeq m c t e) (base t + 128) d : ℝ) : EReal) := by
  induction j with
  | zero =>
    intro t h0 d e
    rw [outsAt0_A m c t h0]
    dsimp only
    frame_out
    exact state_next m c hF t _ d e (start_entry m c t h0 d e)
  | succ j ih =>
    intro t hj d e
    have h0 : ¬ t.val % 32 = 0 := by omega
    have hlt : t.val - 1 < cfg0.N := Nat.lt_of_le_of_lt (Nat.sub_le _ _) t.isLt
    rw [outsAt0_B m c t h0]
    dsimp only
    frame_out
    rw [Idealize.ShloMosaic.read_unread_whole cc0_scratch0]
    refine state_next m c hF t _ d e ?_
    exact (ih ⟨t.val - 1, hlt⟩ (by show (t.val - 1) % 32 = j; omega) d e).trans (by unfold gSeq kSeq vSeq; rw [same_seq t h0 hlt, same_head t h0 hlt, base_next t h0 hlt])

/-- The state a chunk starts from. -/
theorem state_before (c : Dev nD) (hF : Cert.GlaRefIdeal.Blocks.Finite (P m c) (W m c) (β m c)) (t : Fin cfg0.N) (h0 : ¬ t.val % 32 = 0) (hlt : t.val - 1 < cfg0.N) (d : Fin 128) (e : Fin 256) :
    ((outsAt0 m c (t.val - 1) hlt).2 (ix2 d e) : EReal) = ((state (gSeq m c t) (kSeq m c t) (vSeq m c t e) (base t) d : ℝ) : EReal) :=
  (state_kept m c hF _ ⟨t.val - 1, hlt⟩ rfl d e).trans (by unfold gSeq kSeq vSeq; rw [same_seq t h0 hlt, same_head t h0 hlt, base_next t h0 hlt])

/-! ## A chunk's entries -/

/-- The whole attention over the launched arguments. -/
abbrev REF (c : Dev nD) : FVec Ideal Cert.GlaRefIdeal.S8192x1024 .bf16 := Cert.GlaRefIdeal.Blocks.out (P m c) (W m c) (β m c) (N m c)

/-- A chunk's entry is the reference's, at the chunk's rows and its head's lanes. -/
theorem entry_ref (c : Dev nD) (hF : Cert.GlaRefIdeal.Blocks.Finite (P m c) (W m c) (β m c)) (t : Fin cfg0.N) (S : Vec Ideal S128x256 .f32)
    (hS : ∀ (d : Fin 128) (e : Fin 256), (S (ix2 d e) : EReal) = ((state (gSeq m c t) (kSeq m c t) (vSeq m c t e) (base t) d : ℝ) : EReal))
    (r : Fin 128) (e : Fin 256) (i : Fin 8192) (hi : i.val = (t.val / 128 * 32 + t.val % 32) * 128 + r.val) (x : Fin 1024) (hx : x.val = t.val / 32 % 4 * 256 + e.val) :
    k0_pay1 (k0_pay38 (acc m c t S) (iblk m c 7 t)) (k0_pay39 (iblk m c 3 t)) (k0_pay40 (iblk m c 3 t)) (k0_pay41 (F := Ideal)) (ix2 r e) = REF m c (ix2 i x) := by
  have ht := lt_256 t
  rw [normed_at]
  refine Eq.trans ?_ (Cert.GlaRefIdeal.Blocks.out_at (P m c) (W m c) (β m c) (N m c) i x (seqOf t) (headOf t) ⟨t.val % 32 * 128 + r.val, by omega⟩ e
    (by show i.val / 4096 = t.val / 128; omega) (by show x.val / 256 = t.val / 32 % 4; omega) (by show i.val % 4096 = t.val % 32 * 128 + r.val; omega) (by omega)).symm
  have hb : base t + r.val = t.val % 32 * 128 + r.val := by unfold base; omega
  have ha : ∀ y : Fin 256, (acc m c t S (ix2 r y) : EReal) = Cert.GlaRefIdeal.Blocks.heads (P m c) (W m c) (β m c) (ix4 (seqOf t) ⟨t.val % 32 * 128 + r.val, by omega⟩ (headOf t) y) := fun y => by
    rw [acc_entry m c hF t S hS r y, Cert.GlaRefIdeal.Blocks.heads_at (seqOf t) (headOf t) hF, hb]
  have h1 : (⟨(t.val / 128 * 32 + t.val % 32) * 128 + r.val, by omega⟩ : Fin 8192) = i := Fin.ext hi.symm
  have h2 : (⟨(28 + t.val / 32 % 4) * 256 + e.val, by omega⟩ : Fin 15872) = ⟨7168 + x.val, by omega⟩ :=
    Fin.ext (by show (28 + t.val / 32 % 4) * 256 + e.val = 7168 + x.val; omega)
  rw [gate_block m c t r e (by omega) (by omega), h1, h2, norm_block, zero_sub]
  simp only [ha]

theorem final (c : Dev nD) (hF : Cert.GlaRefIdeal.Blocks.Finite (P m c) (W m c) (β m c)) :
    (dats m 0 c).arrAt 8 cfg0.N = REF m c := by
  refine (dats m 0 c).arrAt_eq_of_covers 8 _ (by decide +kernel) fun t _ y => ?_
  have ht := lt_256 t
  obtain ⟨r, e, rfl⟩ : ∃ (r : Fin 128) (e : Fin 256), y = ix2 r e := ⟨y 0, y 1, by blk_ext []⟩
  have href : REF m c (((View.whole main_v0).slice (win0_8.rect t)).emb (ix2 r e))
      = REF m c (ix2 (⟨(t.val / 128 * 32 + t.val % 32) * 128 + r.val, by omega⟩ : Fin 8192) (⟨t.val / 32 % 4 * 256 + e.val, by omega⟩ : Fin 1024)) := by
    blk_ext [idx t]
  blk_simp
  rw [after0_8]
  by_cases h0 : t.val % 32 = 0
  · rw [outsAt0_A m c t h0]
    dsimp only
    frame_out
    exact (entry_ref m c hF t _ (start_entry m c t h0) r e _ rfl _ rfl).trans href.symm
  · rw [outsAt0_B m c t h0]
    dsimp only
    frame_out
    rw [Idealize.ShloMosaic.read_unread_whole cc0_scratch0]
    exact (entry_ref m c hF t _ (state_before m c hF t h0 _) r e _ rfl _ rfl).trans href.symm

end Cert.GlaIdeal.Blocks
-- ==== Proof.GlaPre.lean ====
/- The gated linear attention's precondition: the queries, the keys, the values and the gates' logits are numbers. -/
module

public import proofs.«01_k».proof.Pre_finite_gla
public import proofs.«01_k».proof.Proof.SwaPre
public import proofs.«01_k».proof.Proof.GlaRef

@[expose] public section

set_option maxRecDepth 16384

noncomputable section

open Idealize.ShloMosaic Idealize.ShloMosaic.TcCoe Idealize.ShloMosaic.WordCmp

namespace Cert.Pre_finite_gla

/-- The shapes' relations hold. -/
theorem facts : Facts where
  bitsLt_bf16_f32 := by decide
  slices_S8192x15872_S8192x128_0_15616 := by decide
  bcast_S1x512_S8192x512_0_1 := by decide
  slices_S8192x15872_S8192x512_0_14336 := by decide
  shapeCasts_S8192x512_S8192x1x512 := by decide
  bcast_S_S8192x1x512 := by decide
  slices_S8192x15872_S8192x512_0_14848 := by decide
  slices_S8192x15872_S8192x1024_0_6144 := by decide
  shapeCasts_S8192x1024_S8192x2x512 := by decide
  bcast_S_S8192x2x512 := by decide
  bcast_S8192x1x512_S8192x2x512_0_1_2 := by decide
  dot_S8192x128_S128x512_S8192x512_1_0_0_1_n_n_wf := by decide

/-- What the precondition says of one index. -/
theorem read [Facts] (P : FVec Ideal S8192x15872 .bf16) (W : FVec Ideal S128x512 .bf16) (β : FVec Ideal S1x512 .f32) (n : FVec Ideal S1x256 .f32) (h : fn P W β n = fun _ => 1#1)
    (i : Fin 8192) (a : Fin 2) (d : Fin 512) :
    (Attention.IsNum (P (ix2 i ⟨14336 + d.val, by omega⟩)) ∧ Attention.IsNum (P (ix2 i ⟨14848 + d.val, by omega⟩))
      ∧ Attention.IsNum (∑ x : Fin 128, P (ix2 i ⟨15616 + x.val, by omega⟩) * W (ix2 x d) + β (ix2 0 d))) ∧ Attention.IsNum (P (ix2 i ⟨6144 + (a.val * 512 + d.val), by omega⟩)) := by
  have e : fn P W β n (ix3 i a d) = 1#1 := congrFun h _
  revert e
  pointwise [fn, fn_part1]
  rw [andi_ofBool, andi_ofBool, andi_ofBool, ofBool_eq_one_iff]
  simp only [Bool.and_eq_true, decide_eq_true_iff]
  exact fun e => ⟨⟨Cert.Pre_finite_swa.isNum_of_abs _ e.1.1.1, Cert.Pre_finite_swa.isNum_of_abs _ e.1.1.2, Cert.Pre_finite_swa.isNum_of_abs _ e.1.2⟩, Cert.Pre_finite_swa.isNum_of_abs _ e.2⟩

/-- Under the precondition the sequences the gated linear attention works on are of numbers. -/
theorem finite [Facts] (P : FVec Ideal S8192x15872 .bf16) (W : FVec Ideal S128x512 .bf16) (β : FVec Ideal S1x512 .f32) (n : FVec Ideal S1x256 .f32) (h : fn P W β n = fun _ => 1#1) :
    Cert.GlaRefIdeal.Blocks.Finite P W β where
  query i d := (read P W β n h i 0 d).1.1
  key i d := (read P W β n h i 0 d).1.2.1
  logit i d := by
    rw [Cert.GlaRefIdeal.Blocks.logits_at]
    exact (read P W β n h i 0 d).1.2.2
  value i e := by
    have he : (⟨6144 + ((⟨e.val / 512, by omega⟩ : Fin 2).val * 512 + (⟨e.val % 512, by omega⟩ : Fin 512).val), by show 6144 + (e.val / 512 * 512 + e.val % 512) < 15872; omega⟩ : Fin 15872) = ⟨6144 + e.val, by omega⟩ :=
      Fin.ext (by show 6144 + (e.val / 512 * 512 + e.val % 512) = 6144 + e.val; omega)
    rw [← he]
    exact (read P W β n h i ⟨e.val / 512, by omega⟩ ⟨e.val % 512, by omega⟩).2

end Cert.Pre_finite_gla
-- ==== Proof.lean ====
/- The certificate: for every call its frames, the naming of its mask constant, and that its kernel computes the reference. -/
module

public import proofs.«01_k».proof.Proof.Gen.SwaIdeal.Value
public import proofs.«01_k».proof.Proof.Gen.ProjIdeal.Value
public import proofs.«01_k».proof.Proof.Gen.MergeIdeal.Value
public import proofs.«01_k».proof.Proof.Gen.MobaIdeal.Value
public import proofs.«01_k».proof.Proof.Gen.SwaRefIdeal.Run
public import proofs.«01_k».proof.Proof.Gen.ProjRefIdeal.Run
public import proofs.«01_k».proof.Proof.Gen.MergeRefIdeal.Run
public import proofs.«01_k».proof.Proof.Gen.MobaRefIdeal.Run
public import proofs.«01_k».proof.Proof.SwaValue
public import proofs.«01_k».proof.Proof.SwaPre
public import proofs.«01_k».proof.Proof.ProjValue
public import proofs.«01_k».proof.Proof.MergeValue
public import proofs.«01_k».proof.Proof.MobaValue
public import proofs.«01_k».proof.Proof.MobaPre
public import proofs.«01_k».proof.Proof.GlaValue
public import proofs.«01_k».proof.Proof.GlaPre
public import Idealize.ShloMosaic.Lib.Claim
public import Idealize.ShloMosaic.Lib.Quiescent
public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Moba
public import proofs.«01_k».proof.Proof.Gen.Moba.Skeleton
public import proofs.«01_k».proof.Proof.Gen.Moba.Loops
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Loops
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.Gla
public import proofs.«01_k».proof.Proof.Gen.Gla.Skeleton
public import proofs.«01_k».proof.Proof.Gen.Gla.Loops
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Loops
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import Idealize.ShloMosaic.Adequacy
public import Idealize.ShloMosaic.Init

@[expose] public section

noncomputable section

namespace Cert.Proof

open Idealize.ShloMosaic Idealize.SL.Sem

/-! ## Swa -/

theorem quiescent_Swa : Cert.quiescent_Swa := fun m ρ _ => Cert.Swa.Gen.frame m ρ

theorem quiescent_SwaIdeal : Cert.quiescent_SwaIdeal := fun m ρ _ => Cert.SwaIdeal.Gen.frame m ρ

theorem quiescent_SwaRefIdeal : Cert.quiescent_SwaRefIdeal := fun m ρ _ =>
  (θ_run _ _ _).mono (fun r h => ⟨fun c => (h c).2, sem_eq_zero_of_no_sems rfl _⟩) (Cert.SwaRefIdeal.Value.run m ρ)

theorem quiescent_SwaIdeal_pre : Cert.quiescent_SwaIdeal_pre_finite_swa (hPre_finite_swa := Cert.Pre_finite_swa.facts) :=
  fun m ρ _ => Cert.SwaIdeal.Gen.frame m ρ

theorem quiescent_SwaRefIdeal_pre : Cert.quiescent_SwaRefIdeal_pre_finite_swa (hPre_finite_swa := Cert.Pre_finite_swa.facts) := fun m ρ _ =>
  (θ_run _ _ _).mono (fun r h => ⟨fun c => (h c).2, sem_eq_zero_of_no_sems rfl _⟩) (Cert.SwaRefIdeal.Value.run m ρ)

/-- The sliding-window attention's kernel computes the reference, of numbers as queries, keys and sinks. -/
theorem algebraic_Swa : Cert.algebraic_SwaIdeal_SwaRefIdeal_pre_finite_swa (hPre_finite_swa := Cert.Pre_finite_swa.facts) := by
  haveI := Cert.Pre_finite_swa.facts
  pair_intro
  · run_from Cert.SwaIdeal.Value.run_blocks m g
  · run_from Cert.SwaRefIdeal.Value.run m' g'
    obtain ⟨h0, h1⟩ := hagree c
    refine ((Cert.SwaRefIdeal.Window.result m' c).trans ?_).trans
      (Cert.SwaIdeal.Window.final m c (Cert.Pre_finite_swa.row_ne_top _ _ (hpre c)) (Cert.Pre_finite_swa.sink_isNum _ _ (hpre c))).symm
    rw [h0, h1]

theorem preserves_Swa : Cert.preserves_Swa_SwaIdeal := IdealRules.named_const.statement _ _ _ _ _ rfl

/-! ## Proj -/

theorem quiescent_Proj : Cert.quiescent_Proj := fun m ρ _ => Cert.Proj.Gen.frame m ρ

theorem quiescent_ProjIdeal : Cert.quiescent_ProjIdeal := fun m ρ _ => Cert.ProjIdeal.Gen.frame m ρ

theorem quiescent_ProjRefIdeal : Cert.quiescent_ProjRefIdeal := fun m ρ _ =>
  (θ_run _ _ _).mono (fun r h => ⟨fun c => (h c).2, sem_eq_zero_of_no_sems rfl _⟩) (Cert.ProjRefIdeal.Value.run m ρ)

theorem preserves_Proj : Cert.preserves_Proj_ProjIdeal := trivial

/-- The projection's kernel computes the product of its arguments. -/
theorem algebraic_Proj : Cert.algebraic_ProjIdeal_ProjRefIdeal := by
  pair_intro
  · run_from Cert.ProjIdeal.Value.run_blocks m g
  · run_from Cert.ProjRefIdeal.Value.run m' g'
    exact (Cert.ProjIdeal.Product.final m c).symm

/-! ## Merge -/

theorem quiescent_Merge : Cert.quiescent_Merge := fun m ρ _ => Cert.Merge.Gen.frame m ρ

theorem quiescent_MergeIdeal : Cert.quiescent_MergeIdeal := fun m ρ _ => Cert.MergeIdeal.Gen.frame m ρ

theorem quiescent_MergeRefIdeal : Cert.quiescent_MergeRefIdeal := fun m ρ _ =>
  (θ_run _ _ _).mono (fun r h => ⟨fun c => (h c).2.2, sem_eq_zero_of_no_sems rfl _⟩) (Cert.MergeRefIdeal.Value.run m ρ)

theorem preserves_Merge : Cert.preserves_Merge_MergeIdeal := trivial

/-- The merge's kernel computes the reference's two results. -/
theorem algebraic_Merge : Cert.algebraic_MergeIdeal_MergeRefIdeal := by
  pair_intro
  · run_from Cert.MergeIdeal.Value.run_blocks m g
  · run_from Cert.MergeRefIdeal.Value.run m' g'
    all_goals obtain ⟨h0, h1, h2, h3, h4, h5, h6, h7, h8, h9⟩ := hagree c
    · refine ((Cert.MergeRefIdeal.Rows.result0 m' c).trans ?_).trans (Cert.MergeIdeal.Rows.final0 m c).symm
      rw [h0, h1, h2, h3, h4, h5, h6, h7, h8, h9]
    · refine ((Cert.MergeRefIdeal.Rows.result1 m' c).trans ?_).trans (Cert.MergeIdeal.Rows.final1 m c).symm
      rw [h0, h1, h2, h3, h4, h5, h6, h7, h8, h9]

/-! ## Moba -/

theorem quiescent_Moba : Cert.quiescent_Moba := fun m ρ _ => Cert.Moba.Gen.frame m ρ

theorem quiescent_MobaIdeal : Cert.quiescent_MobaIdeal := fun m ρ _ => Cert.MobaIdeal.Gen.frame m ρ

theorem quiescent_MobaRefIdeal : Cert.quiescent_MobaRefIdeal := fun m ρ _ =>
  (θ_run _ _ _).mono (fun r h => ⟨fun c => (h c).2, sem_eq_zero_of_no_sems rfl _⟩) (Cert.MobaRefIdeal.Value.run m ρ)

theorem quiescent_MobaIdeal_pre : Cert.quiescent_MobaIdeal_pre_finite_moba (hPre_finite_moba := Cert.Pre_finite_moba.facts) :=
  fun m ρ _ => Cert.MobaIdeal.Gen.frame m ρ

theorem quiescent_MobaRefIdeal_pre : Cert.quiescent_MobaRefIdeal_pre_finite_moba (hPre_finite_moba := Cert.Pre_finite_moba.facts) := fun m ρ _ =>
  (θ_run _ _ _).mono (fun r h => ⟨fun c => (h c).2, sem_eq_zero_of_no_sems rfl _⟩) (Cert.MobaRefIdeal.Value.run m ρ)

/-- The block-sparse attention's kernel computes the reference, of numbers as queries and keys. -/
theorem algebraic_Moba : Cert.algebraic_MobaIdeal_MobaRefIdeal_pre_finite_moba (hPre_finite_moba := Cert.Pre_finite_moba.facts) := by
  haveI := Cert.Pre_finite_moba.facts
  pair_intro
  · run_from Cert.MobaIdeal.Value.run_blocks m g
  · run_from Cert.MobaRefIdeal.Value.run m' g'
    have h0 := hagree c
    refine ((Cert.MobaRefIdeal.Blocks.result m' c).trans ?_).trans
      (Cert.MobaIdeal.Blocks.final m c (Cert.Pre_finite_moba.read _ (hpre c))).symm
    rw [h0]

theorem preserves_Moba : Cert.preserves_Moba_MobaIdeal := IdealRules.named_const.statement _ _ _ _ _ rfl

/-! ## Gla -/

theorem quiescent_Gla : Cert.quiescent_Gla := fun m ρ _ => Cert.Gla.Gen.frame m ρ

theorem quiescent_GlaIdeal : Cert.quiescent_GlaIdeal := fun m ρ _ => Cert.GlaIdeal.Gen.frame m ρ

theorem quiescent_GlaRefIdeal : Cert.quiescent_GlaRefIdeal := fun m ρ _ =>
  (θ_run _ _ _).mono (fun r h => ⟨fun c => (h c).2, sem_eq_zero_of_no_sems rfl _⟩) (Cert.GlaRefIdeal.Value.run m ρ)

theorem quiescent_GlaIdeal_pre : Cert.quiescent_GlaIdeal_pre_finite_gla (hPre_finite_gla := Cert.Pre_finite_gla.facts) :=
  fun m ρ _ => Cert.GlaIdeal.Gen.frame m ρ

theorem quiescent_GlaRefIdeal_pre : Cert.quiescent_GlaRefIdeal_pre_finite_gla (hPre_finite_gla := Cert.Pre_finite_gla.facts) := fun m ρ _ =>
  (θ_run _ _ _).mono (fun r h => ⟨fun c => (h c).2, sem_eq_zero_of_no_sems rfl _⟩) (Cert.GlaRefIdeal.Value.run m ρ)

/-- The gated linear attention's kernel computes the reference, of numbers as queries, keys, values and gates' logits. -/
theorem algebraic_Gla : Cert.algebraic_GlaIdeal_GlaRefIdeal_pre_finite_gla (hPre_finite_gla := Cert.Pre_finite_gla.facts) := by
  haveI := Cert.Pre_finite_gla.facts
  pair_intro
  · run_from Cert.GlaIdeal.Value.run_blocks m g
  · run_from Cert.GlaRefIdeal.Value.run m' g'
    obtain ⟨h0, h1, h2, h3⟩ := hagree c
    refine ((Cert.GlaRefIdeal.Blocks.result m' c).trans ?_).trans
      (Cert.GlaIdeal.Blocks.final m c (Cert.Pre_finite_gla.finite _ _ _ _ (hpre c))).symm
    rw [h0, h1, h2, h3]

theorem preserves_Gla : Cert.preserves_Gla_GlaIdeal := trivial

theorem claim : Cert.Claim := ⟨Cert.Swa.Gen.facts, Cert.SwaIdeal.Gen.facts, Cert.SwaRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Moba.Gen.facts, Cert.MobaIdeal.Gen.facts, Cert.MobaRefIdeal.Gen.facts, Cert.Gla.Gen.facts, Cert.GlaIdeal.Gen.facts, Cert.GlaRefIdeal.Gen.facts, Cert.Pre_finite_swa.facts, Cert.Pre_finite_moba.facts, Cert.Pre_finite_gla.facts, quiescent_Swa, quiescent_SwaIdeal, quiescent_SwaIdeal_pre, quiescent_SwaRefIdeal, quiescent_SwaRefIdeal_pre, quiescent_Proj, quiescent_ProjIdeal, quiescent_ProjRefIdeal, quiescent_Merge, quiescent_MergeIdeal, quiescent_MergeRefIdeal, quiescent_Moba, quiescent_MobaIdeal, quiescent_MobaIdeal_pre, quiescent_MobaRefIdeal, quiescent_MobaRefIdeal_pre, quiescent_Gla, quiescent_GlaIdeal, quiescent_GlaIdeal_pre, quiescent_GlaRefIdeal, quiescent_GlaRefIdeal_pre, preserves_Swa, algebraic_Swa, preserves_Proj, algebraic_Proj, preserves_Merge, algebraic_Merge, preserves_Moba, algebraic_Moba, preserves_Gla, algebraic_Gla⟩

end Cert.Proof

end
